-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v55_3)) (v4 : (c : Dev Cert.KernelIdeal.nD) → Buf (Elt Ideal) ((c.tc : Thread Cert.KernelIdeal.nD Cert.KernelIdeal.τ).loc Cert.KernelIdeal.main_v55_4)) (v5 : (c : Dev Cert.KernelIdeal.nD) → Buf (Elt Ideal) ((c.tc : Thread Cert.KernelIdeal.nD Cert.KernelIdeal.τ).loc Cert.KernelIdeal.main_v55_5)) (v6 : (c : Dev Cert.KernelIdeal.nD) → Buf (Elt Ideal) ((c.tc : Thread Cert.KernelIdeal.nD Cert.KernelIdeal.τ).loc Cert.KernelIdeal.main_v55_6)) (v7 : (c : Dev Cert.KernelIdeal.nD) → Buf (Elt Ideal) ((c.tc : Thread Cert.KernelIdeal.nD Cert.KernelIdeal.τ).loc Cert.KernelIdeal.main_v55_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v55_3) = v3 c
          ∧ r.2.mem ((c.tc : Thread Cert.KernelIdeal.nD Cert.KernelIdeal.τ).loc Cert.KernelIdeal.main_v55_4) = v4 c
          ∧ r.2.mem ((c.tc : Thread Cert.KernelIdeal.nD Cert.KernelIdeal.τ).loc Cert.KernelIdeal.main_v55_5) = v5 c
          ∧ r.2.mem ((c.tc : Thread Cert.KernelIdeal.nD Cert.KernelIdeal.τ).loc Cert.KernelIdeal.main_v55_6) = v6 c
          ∧ r.2.mem ((c.tc : Thread Cert.KernelIdeal.nD Cert.KernelIdeal.τ).loc Cert.KernelIdeal.main_v55_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x40x24x576 : Shape := ⟨4, ![16, 40, 24, 576]⟩
abbrev S1 : Shape := ⟨1, ![1]⟩
abbrev S576x2x288 : Shape := ⟨3, ![576, 2, 288]⟩
abbrev S2x288 : Shape := ⟨2, ![2, 288]⟩
abbrev S2x2592x288 : Shape := ⟨3, ![2, 2592, 288]⟩
abbrev S2 : Shape := ⟨1, ![2]⟩
abbrev S4x288x576 : Shape := ⟨3, ![4, 288, 576]⟩
abbrev S576 : Shape := ⟨1, ![576]⟩
abbrev S576x288 : Shape := ⟨2, ![576, 288]⟩
abbrev S288 : Shape := ⟨1, ![288]⟩
abbrev S_ : Shape := ⟨0, ![]⟩
abbrev S1x288 : Shape := ⟨2, ![1, 288]⟩
abbrev S4x288 : Shape := ⟨2, ![4, 288]⟩
abbrev S8 : Shape := ⟨1, ![8]⟩
abbrev S16x960x576 : Shape := ⟨3, ![16, 960, 576]⟩
abbrev S2x576x288 : Shape := ⟨3, ![2, 576, 288]⟩
abbrev S1x1 : Shape := ⟨2, ![1, 1]⟩
abbrev S1x576 : Shape := ⟨2, ![1, 576]⟩
abbrev S16x2x960x288 : Shape := ⟨4, ![16, 2, 960, 288]⟩
abbrev S2x16x960x288 : Shape := ⟨4, ![2, 16, 960, 288]⟩
abbrev S16x960x288 : Shape := ⟨3, ![16, 960, 288]⟩
abbrev S1x960x576 : Shape := ⟨3, ![1, 960, 576]⟩
abbrev S1x2x960x288 : Shape := ⟨4, ![1, 2, 960, 288]⟩
abbrev S2x1x960x288 : Shape := ⟨4, ![2, 1, 960, 288]⟩
abbrev S1x960x288 : Shape := ⟨3, ![1, 960, 288]⟩
abbrev S1088x288 : Shape := ⟨2, ![1088, 288]⟩
abbrev S960x288 : Shape := ⟨2, ![960, 288]⟩
abbrev S960x576 : Shape := ⟨2, ![960, 576]⟩
abbrev S1x576x288 : Shape := ⟨3, ![1, 576, 288]⟩
abbrev S960x256 : Shape := ⟨2, ![960, 256]⟩
abbrev S256x288 : Shape := ⟨2, ![256, 288]⟩
abbrev S960x64 : Shape := ⟨2, ![960, 64]⟩
abbrev S64x288 : Shape := ⟨2, ![64, 288]⟩
abbrev S1x1x960x288 : Shape := ⟨4, ![1, 1, 960, 288]⟩
abbrev S1x288x288 : Shape := ⟨3, ![1, 288, 288]⟩
abbrev S288x288 : Shape := ⟨2, ![288, 288]⟩
abbrev S960x32 : Shape := ⟨2, ![960, 32]⟩
abbrev S32x288 : Shape := ⟨2, ![32, 288]⟩
abbrev S2x288x576 : Shape := ⟨3, ![2, 288, 576]⟩
abbrev S576x576 : Shape := ⟨2, ![576, 576]⟩
abbrev S256x576 : Shape := ⟨2, ![256, 576]⟩
abbrev S64x576 : Shape := ⟨2, ![64, 576]⟩
abbrev S1x288x576 : Shape := ⟨3, ![1, 288, 576]⟩
abbrev S288x576 : Shape := ⟨2, ![288, 576]⟩
abbrev S32x576 : Shape := ⟨2, ![32, 576]⟩
abbrev S960x1152 : Shape := ⟨2, ![960, 1152]⟩
abbrev S1152x576 : Shape := ⟨2, ![1152, 576]⟩
abbrev S960x128 : Shape := ⟨2, ![960, 128]⟩
abbrev S128x576 : Shape := ⟨2, ![128, 576]⟩

abbrev nBuf : Space → Nat
  | .hbm => 89
  | .vmem => 35
  | .smem => 1
  | _ => 0

abbrev bufTy : (tb : Table) → Fin (tcTables nBuf tb) → BufTy
  | .hbm, ⟨0, _⟩ => ⟨S16x40x24x576, .fp8e4m3⟩
  | .hbm, ⟨1, _⟩ => ⟨S1, .f32⟩
  | .hbm, ⟨2, _⟩ => ⟨S576x2x288, .fp8e4m3⟩
  | .hbm, ⟨3, _⟩ => ⟨S2x288, .f32⟩
  | .hbm, ⟨4, _⟩ => ⟨S2x288, .f32⟩
  | .hbm, ⟨5, _⟩ => ⟨S1, .f32⟩
  | .hbm, ⟨6, _⟩ => ⟨S2x2592x288, .fp8e4m3⟩
  | .hbm, ⟨7, _⟩ => ⟨S2x2592x288, .fp8e4m3⟩
  | .hbm, ⟨8, _⟩ => ⟨S2x288, .f32⟩
  | .hbm, ⟨9, _⟩ => ⟨S2x288, .f32⟩
  | .hbm, ⟨10, _⟩ => ⟨S2x288, .f32⟩
  | .hbm, ⟨11, _⟩ => ⟨S2x288, .f32⟩
  | .hbm, ⟨12, _⟩ => ⟨S2, .f32⟩
  | .hbm, ⟨13, _⟩ => ⟨S2, .f32⟩
  | .hbm, ⟨14, _⟩ => ⟨S4x288x576, .fp8e4m3⟩
  | .hbm, ⟨15, _⟩ => ⟨S576, .f32⟩
  | .hbm, ⟨16, _⟩ => ⟨S576, .f32⟩
  | .hbm, ⟨17, _⟩ => ⟨S1, .f32⟩
  | .hbm, ⟨18, _⟩ => ⟨S576x288, .fp8e4m3⟩
  | .hbm, ⟨19, _⟩ => ⟨S288, .f32⟩
  | .hbm, ⟨20, _⟩ => ⟨S288, .f32⟩
  | .hbm, ⟨21, _⟩ => ⟨S1, .f32⟩
  | .hbm, ⟨22, _⟩ => ⟨S4x288x576, .fp8e4m3⟩
  | .hbm, ⟨23, _⟩ => ⟨S576, .f32⟩
  | .hbm, ⟨24, _⟩ => ⟨S576, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1x288, .f32⟩
  | .hbm, ⟨30, _⟩ => ⟨S288, .f32⟩
  | .hbm, ⟨31, _⟩ => ⟨S288, .f32⟩
  | .hbm, ⟨32, _⟩ => ⟨S288, .f32⟩
  | .hbm, ⟨33, _⟩ => ⟨S1, .f32⟩
  | .hbm, ⟨34, _⟩ => ⟨S_, .f32⟩
  | .hbm, ⟨35, _⟩ => ⟨S1x288, .f32⟩
  | .hbm, ⟨36, _⟩ => ⟨S288, .f32⟩
  | .hbm, ⟨37, _⟩ => ⟨S288, .f32⟩
  | .hbm, ⟨38, _⟩ => ⟨S288, .f32⟩
  | .hbm, ⟨39, _⟩ => ⟨S1x288, .f32⟩
  | .hbm, ⟨40, _⟩ => ⟨S288, .f32⟩
  | .hbm, ⟨41, _⟩ => ⟨S288, .f32⟩
  | .hbm, ⟨42, _⟩ => ⟨S288, .f32⟩
  | .hbm, ⟨43, _⟩ => ⟨S1, .f32⟩
  | .hbm, ⟨44, _⟩ => ⟨S_, .f32⟩
  | .hbm, ⟨45, _⟩ => ⟨S1x288, .f32⟩
  | .hbm, ⟨46, _⟩ => ⟨S288, .f32⟩
  | .hbm, ⟨47, _⟩ => ⟨S288, .f32⟩
  | .hbm, ⟨48, _⟩ => ⟨S288, .f32⟩
  | .hbm, ⟨49, _⟩ => ⟨S1x288, .f32⟩
  | .hbm, ⟨50, _⟩ => ⟨S1x288, .f32⟩
  | .hbm, ⟨51, _⟩ => ⟨S1x288, .f32⟩
  | .hbm, ⟨52, _⟩ => ⟨S1x288, .f32⟩
  | .hbm, ⟨53, _⟩ => ⟨S4x288, .f32⟩
  | .hbm, ⟨54, _⟩ => ⟨S1x288, .f32⟩
  | .hbm, ⟨55, _⟩ => ⟨S288, .f32⟩
  | .hbm, ⟨56, _⟩ => ⟨S1x288, .f32⟩
  | .hbm, ⟨57, _⟩ => ⟨S288, .f32⟩
  | .hbm, ⟨58, _⟩ => ⟨S1x288, .f32⟩
  | .hbm, ⟨59, _⟩ => ⟨S288, .f32⟩
  | .hbm, ⟨60, _⟩ => ⟨S1x288, .f32⟩
  | .hbm, ⟨61, _⟩ => ⟨S288, .f32⟩
  | .hbm, ⟨62, _⟩ => ⟨S1x288, .f32⟩
  | .hbm, ⟨63, _⟩ => ⟨S1x288, .f32⟩
  | .hbm, ⟨64, _⟩ => ⟨S1x288, .f32⟩
  | .hbm, ⟨65, _⟩ => ⟨S1x288, .f32⟩
  | .hbm, ⟨66, _⟩ => ⟨S4x288, .f32⟩
  | .hbm, ⟨67, _⟩ => ⟨S8, .f32⟩
  | .hbm, ⟨68, _⟩ => ⟨S16x960x576, .fp8e4m3⟩
  | .hbm, ⟨69, _⟩ => ⟨S2x576x288, .fp8e4m3⟩
  | .hbm, ⟨70, _⟩ => ⟨S1x1, .f32⟩
  | .hbm, ⟨71, _⟩ => ⟨S2x288, .f32⟩
  | .hbm, ⟨72, _⟩ => ⟨S2x288, .f32⟩
  | .hbm, ⟨73, _⟩ => ⟨S1x576, .f32⟩
  | .hbm, ⟨74, _⟩ => ⟨S1x576, .f32⟩
  | .hbm, ⟨75, _⟩ => ⟨S288, .f32⟩
  | .hbm, ⟨76, _⟩ => ⟨S288, .f32⟩
  | .hbm, ⟨77, _⟩ => ⟨S1x288, .f32⟩
  | .hbm, ⟨78, _⟩ => ⟨S1x288, .f32⟩
  | .hbm, ⟨79, _⟩ => ⟨S1x576, .f32⟩
  | .hbm, ⟨80, _⟩ => ⟨S1x576, .f32⟩
  | .hbm, ⟨81, _⟩ => ⟨S16x960x576, .fp8e4m3⟩
  | .hbm, ⟨82, _⟩ => ⟨S16x960x576, .fp8e4m3⟩
  | .hbm, ⟨83, _⟩ => ⟨S16x2x960x288, .fp8e4m3⟩
  | .hbm, ⟨84, _⟩ => ⟨S2x16x960x288, .fp8e4m3⟩
  | .hbm, ⟨85, _⟩ => ⟨S2x16x960x288, .fp8e4m3⟩
  | .hbm, ⟨86, _⟩ => ⟨S16x960x288, .fp8e4m3⟩
  | .hbm, ⟨87, _⟩ => ⟨S16x960x288, .fp8e4m3⟩
  | .hbm, ⟨88, _⟩ => ⟨S16x960x288, .fp8e4m3⟩
  | .local _ .vmem, ⟨0, _⟩ => ⟨S1x960x576, .fp8e4m3⟩
  | .local _ .vmem, ⟨1, _⟩ => ⟨S1x960x576, .fp8e4m3⟩
  | .local _ .vmem, ⟨2, _⟩ => ⟨S2x576x288, .fp8e4m3⟩
  | .local _ .vmem, ⟨3, _⟩ => ⟨S2x2592x288, .fp8e4m3⟩
  | .local _ .vmem, ⟨4, _⟩ => ⟨S2x2592x288, .fp8e4m3⟩
  | .local _ .vmem, ⟨5, _⟩ => ⟨S4x288x576, .fp8e4m3⟩
  | .local _ .vmem, ⟨6, _⟩ => ⟨S576x288, .fp8e4m3⟩
  | .local _ .vmem, ⟨7, _⟩ => ⟨S4x288x576, .fp8e4m3⟩
  | .local _ .vmem, ⟨8, _⟩ => ⟨S2x288, .f32⟩
  | .local _ .vmem, ⟨9, _⟩ => ⟨S2x288, .f32⟩
  | .local _ .vmem, ⟨10, _⟩ => ⟨S4x288, .f32⟩
  | .local _ .vmem, ⟨11, _⟩ => ⟨S4x288, .f32⟩
  | .local _ .vmem, ⟨12, _⟩ => ⟨S1x576, .f32⟩
  | .local _ .vmem, ⟨13, _⟩ => ⟨S1x576, .f32⟩
  | .local _ .vmem, ⟨14, _⟩ => ⟨S1x288, .f32⟩
  | .local _ .vmem, ⟨15, _⟩ => ⟨S1x288, .f32⟩
  | .local _ .vmem, ⟨16, _⟩ => ⟨S1x576, .f32⟩
  | .local _ .vmem, ⟨17, _⟩ => ⟨S1x576, .f32⟩
  | .local _ .vmem, ⟨18, _⟩ => ⟨S1x960x576, .fp8e4m3⟩
  | .local _ .vmem, ⟨19, _⟩ => ⟨S1x960x576, .fp8e4m3⟩
  | .local _ .vmem, ⟨20, _⟩ => ⟨S1x960x576, .fp8e4m3⟩
  | .local _ .vmem, ⟨21, _⟩ => ⟨S1x960x576, .fp8e4m3⟩
  | .local _ .vmem, ⟨22, _⟩ => ⟨S1x2x960x288, .fp8e4m3⟩
  | .local _ .vmem, ⟨23, _⟩ => ⟨S1x2x960x288, .fp8e4m3⟩
  | .local _ .vmem, ⟨24, _⟩ => ⟨S2x1x960x288, .fp8e4m3⟩
  | .local _ .vmem, ⟨25, _⟩ => ⟨S2x1x960x288, .fp8e4m3⟩
  | .local _ .vmem, ⟨26, _⟩ => ⟨S2x1x960x288, .fp8e4m3⟩
  | .local _ .vmem, ⟨27, _⟩ => ⟨S2x1x960x288, .fp8e4m3⟩
  | .local _ .vmem, ⟨28, _⟩ => ⟨S1x960x288, .fp8e4m3⟩
  | .local _ .vmem, ⟨29, _⟩ => ⟨S1x960x288, .fp8e4m3⟩
  | .local _ .vmem, ⟨30, _⟩ => ⟨S1x960x288, .fp8e4m3⟩
  | .local _ .vmem, ⟨31, _⟩ => ⟨S1x960x288, .fp8e4m3⟩
  | .local _ .vmem, ⟨32, _⟩ => ⟨S1x960x288, .fp8e4m3⟩
  | .local _ .vmem, ⟨33, _⟩ => ⟨S1x960x288, .fp8e4m3⟩
  | .local _ .vmem, ⟨34, _⟩ => ⟨S1088x288, .f32⟩
  | .local _ .smem, ⟨0, _⟩ => ⟨S8, .f32⟩
  | _, _ => ⟨S16x40x24x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55_0 : Ref sig .tc := ⟨.hbm, 81, rfl⟩
abbrev main_v55_1 : Ref sig .tc := ⟨.hbm, 82, rfl⟩
abbrev main_v55_2 : Ref sig .tc := ⟨.hbm, 83, rfl⟩
abbrev main_v55_3 : Ref sig .tc := ⟨.hbm, 84, rfl⟩
abbrev main_v55_4 : Ref sig .tc := ⟨.hbm, 85, rfl⟩
abbrev main_v55_5 : Ref sig .tc := ⟨.hbm, 86, rfl⟩
abbrev main_v55_6 : Ref sig .tc := ⟨.hbm, 87, rfl⟩
abbrev main_v55_7 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg18_0 : Ref sig .tc := ⟨.vmem, 18, rfl⟩
abbrev cc0_stg18_1 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_scratch0 : Ref sig .tc := ⟨.vmem, 34, rfl⟩
abbrev cc0_stg17_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x960x576 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x576x288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2592x288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2592x288 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x288x576 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S576x288 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x288x576 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x288 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x288 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x288 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x576 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x576 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x288 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x288 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x576 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x576 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .smem S8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x960x576 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x960x576 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x2x960x288 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x1x960x288 .fp8e4m3 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x1x960x288 .fp8e4m3 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x960x288 .fp8e4m3 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x960x288 .fp8e4m3 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x960x288 .fp8e4m3 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferenceIdeal.lean ====
abbrev S16x40x24x576 : Shape := ⟨4, ![16, 40, 24, 576]⟩
abbrev S1 : Shape := ⟨1, ![1]⟩
abbrev S576x2x288 : Shape := ⟨3, ![576, 2, 288]⟩
abbrev S2x288 : Shape := ⟨2, ![2, 288]⟩
abbrev S2x2592x288 : Shape := ⟨3, ![2, 2592, 288]⟩
abbrev S2 : Shape := ⟨1, ![2]⟩
abbrev S4x288x576 : Shape := ⟨3, ![4, 288, 576]⟩
abbrev S576 : Shape := ⟨1, ![576]⟩
abbrev S576x288 : Shape := ⟨2, ![576, 288]⟩
abbrev S288 : Shape := ⟨1, ![288]⟩
abbrev S16x960x576 : Shape := ⟨3, ![16, 960, 576]⟩
abbrev S16x2x960x288 : Shape := ⟨4, ![16, 2, 960, 288]⟩
abbrev S2x16x960x288 : Shape := ⟨4, ![2, 16, 960, 288]⟩
abbrev S16x960x288 : Shape := ⟨3, ![16, 960, 288]⟩
abbrev S576x1x288 : Shape := ⟨3, ![576, 1, 288]⟩
abbrev S15360x576 : Shape := ⟨2, ![15360, 576]⟩
abbrev S15360x288 : Shape := ⟨2, ![15360, 288]⟩
abbrev S16x40x24x288 : Shape := ⟨4, ![16, 40, 24, 288]⟩
abbrev S1x288 : Shape := ⟨2, ![1, 288]⟩
abbrev S1x1x1x288 : Shape := ⟨4, ![1, 1, 1, 288]⟩
abbrev S1x1x1x1 : Shape := ⟨4, ![1, 1, 1, 1]⟩
abbrev S16x1x960x288 : Shape := ⟨4, ![16, 1, 960, 288]⟩
abbrev S1x2592x288 : Shape := ⟨3, ![1, 2592, 288]⟩
abbrev S2592x288 : Shape := ⟨2, ![2592, 288]⟩
abbrev S16x1x24x288 : Shape := ⟨4, ![16, 1, 24, 288]⟩
abbrev S16x41x24x288 : Shape := ⟨4, ![16, 41, 24, 288]⟩
abbrev S16x42x24x288 : Shape := ⟨4, ![16, 42, 24, 288]⟩
abbrev S16x42x1x288 : Shape := ⟨4, ![16, 42, 1, 288]⟩
abbrev S16x42x25x288 : Shape := ⟨4, ![16, 42, 25, 288]⟩
abbrev S16x42x26x288 : Shape := ⟨4, ![16, 42, 26, 288]⟩
abbrev S288x288 : Shape := ⟨2, ![288, 288]⟩
abbrev S1x16x960x288 : Shape := ⟨4, ![1, 16, 960, 288]⟩
abbrev S1x288x576 : Shape := ⟨3, ![1, 288, 576]⟩
abbrev S288x576 : Shape := ⟨2, ![288, 576]⟩
abbrev S1x1x1x576 : Shape := ⟨4, ![1, 1, 1, 576]⟩
abbrev S16x2x24x288 : Shape := ⟨4, ![16, 2, 24, 288]⟩
abbrev S16x44x24x288 : Shape := ⟨4, ![16, 44, 24, 288]⟩
abbrev S16x44x2x288 : Shape := ⟨4, ![16, 44, 2, 288]⟩
abbrev S16x44x26x288 : Shape := ⟨4, ![16, 44, 26, 288]⟩
abbrev S16x44x28x288 : Shape := ⟨4, ![16, 44, 28, 288]⟩
abbrev S16x40x28x288 : Shape := ⟨4, ![16, 40, 28, 288]⟩

abbrev nBuf : Space → Nat
  | .hbm => 34
  | .vmem => 34
  | .smem => 0
  | _ => 0

abbrev bufTy : (tb : Table) → Fin (tcTables nBuf tb) → BufTy
  | .hbm, ⟨0, _⟩ => ⟨S16x40x24x576, .fp8e4m3⟩
  | .hbm, ⟨1, _⟩ => ⟨S1, .f32⟩
  | .hbm, ⟨2, _⟩ => ⟨S576x2x288, .fp8e4m3⟩
  | .hbm, ⟨3, _⟩ => ⟨S2x288, .f32⟩
  | .hbm, ⟨4, _⟩ => ⟨S2x288, .f32⟩
  | .hbm, ⟨5, _⟩ => ⟨S1, .f32⟩
  | .hbm, ⟨6, _⟩ => ⟨S2x2592x288, .fp8e4m3⟩
  | .hbm, ⟨7, _⟩ => ⟨S2x2592x288, .fp8e4m3⟩
  | .hbm, ⟨8, _⟩ => ⟨S2x288, .f32⟩
  | .hbm, ⟨9, _⟩ => ⟨S2x288, .f32⟩
  | .hbm, ⟨10, _⟩ => ⟨S2x288, .f32⟩
  | .hbm, ⟨11, _⟩ => ⟨S2x288, .f32⟩
  | .hbm, ⟨12, _⟩ => ⟨S2, .f32⟩
  | .hbm, ⟨13, _⟩ => ⟨S2, .f32⟩
  | .hbm, ⟨14, _⟩ => ⟨S4x288x576, .fp8e4m3⟩
  | .hbm, ⟨15, _⟩ => ⟨S576, .f32⟩
  | .hbm, ⟨16, _⟩ => ⟨S576, .f32⟩
  | .hbm, ⟨17, _⟩ => ⟨S1, .f32⟩
  | .hbm, ⟨18, _⟩ => ⟨S576x288, .fp8e4m3⟩
  | .hbm, ⟨19, _⟩ => ⟨S288, .f32⟩
  | .hbm, ⟨20, _⟩ => ⟨S288, .f32⟩
  | .hbm, ⟨21, _⟩ => ⟨S1, .f32⟩
  | .hbm, ⟨22, _⟩ => ⟨S4x288x576, .fp8e4m3⟩
  | .hbm, ⟨23, _⟩ => ⟨S576, .f32⟩
  | .hbm, ⟨24, _⟩ => ⟨S576, .f32⟩
  | .hbm, ⟨25, _⟩ => ⟨S1, .f32⟩
  | .hbm, ⟨26, _⟩ => ⟨S16x960x576, .fp8e4m3⟩
  | .hbm, ⟨27, _⟩ => ⟨S16x960x576, .fp8e4m3⟩
  | .hbm, ⟨28, _⟩ => ⟨S16x2x960x288, .fp8e4m3⟩
  | .hbm, ⟨29, _⟩ => ⟨S2x16x960x288, .fp8e4m3⟩
  | .hbm, ⟨30, _⟩ => ⟨S2x16x960x288, .fp8e4m3⟩
  | .hbm, ⟨31, _⟩ => ⟨S16x960x288, .fp8e4m3⟩
  | .hbm, ⟨32, _⟩ => ⟨S16x960x288, .fp8e4m3⟩
  | .hbm, ⟨33, _⟩ => ⟨S16x960x288, .fp8e4m3⟩
  | .local _ .vmem, ⟨0, _⟩ => ⟨S16x40x24x576, .fp8e4m3⟩
  | .local _ .vmem, ⟨1, _⟩ => ⟨S1, .f32⟩
  | .local _ .vmem, ⟨2, _⟩ => ⟨S576x2x288, .fp8e4m3⟩
  | .local _ .vmem, ⟨3, _⟩ => ⟨S2x288, .f32⟩
  | .local _ .vmem, ⟨4, _⟩ => ⟨S2x288, .f32⟩
  | .local _ .vmem, ⟨5, _⟩ => ⟨S1, .f32⟩
  | .local _ .vmem, ⟨6, _⟩ => ⟨S2x2592x288, .fp8e4m3⟩
  | .local _ .vmem, ⟨7, _⟩ => ⟨S2x2592x288, .fp8e4m3⟩
  | .local _ .vmem, ⟨8, _⟩ => ⟨S2x288, .f32⟩
  | .local _ .vmem, ⟨9, _⟩ => ⟨S2x288, .f32⟩
  | .local _ .vmem, ⟨10, _⟩ => ⟨S2x288, .f32⟩
  | .local _ .vmem, ⟨11, _⟩ => ⟨S2x288, .f32⟩
  | .local _ .vmem, ⟨12, _⟩ => ⟨S2, .f32⟩
  | .local _ .vmem, ⟨13, _⟩ => ⟨S2, .f32⟩
  | .local _ .vmem, ⟨14, _⟩ => ⟨S4x288x576, .fp8e4m3⟩
  | .local _ .vmem, ⟨15, _⟩ => ⟨S576, .f32⟩
  | .local _ .vmem, ⟨16, _⟩ => ⟨S576, .f32⟩
  | .local _ .vmem, ⟨17, _⟩ => ⟨S1, .f32⟩
  | .local _ .vmem, ⟨18, _⟩ => ⟨S576x288, .fp8e4m3⟩
  | .local _ .vmem, ⟨19, _⟩ => ⟨S288, .f32⟩
  | .local _ .vmem, ⟨20, _⟩ => ⟨S288, .f32⟩
  | .local _ .vmem, ⟨21, _⟩ => ⟨S1, .f32⟩
  | .local _ .vmem, ⟨22, _⟩ => ⟨S4x288x576, .fp8e4m3⟩
  | .local _ .vmem, ⟨23, _⟩ => ⟨S576, .f32⟩
  | .local _ .vmem, ⟨24, _⟩ => ⟨S576, .f32⟩
  | .local _ .vmem, ⟨25, _⟩ => ⟨S1, .f32⟩
  | .local _ .vmem, ⟨26, _⟩ => ⟨S16x960x576, .fp8e4m3⟩
  | .local _ .vmem, ⟨27, _⟩ => ⟨S16x960x576, .fp8e4m3⟩
  | .local _ .vmem, ⟨28, _⟩ => ⟨S16x2x960x288, .fp8e4m3⟩
  | .local _ .vmem, ⟨29, _⟩ => ⟨S2x16x960x288, .fp8e4m3⟩
  | .local _ .vmem, ⟨30, _⟩ => ⟨S2x16x960x288, .fp8e4m3⟩
  | .local _ .vmem, ⟨31, _⟩ => ⟨S16x960x288, .fp8e4m3⟩
  | .local _ .vmem, ⟨32, _⟩ => ⟨S16x960x288, .fp8e4m3⟩
  | .local _ .vmem, ⟨33, _⟩ => ⟨S16x960x288, .fp8e4m3⟩
  | _, _ => ⟨S16x40x24x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0_0 : Ref sig .tc := ⟨.hbm, 26, rfl⟩
abbrev main_v0_1 : Ref sig .tc := ⟨.hbm, 27, rfl⟩
abbrev main_v0_2 : Ref sig .tc := ⟨.hbm, 28, rfl⟩
abbrev main_v0_3 : Ref sig .tc := ⟨.hbm, 29, rfl⟩
abbrev main_v0_4 : Ref sig .tc := ⟨.hbm, 30, rfl⟩
abbrev main_v0_5 : Ref sig .tc := ⟨.hbm, 31, rfl⟩
abbrev main_v0_6 : Ref sig .tc := ⟨.hbm, 32, rfl⟩
abbrev main_v0_7 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33

abbrev nD : Nat := 1
abbrev τ : Topo := Topo.v7x

variable {F : FTy → Type} [FloatOps F]

abbrev grid0 : Pipeline.Grid := .none

abbrev stage0_0 : Fin 1 → Memref sig .tc .vmem S16x40x24x576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x2x288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2592x288 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2592x288 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x288 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x288 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x288 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x288 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x288x576 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S576 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S576 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S576x288 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S288 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S288 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x288x576 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S576 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S576 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S16x960x576 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S16x960x576 .fp8e4m3 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S16x2x960x288 .fp8e4m3 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x16x960x288 .fp8e4m3 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x16x960x288 .fp8e4m3 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S16x960x288 .fp8e4m3 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S16x960x288 .fp8e4m3 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S16x960x288 .fp8e4m3 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
-- ==== Proof.K.RunA.lean ====
/- GENERATED, UNTRUSTED: the whole-body RUN of `proofs.«01_k».proof.Kernel`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) :
    Σ' (L18 : List (View.Piece (Elt F) S1x960x576 .fp8e4m3)), Σ' (L19 : List (View.Piece (Elt F) S1x960x576 .fp8e4m3)), Σ' (L20 : List (View.Piece (Elt F) S1x2x960x288 .fp8e4m3)), Σ' (L21 : List (View.Piece (Elt F) S2x1x960x288 .fp8e4m3)), Σ' (L22 : List (View.Piece (Elt F) S2x1x960x288 .fp8e4m3)), Σ' (L23 : List (View.Piece (Elt F) S1x960x288 .fp8e4m3)), Σ' (L24 : List (View.Piece (Elt F) S1x960x288 .fp8e4m3)), Σ' (L25 : List (View.Piece (Elt F) S1x960x288 .fp8e4m3)), { LT0 : List (View.Piece (Elt F) S1088x288 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LT0)) -∗ K ⟨⟩))
          ⊢ wp frame (wpE (defs₀ (F := F)) Variants.none c none) E (cc0_c2f_sppf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_c2f_sppf_eq_skeleton]; unfold cc0_c2f_sppf_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.Kernel.Gen

end
-- ==== Proof.K.Frame.lean ====
/- GENERATED, UNTRUSTED: the FRAME CERTIFICATE of `proofs.«01_k».proof.Kernel`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame`) and `Gen.frame` — the frame claim at any `F`: Proof.lean is
   `theorem Cert.Proof.claim : Cert.Claim := ⟨Gen.facts, fun m ρ _ => Gen.frame m ρ⟩`.
   CLASS R (one case, 1 scratch operand, scratch `arg27` posted (its store pieces named, `LT·`, in the run of each case that posts it)): the certificate is whole here — not class A: the kernel takes operands the pipeline does not stage (scratch, semaphores, tables, arrays left in HBM). DO NOT EDIT. -/
module

public import proofs.«01_k».proof.Proof.K.RunA
public import Idealize.ShloMosaic.Lib.Claim

@[expose] public section

set_option maxHeartbeats 4000000
-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 18 tile its block (1 store of `S1x960x576`, checked by the kernel's evaluation: Lib/Ring.lean `Piece.tiledL`, linear in the pieces, through a loop's `@[irreducible]` trip theorem too), so they cover it. -/
theorem cover0_A_18 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x576.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1 S1x960x576.size (by sl_kernel_rfl) y

/-- What the run leaves in output 18's staging buffer: its pieces read back over junk. -/
def out0_A_18 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x576 .fp8e4m3 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1)

/-- The run's pieces for output 19 tile its block (1 store of `S1x960x576`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x576.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1 S1x960x576.size (by sl_kernel_rfl) y

/-- What the run leaves in output 19's staging buffer: its pieces read back over junk. -/
def out0_A_19 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x576 .fp8e4m3 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1)

/-- The run's pieces for output 20 tile its block (2 stores of `S1x1x960x288`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x2x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1 S1x1x960x288.size (by sl_kernel_rfl) y

/-- What the run leaves in output 20's staging buffer: its pieces read back over junk. -/
def out0_A_20 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x2x960x288 .fp8e4m3 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1)

/-- The run's pieces for output 21 tile its block (2 stores of `S1x1x960x288`, checked by the kernel's evaluation: Lib/Ring.lean `Piece.tiledL`, linear in the pieces, through a loop's `@[irreducible]` trip theorem too), so they cover it. -/
theorem cover0_A_21 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S2x1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1 S1x1x960x288.size (by sl_kernel_rfl) y

/-- What the run leaves in output 21's staging buffer: its pieces read back over junk. -/
def out0_A_21 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S2x1x960x288 .fp8e4m3 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1)

/-- The run's pieces for output 22 tile its block (2 stores of `S1x1x960x288`, checked by the kernel's evaluation: Lib/Ring.lean `Piece.tiledL`, linear in the pieces, through a loop's `@[irreducible]` trip theorem too), so they cover it. -/
theorem cover0_A_22 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S2x1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1 S1x1x960x288.size (by sl_kernel_rfl) y

/-- What the run leaves in output 22's staging buffer: its pieces read back over junk. -/
def out0_A_22 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S2x1x960x288 .fp8e4m3 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1)

/-- The run's pieces for output 23 tile its block (1 store of `S1x960x288`, checked by the kernel's evaluation: Lib/Ring.lean `Piece.tiledL`, linear in the pieces, through a loop's `@[irreducible]` trip theorem too), so they cover it. -/
theorem cover0_A_23 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1 S1x960x288.size (by sl_kernel_rfl) y

/-- What the run leaves in output 23's staging buffer: its pieces read back over junk. -/
def out0_A_23 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x288 .fp8e4m3 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1)

/-- The run's pieces for output 24 tile its block (1 store of `S1x960x288`, checked by the kernel's evaluation: Lib/Ring.lean `Piece.tiledL`, linear in the pieces, through a loop's `@[irreducible]` trip theorem too), so they cover it. -/
theorem cover0_A_24 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1 S1x960x288.size (by sl_kernel_rfl) y

/-- What the run leaves in output 24's staging buffer: its pieces read back over junk. -/
def out0_A_24 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x288 .fp8e4m3 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1)

/-- The run's pieces for output 25 tile its block (1 store of `S1x960x288`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1 S1x960x288.size (by sl_kernel_rfl) y

/-- What the run leaves in output 25's staging buffer: its pieces read back over junk. -/
def out0_A_25 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x288 .fp8e4m3 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x960x576 .fp8e4m3 × Vec F S1x960x576 .fp8e4m3 × Vec F S1x2x960x288 .fp8e4m3 × Vec F S2x1x960x288 .fp8e4m3 × Vec F S2x1x960x288 .fp8e4m3 × Vec F S1x960x288 .fp8e4m3 × Vec F S1x960x288 .fp8e4m3 × Vec F S1x960x288 .fp8e4m3 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2.1
    | ⟨21, _⟩ => (outsAt0 m c t).2.2.2.1
    | ⟨22, _⟩ => (outsAt0 m c t).2.2.2.2.1
    | ⟨23, _⟩ => (outsAt0 m c t).2.2.2.2.2.1
    | ⟨24, _⟩ => (outsAt0 m c t).2.2.2.2.2.2.1
    | ⟨25, _⟩ => (outsAt0 m c t).2.2.2.2.2.2.2
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2.1 := by dsimp only [dats]
theorem after0_21 (c : Dev nD) (t : Fin cfg0.N) : (dats m 0 c).after 21 t = (outsAt0 m c t).2.2.2.1 := by dsimp only [dats]
theorem after0_22 (c : Dev nD) (t : Fin cfg0.N) : (dats m 0 c).after 22 t = (outsAt0 m c t).2.2.2.2.1 := by dsimp only [dats]
theorem after0_23 (c : Dev nD) (t : Fin cfg0.N) : (dats m 0 c).after 23 t = (outsAt0 m c t).2.2.2.2.2.1 := by dsimp only [dats]
theorem after0_24 (c : Dev nD) (t : Fin cfg0.N) : (dats m 0 c).after 24 t = (outsAt0 m c t).2.2.2.2.2.2.1 := by dsimp only [dats]
theorem after0_25 (c : Dev nD) (t : Fin cfg0.N) : (dats m 0 c).after 25 t = (outsAt0 m c t).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold outsAt0
  unfold out0_A_18 out0_A_19 out0_A_20 out0_A_21 out0_A_22 out0_A_23 out0_A_24 out0_A_25; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0) :=
  θ_run_and (unchanged m ρ) ((θ_run defs _ _).mono (fun _ h => h.2) (run_main_quiescent m ρ))

end Cert.Kernel.Gen

end
-- ==== Proof.KI.RunA.lean ====
/- GENERATED, UNTRUSTED: the whole-body RUN of `proofs.«01_k».proof.KernelIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) :
    Σ' (L18 : List (View.Piece (Elt F) S1x960x576 .fp8e4m3)), Σ' (L19 : List (View.Piece (Elt F) S1x960x576 .fp8e4m3)), Σ' (L20 : List (View.Piece (Elt F) S1x2x960x288 .fp8e4m3)), Σ' (L21 : List (View.Piece (Elt F) S2x1x960x288 .fp8e4m3)), Σ' (L22 : List (View.Piece (Elt F) S2x1x960x288 .fp8e4m3)), Σ' (L23 : List (View.Piece (Elt F) S1x960x288 .fp8e4m3)), Σ' (L24 : List (View.Piece (Elt F) S1x960x288 .fp8e4m3)), Σ' (L25 : List (View.Piece (Elt F) S1x960x288 .fp8e4m3)), { LT0 : List (View.Piece (Elt F) S1088x288 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LT0)) -∗ K ⟨⟩))
          ⊢ wp frame (wpE (defs₀ (F := F)) Variants.none c none) E (cc0_c2f_sppf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_c2f_sppf_eq_skeleton]; unfold cc0_c2f_sppf_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.KernelIdeal.Gen

end
-- ==== Proof.KI.Frame.lean ====
/- GENERATED, UNTRUSTED: the FRAME CERTIFICATE of `proofs.«01_k».proof.KernelIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame`) and `Gen.frame` — the frame claim at any `F`: Proof.lean is
   `theorem Cert.Proof.claim : Cert.Claim := ⟨Gen.facts, fun m ρ _ => Gen.frame m ρ⟩`.
   CLASS R (one case, 1 scratch operand, scratch `arg27` posted (its store pieces named, `LT·`, in the run of each case that posts it)): the certificate is whole here — not class A: the kernel takes operands the pipeline does not stage (scratch, semaphores, tables, arrays left in HBM). DO NOT EDIT. -/
module

public import proofs.«01_k».proof.Proof.KI.RunA
public import Idealize.ShloMosaic.Lib.Claim

@[expose] public section

set_option maxHeartbeats 4000000
-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 18 tile its block (1 store of `S1x960x576`, checked by the kernel's evaluation: Lib/Ring.lean `Piece.tiledL`, linear in the pieces, through a loop's `@[irreducible]` trip theorem too), so they cover it. -/
theorem cover0_A_18 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x576.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1 S1x960x576.size (by sl_kernel_rfl) y

/-- What the run leaves in output 18's staging buffer: its pieces read back over junk. -/
def out0_A_18 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x576 .fp8e4m3 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1)

/-- The run's pieces for output 19 tile its block (1 store of `S1x960x576`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x576.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1 S1x960x576.size (by sl_kernel_rfl) y

/-- What the run leaves in output 19's staging buffer: its pieces read back over junk. -/
def out0_A_19 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x576 .fp8e4m3 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1)

/-- The run's pieces for output 20 tile its block (2 stores of `S1x1x960x288`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x2x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1 S1x1x960x288.size (by sl_kernel_rfl) y

/-- What the run leaves in output 20's staging buffer: its pieces read back over junk. -/
def out0_A_20 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x2x960x288 .fp8e4m3 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1)

/-- The run's pieces for output 21 tile its block (2 stores of `S1x1x960x288`, checked by the kernel's evaluation: Lib/Ring.lean `Piece.tiledL`, linear in the pieces, through a loop's `@[irreducible]` trip theorem too), so they cover it. -/
theorem cover0_A_21 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S2x1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1 S1x1x960x288.size (by sl_kernel_rfl) y

/-- What the run leaves in output 21's staging buffer: its pieces read back over junk. -/
def out0_A_21 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S2x1x960x288 .fp8e4m3 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1)

/-- The run's pieces for output 22 tile its block (2 stores of `S1x1x960x288`, checked by the kernel's evaluation: Lib/Ring.lean `Piece.tiledL`, linear in the pieces, through a loop's `@[irreducible]` trip theorem too), so they cover it. -/
theorem cover0_A_22 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S2x1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1 S1x1x960x288.size (by sl_kernel_rfl) y

/-- What the run leaves in output 22's staging buffer: its pieces read back over junk. -/
def out0_A_22 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S2x1x960x288 .fp8e4m3 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1)

/-- The run's pieces for output 23 tile its block (1 store of `S1x960x288`, checked by the kernel's evaluation: Lib/Ring.lean `Piece.tiledL`, linear in the pieces, through a loop's `@[irreducible]` trip theorem too), so they cover it. -/
theorem cover0_A_23 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1 S1x960x288.size (by sl_kernel_rfl) y

/-- What the run leaves in output 23's staging buffer: its pieces read back over junk. -/
def out0_A_23 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x288 .fp8e4m3 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1)

/-- The run's pieces for output 24 tile its block (1 store of `S1x960x288`, checked by the kernel's evaluation: Lib/Ring.lean `Piece.tiledL`, linear in the pieces, through a loop's `@[irreducible]` trip theorem too), so they cover it. -/
theorem cover0_A_24 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1 S1x960x288.size (by sl_kernel_rfl) y

/-- What the run leaves in output 24's staging buffer: its pieces read back over junk. -/
def out0_A_24 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x288 .fp8e4m3 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1)

/-- The run's pieces for output 25 tile its block (1 store of `S1x960x288`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) (y : S1x960x288.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1 S1x960x288.size (by sl_kernel_rfl) y

/-- What the run leaves in output 25's staging buffer: its pieces read back over junk. -/
def out0_A_25 (c : Dev nD) (i : grid0.Coords) (arg1 : Memref sig .tc .vmem S1x960x576 .fp8e4m3) (harg1 : arg1.IsWhole) (arg2 : Memref sig .tc .vmem S2x576x288 .fp8e4m3) (harg2 : arg2.IsWhole) (arg3 : Memref sig .tc .vmem S2x2592x288 .fp8e4m3) (harg3 : arg3.IsWhole) (arg4 : Memref sig .tc .vmem S2x2592x288 .fp8e4m3) (harg4 : arg4.IsWhole) (arg5 : Memref sig .tc .vmem S4x288x576 .fp8e4m3) (harg5 : arg5.IsWhole) (arg6 : Memref sig .tc .vmem S576x288 .fp8e4m3) (harg6 : arg6.IsWhole) (arg7 : Memref sig .tc .vmem S4x288x576 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S4x288 .f32) (harg10 : arg10.IsWhole) (arg11 : Memref sig .tc .vmem S4x288 .f32) (harg11 : arg11.IsWhole) (arg12 : Memref sig .tc .vmem S1x576 .f32) (harg12 : arg12.IsWhole) (arg13 : Memref sig .tc .vmem S1x576 .f32) (harg13 : arg13.IsWhole) (arg14 : Memref sig .tc .vmem S1x288 .f32) (harg14 : arg14.IsWhole) (arg15 : Memref sig .tc .vmem S1x288 .f32) (harg15 : arg15.IsWhole) (arg16 : Memref sig .tc .vmem S1x576 .f32) (harg16 : arg16.IsWhole) (arg17 : Memref sig .tc .vmem S1x576 .f32) (harg17 : arg17.IsWhole) (arg18 : Memref sig .tc .smem S8 .f32) (harg18 : arg18.IsWhole) (arg19 : Memref sig .tc .vmem S1x960x576 .fp8e4m3) (harg19 : arg19.IsWhole) (arg20 : Memref sig .tc .vmem S1x960x576 .fp8e4m3) (harg20 : arg20.IsWhole) (arg21 : Memref sig .tc .vmem S1x2x960x288 .fp8e4m3) (harg21 : arg21.IsWhole) (arg22 : Memref sig .tc .vmem S2x1x960x288 .fp8e4m3) (harg22 : arg22.IsWhole) (arg23 : Memref sig .tc .vmem S2x1x960x288 .fp8e4m3) (harg23 : arg23.IsWhole) (arg24 : Memref sig .tc .vmem S1x960x288 .fp8e4m3) (harg24 : arg24.IsWhole) (arg25 : Memref sig .tc .vmem S1x960x288 .fp8e4m3) (harg25 : arg25.IsWhole) (arg26 : Memref sig .tc .vmem S1x960x288 .fp8e4m3) (harg26 : arg26.IsWhole) (arg27 : Memref sig .tc .vmem S1088x288 .f32) (harg27 : arg27.IsWhole)
    (x0 : Vec F S1x960x576 .fp8e4m3) (x1 : Vec F S2x576x288 .fp8e4m3) (x2 : Vec F S2x2592x288 .fp8e4m3) (x3 : Vec F S2x2592x288 .fp8e4m3) (x4 : Vec F S4x288x576 .fp8e4m3) (x5 : Vec F S576x288 .fp8e4m3) (x6 : Vec F S4x288x576 .fp8e4m3) (x7 : Vec F S2x288 .f32) (x8 : Vec F S2x288 .f32) (x9 : Vec F S4x288 .f32) (x10 : Vec F S4x288 .f32) (x11 : Vec F S1x576 .f32) (x12 : Vec F S1x576 .f32) (x13 : Vec F S1x288 .f32) (x14 : Vec F S1x288 .f32) (x15 : Vec F S1x576 .f32) (x16 : Vec F S1x576 .f32) (x17 : Vec F S8 .f32) : Vec F S1x960x288 .fp8e4m3 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x960x576 .fp8e4m3 × Vec F S1x960x576 .fp8e4m3 × Vec F S1x2x960x288 .fp8e4m3 × Vec F S2x1x960x288 .fp8e4m3 × Vec F S2x1x960x288 .fp8e4m3 × Vec F S1x960x288 .fp8e4m3 × Vec F S1x960x288 .fp8e4m3 × Vec F S1x960x288 .fp8e4m3 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2.1
    | ⟨21, _⟩ => (outsAt0 m c t).2.2.2.1
    | ⟨22, _⟩ => (outsAt0 m c t).2.2.2.2.1
    | ⟨23, _⟩ => (outsAt0 m c t).2.2.2.2.2.1
    | ⟨24, _⟩ => (outsAt0 m c t).2.2.2.2.2.2.1
    | ⟨25, _⟩ => (outsAt0 m c t).2.2.2.2.2.2.2
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2.1 := by dsimp only [dats]
theorem after0_21 (c : Dev nD) (t : Fin cfg0.N) : (dats m 0 c).after 21 t = (outsAt0 m c t).2.2.2.1 := by dsimp only [dats]
theorem after0_22 (c : Dev nD) (t : Fin cfg0.N) : (dats m 0 c).after 22 t = (outsAt0 m c t).2.2.2.2.1 := by dsimp only [dats]
theorem after0_23 (c : Dev nD) (t : Fin cfg0.N) : (dats m 0 c).after 23 t = (outsAt0 m c t).2.2.2.2.2.1 := by dsimp only [dats]
theorem after0_24 (c : Dev nD) (t : Fin cfg0.N) : (dats m 0 c).after 24 t = (outsAt0 m c t).2.2.2.2.2.2.1 := by dsimp only [dats]
theorem after0_25 (c : Dev nD) (t : Fin cfg0.N) : (dats m 0 c).after 25 t = (outsAt0 m c t).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold outsAt0
  unfold out0_A_18 out0_A_19 out0_A_20 out0_A_21 out0_A_22 out0_A_23 out0_A_24 out0_A_25; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0) :=
  θ_run_and (unchanged m ρ) ((θ_run defs _ _).mono (fun _ h => h.2) (run_main_quiescent m ρ))

end Cert.KernelIdeal.Gen

end
-- ==== Proof.KI.Value.lean ====
/- The VALUE LEG of proofs.«01_k».proof.KernelIdeal's certificate (Lib/Pipeline/Value.lean) for this class-R kernel, in two forms. BLOCKWISE,
   whatever its body computes: `run_blocks` is the frame run `Gen.run_main` with each output array after the run NAMED
   (`(Gen.dats …).arrAt w N`), and per output window `w`: `flushed_w` — what grid point `t` would write back is the
   run's contents for the window (`Gen.outsAtK`) read through the block —, per case `flushed_w_κ` — at a point of that case,
   the case's NAMED TERM (`Gen.outK_κ_W`: its pieces read back; for an output the case reads back, over what the point
   before left) —, when the index map is injective (decided) `disjoint_w` / `blocks_w` — block `t` of the final array
   IS what point `t` wrote —, `entry_w` — an index no block covers keeps the region-entry
   contents. The ACCUMULATED form (`run`: each output array one function of the arguments) is NOT written for this
   kernel:
   one case, written back at every point: nothing accumulates, the blockwise form is the whole statement.
   The certificate's hand proof unfolds the named terms `flushed_w_κ` cites and sets `run_blocks` beside the
   reference's run. -/
module

public import proofs.«01_k».proof.Proof.KI.Frame
public import Idealize.ShloMosaic.Lib.Pipeline.Value

@[expose] public section

set_option maxHeartbeats 4000000

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 18's array: the run's contents for that window after the body (`Gen.outsAt0`: its component 0), read through the window's block. -/
theorem flushed18 (c : Dev nD) (t : Fin cfg0.N) :
    (dats m 0 c).flushed 18 t = (cfg0.win 18).cut (grid0.coords t) ((outsAt0 m c t).1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed18, outsAt0]

/-- The index map sends distinct grid points to distinct block indices (decided over the 16 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S16x960x576.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 1), read through the window's block. -/
theorem flushed19 (c : Dev nD) (t : Fin cfg0.N) :
    (dats m 0 c).flushed 19 t = (cfg0.win 19).cut (grid0.coords t) ((outsAt0 m c t).2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed19, outsAt0]

/-- The index map sends distinct grid points to distinct block indices (decided over the 16 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S16x960x576.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 2), read through the window's block. -/
theorem flushed20 (c : Dev nD) (t : Fin cfg0.N) :
    (dats m 0 c).flushed 20 t = (cfg0.win 20).cut (grid0.coords t) ((outsAt0 m c t).2.2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed20, outsAt0]

/-- The index map sends distinct grid points to distinct block indices (decided over the 16 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S16x2x960x288.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the run's contents for that window after the body (`Gen.outsAt0`: its component 3), read through the window's block. -/
theorem flushed21 (c : Dev nD) (t : Fin cfg0.N) :
    (dats m 0 c).flushed 21 t = (cfg0.win 21).cut (grid0.coords t) ((outsAt0 m c t).2.2.2.1) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed21, outsAt0]

/-- The index map sends distinct grid points to distinct block indices (decided over the 16 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S2x16x960x288.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the run's contents for that window after the body (`Gen.outsAt0`: its component 4), read through the window's block. -/
theorem flushed22 (c : Dev nD) (t : Fin cfg0.N) :
    (dats m 0 c).flushed 22 t = (cfg0.win 22).cut (grid0.coords t) ((outsAt0 m c t).2.2.2.2.1) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed22, outsAt0]

/-- The index map sends distinct grid points to distinct block indices (decided over the 16 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S2x16x960x288.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the run's contents for that window after the body (`Gen.outsAt0`: its component 5), read through the window's block. -/
theorem flushed23 (c : Dev nD) (t : Fin cfg0.N) :
    (dats m 0 c).flushed 23 t = (cfg0.win 23).cut (grid0.coords t) ((outsAt0 m c t).2.2.2.2.2.1) := by
  show (cfg0.win 23).cut (grid0.coords t) ((dats m 0 c).after 23 t) = _
  rw [after0_23]

/-- … so at a point where case A runs, what its write-back would write is that case's NAMED TERM for the window (`Gen.out0_A_23`: the pieces
    its run found, read back) at the point's memrefs and input blocks, and for an output the case reads back what the point before left (`Gen.outsAt0` at `t - 1`) — the kernel's one case, `Gen.outsAt0` by definition. -/
theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed23, outsAt0]

/-- The index map sends distinct grid points to distinct block indices (decided over the 16 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S16x960x288.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the run's contents for that window after the body (`Gen.outsAt0`: its component 6), read through the window's block. -/
theorem flushed24 (c : Dev nD) (t : Fin cfg0.N) :
    (dats m 0 c).flushed 24 t = (cfg0.win 24).cut (grid0.coords t) ((outsAt0 m c t).2.2.2.2.2.2.1) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — the kernel's one case, `Gen.outsAt0` by definition. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed24, outsAt0]

/-- The index map sends distinct grid points to distinct block indices (decided over the 16 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S16x960x288.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the run's contents for that window after the body (`Gen.outsAt0`: its component 7), read through the window's block. -/
theorem flushed25 (c : Dev nD) (t : Fin cfg0.N) :
    (dats m 0 c).flushed 25 t = (cfg0.win 25).cut (grid0.coords t) ((outsAt0 m c t).2.2.2.2.2.2.2) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed25, outsAt0]

/-- The index map sends distinct grid points to distinct block indices (decided over the 16 points). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S16x960x288.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v55_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v55_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v55_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v55_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v55_4) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v55_5) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v55_6) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v55_7) = (dats m 0 c).arrAt 25 cfg0.N :=
  (h c).1 25

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 8 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 8).trans (((dats m 0 c).arrAt_in 8 rfl _).trans ((A_eq m c 8).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 2 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 2).trans (((dats m 0 c).arrAt_in 2 rfl _).trans ((A_eq m c 2).trans (V_main_arg6 m c)))

/-- After the frame run, argument `main_arg7` is as launched: input window 3 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 3).trans (((dats m 0 c).arrAt_in 3 rfl _).trans ((A_eq m c 3).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: input window 4 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 4).trans (((dats m 0 c).arrAt_in 4 rfl _).trans ((A_eq m c 4).trans (V_main_arg14 m c)))

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: input window 5 stages it and never writes it back. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 5).trans (((dats m 0 c).arrAt_in 5 rfl _).trans ((A_eq m c 5).trans (V_main_arg18 m c)))

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: input window 6 stages it and never writes it back. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).1 6).trans (((dats m 0 c).arrAt_in 6 rfl _).trans ((A_eq m c 6).trans (V_main_arg22 m c)))

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- After the frame run, argument `main_arg25` is as launched: no window stages it, and the run leaves the region's other buffers as they were. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

set_option maxHeartbeats 222440 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v55_0) = (dats m 0 c).arrAt 18 cfg0.N
      ∧ r.2.mem ((c : Thread nD τ).loc main_v55_1) = (dats m 0 c).arrAt 19 cfg0.N
      ∧ r.2.mem ((c : Thread nD τ).loc main_v55_2) = (dats m 0 c).arrAt 20 cfg0.N
      ∧ r.2.mem ((c : Thread nD τ).loc main_v55_3) = (dats m 0 c).arrAt 21 cfg0.N
      ∧ r.2.mem ((c : Thread nD τ).loc main_v55_4) = (dats m 0 c).arrAt 22 cfg0.N
      ∧ r.2.mem ((c : Thread nD τ).loc main_v55_5) = (dats m 0 c).arrAt 23 cfg0.N
      ∧ r.2.mem ((c : Thread nD τ).loc main_v55_6) = (dats m 0 c).arrAt 24 cfg0.N
      ∧ r.2.mem ((c : Thread nD τ).loc main_v55_7) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨post18 m r h c,
      post19 m r h c,
      post20 m r h c,
      post21 m r h c,
      post22 m r h c,
      post23 m r h c,
      post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c⟩)
    (run_main m ρ)

end Cert.KernelIdeal.Value

end
-- ==== Proof.RI.Frame.lean ====
/- — @main up to its one region (`Gen.hmain`, over Lib/Pipeline/Frame.lean), the arrays' contents there (`Gen.V`,
   `Gen.V_<arg>`: each argument array as launched), each window's block at a point (`Gen.iblk`), and `Gen.frame_of`:
   the frame claim's post from any proof data's `FramePost` run; and, the kernel being of
   CLASS A (loads and covering stores through literal rectangles, nothing of its own), the whole certificate: what
   each output's buffer holds after the body (`Gen.outK_W`, the canon of its stores over the input blocks), the body's
   triple by `sl_exec` (`Gen.sound_kernel`), the proof data (`Gen.dats`), the body obligation, the run (`Gen.run_main`,
   `θ_run_frame`) and `Gen.frame` — the frame claim at any `F`: Proof.lean is
   `theorem Cert.Proof.claim : Cert.Claim := ⟨Gen.facts, fun m ρ _ => Gen.frame m ρ⟩`.
   CLASS A: the certificate is whole here. DO NOT EDIT. -/
module

public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxHeartbeats 4000000
-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl
theorem V_main_arg24 (c : Dev nD) : V m c main_arg24 = m ((c : Thread nD τ).loc main_arg24) := rfl
theorem V_main_arg25 (c : Dev nD) : V m c main_arg25 = m ((c : Thread nD τ).loc main_arg25) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2040000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ReferenceIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c))),
      ((h c).1 21).trans (((dats 0 c).arrAt_in 21 rfl _).trans ((hA c 21).trans (V_main_arg21 m c))),
      ((h c).1 22).trans (((dats 0 c).arrAt_in 22 rfl _).trans ((hA c 22).trans (V_main_arg22 m c))),
      ((h c).1 23).trans (((dats 0 c).arrAt_in 23 rfl _).trans ((hA c 23).trans (V_main_arg23 m c))),
      ((h c).1 24).trans (((dats 0 c).arrAt_in 24 rfl _).trans ((hA c 24).trans (V_main_arg24 m c))),
      ((h c).1 25).trans (((dats 0 c).arrAt_in 25 rfl _).trans ((hA c 25).trans (V_main_arg25 m c)))⟩) h

/-! ## The body's accesses -/

abbrev r0_0 : Rect S1 := Rect.unit (s := S1) ![0] S1.size inb_S1_S1_0
abbrev r0_1 : Rect S16x40x24x576 := Rect.unit (s := S16x40x24x576) ![0, 0, 0, 0] S16x40x24x576.size inb_S16x40x24x576_S16x40x24x576_0_0_0_0
abbrev r0_2 : Rect S576x2x288 := Rect.unit (s := S576x2x288) ![0, 0, 0] S576x1x288.size inb_S576x2x288_S576x1x288_0_0_0
abbrev r0_3 : Rect S2x288 := Rect.unit (s := S2x288) ![0, 0] S1x288.size inb_S2x288_S1x288_0_0
abbrev r0_4 : Rect S16x2x960x288 := Rect.unit (s := S16x2x960x288) ![0, 0, 0, 0] S16x1x960x288.size inb_S16x2x960x288_S16x1x960x288_0_0_0_0
abbrev r0_5 : Rect S576x2x288 := Rect.unit (s := S576x2x288) ![0, 1, 0] S576x1x288.size inb_S576x2x288_S576x1x288_0_1_0
abbrev r0_6 : Rect S2x288 := Rect.unit (s := S2x288) ![1, 0] S1x288.size inb_S2x288_S1x288_1_0
abbrev r0_7 : Rect S16x2x960x288 := Rect.unit (s := S16x2x960x288) ![0, 1, 0, 0] S16x1x960x288.size inb_S16x2x960x288_S16x1x960x288_0_1_0_0
abbrev r0_8 : Rect S2x2592x288 := Rect.unit (s := S2x2592x288) ![0, 0, 0] S1x2592x288.size inb_S2x2592x288_S1x2592x288_0_0_0
abbrev r0_9 : Rect S2 := Rect.unit (s := S2) ![0] S1.size inb_S2_S1_0
abbrev r0_10 : Rect S2x16x960x288 := Rect.unit (s := S2x16x960x288) ![0, 0, 0, 0] S1x16x960x288.size inb_S2x16x960x288_S1x16x960x288_0_0_0_0
abbrev r0_11 : Rect S2x2592x288 := Rect.unit (s := S2x2592x288) ![1, 0, 0] S1x2592x288.size inb_S2x2592x288_S1x2592x288_1_0_0
abbrev r0_12 : Rect S2 := Rect.unit (s := S2) ![1] S1.size inb_S2_S1_1
abbrev r0_13 : Rect S2x16x960x288 := Rect.unit (s := S2x16x960x288) ![1, 0, 0, 0] S1x16x960x288.size inb_S2x16x960x288_S1x16x960x288_1_0_0_0
abbrev r0_14 : Rect S4x288x576 := Rect.unit (s := S4x288x576) ![0, 0, 0] S1x288x576.size inb_S4x288x576_S1x288x576_0_0_0
abbrev r0_15 : Rect S4x288x576 := Rect.unit (s := S4x288x576) ![1, 0, 0] S1x288x576.size inb_S4x288x576_S1x288x576_1_0_0
abbrev r0_16 : Rect S4x288x576 := Rect.unit (s := S4x288x576) ![2, 0, 0] S1x288x576.size inb_S4x288x576_S1x288x576_2_0_0
abbrev r0_17 : Rect S4x288x576 := Rect.unit (s := S4x288x576) ![3, 0, 0] S1x288x576.size inb_S4x288x576_S1x288x576_3_0_0
abbrev r0_18 : Rect S576 := Rect.unit (s := S576) ![0] S576.size inb_S576_S576_0
abbrev r0_19 : Rect S16x960x576 := Rect.unit (s := S16x960x576) ![0, 0, 0] S16x960x576.size inb_S16x960x576_S16x960x576_0_0_0
abbrev r0_20 : Rect S576x288 := Rect.unit (s := S576x288) ![0, 0] S576x288.size inb_S576x288_S576x288_0_0
abbrev r0_21 : Rect S288 := Rect.unit (s := S288) ![0] S288.size inb_S288_S288_0
abbrev r0_22 : Rect S16x960x288 := Rect.unit (s := S16x960x288) ![0, 0, 0] S16x960x288.size inb_S16x960x288_S16x960x288_0_0_0

/-! ## What the body leaves in each output window's buffer -/

/-! ### Values of the body that the stores' payloads, spelt out, would write more than once

    Each is a vector the body binds (often a part call's result), stated over the input windows' blocks and
    numbered on from the skeleton's payload functions (`k0_pay53` …, after `k0_pay52`), so that
    `out0_W` and the values after it name it instead of spelling it out (`unfold_out out0_W` opens a canon
    with them, `unfold_payloads` opens them with the payloads); the comment after each is the printed function's
    name for the value (a count appended where that name is bound again). -/

def k0_pay53 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x24x288 .fp8e4m3 :=
  k0_pay4 (View.ld x5 r0_0) (View.ld x0 r0_1) (View.ld x2 r0_5) (View.ld x1 r0_0) (View.ld x3 r0_6) (View.ld x4 r0_6) -- `v62`
def k0_pay54 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S2592x288 .fp8e4m3 :=
  k0_pay6 (View.ld x6 r0_8) -- `v68`
def k0_pay55 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x42x24x288 .f32 :=
  k0_pay8 (View.ld x5 r0_0) (View.ld x0 r0_1) (View.ld x2 r0_5) (View.ld x1 r0_0) (View.ld x3 r0_6) (View.ld x4 r0_6) -- `v74`
def k0_pay56 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x42x26x288 .fp8e4m3 :=
  k0_pay9 (k0_pay7 (F := F)) (k0_pay55 x0 x1 x2 x3 x4 x5 x6 x7 x8 x9 x10 x11 x12 x13 x14 x15 x16 x17 x18 x19 x20 x21 x22 x23 x24 x25) -- `v79`
def k0_pay57 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x24x288 .f32 :=
  k0_pay10 (k0_pay54 x0 x1 x2 x3 x4 x5 x6 x7 x8 x9 x10 x11 x12 x13 x14 x15 x16 x17 x18 x19 x20 x21 x22 x23 x24 x25) (k0_pay7 (F := F)) (k0_pay55 x0 x1 x2 x3 x4 x5 x6 x7 x8 x9 x10 x11 x12 x13 x14 x15 x16 x17 x18 x19 x20 x21 x22 x23 x24 x25) -- `v126`
def k0_pay58 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x24x288 .f32 :=
  k0_pay15 (k0_pay12 (View.ld x7 r0_8)) (k0_pay13 (View.ld x5 r0_0) (k0_pay54 x0 x1 x2 x3 x4 x5 x6 x7 x8 x9 x10 x11 x12 x13 x14 x15 x16 x17 x18 x19 x20 x21 x22 x23 x24 x25) (k0_pay56 x0 x1 x2 x3 x4 x5 x6 x7 x8 x9 x10 x11 x12 x13 x14 x15 x16 x17 x18 x19 x20 x21 x22 x23 x24 x25) (k0_pay57 x0 x1 x2 x3 x4 x5 x6 x7 x8 x9 x10 x11 x12 x13 x14 x15 x16 x17 x18 x19 x20 x21 x22 x23 x24 x25) (View.ld x8 r0_3) (View.ld x10 r0_3) (View.ld x12 r0_9)) (k0_pay14 (View.ld x5 r0_0) (k0_pay54 x0 x1 x2 x3 x4 x5 x6 x7 x8 x9 x10 x11 x12 x13 x14 x15 x16 x17 x18 x19 x20 x21 x22 x23 x24 x25) (k0_pay56 x0 x1 x2 x3 x4 x5 x6 x7 x8 x9 x10 x11 x12 x13 x14 x15 x16 x17 x18 x19 x20 x21 x22 x23 x24 x25) (k0_pay57 x0 x1 x2 x3 x4 x5 x6 x7 x8 x9 x10 x11 x12 x13 x14 x15 x16 x17 x18 x19 x20 x21 x22 x23 x24 x25) (View.ld x8 r0_3) (View.ld x10 r0_3) (View.ld x12 r0_9) (View.ld x7 r0_8)) -- `v221`
def k0_pay59 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S288 .f32 :=
  k0_pay16 (View.ld x9 r0_3) -- `v223`
def k0_pay60 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x24x288 .fp8e4m3 :=
  k0_pay17 (View.ld x5 r0_0) (k0_pay53 x0 x1 x2 x3 x4 x5 x6 x7 x8 x9 x10 x11 x12 x13 x14 x15 x16 x17 x18 x19 x20 x21 x22 x23 x24 x25) (View.ld x12 r0_9) (k0_pay58 x0 x1 x2 x3 x4 x5 x6 x7 x8 x9 x10 x11 x12 x13 x14 x15 x16 x17 x18 x19 x20 x21 x22 x23 x24 x25) (k0_pay59 x0 x1 x2 x3 x4 x5 x6 x7 x8 x9 x10 x11 x12 x13 x14 x15 x16 x17 x18 x19 x20 x21 x22 x23 x24 x25) (View.ld x11 r0_3) (View.ld x13 r0_9) -- `v249`
def k0_pay61 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S2592x288 .fp8e4m3 :=
  k0_pay20 (View.ld x6 r0_11) -- `v259`
def k0_pay62 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x41x24x288 .f32 :=
  k0_pay22 (View.ld x5 r0_0) (k0_pay53 x0 x1 x2 x3 x4 x5 x6 x7 x8 x9 x10 x11 x12 x13 x14 x15 x16 x17 x18 x19 x20 x21 x22 x23 x24 x25) (View.ld x12 r0_9) (k0_pay58 x0 x1 x2 x3 x4 x5 x6 x7 x8 x9 x10 x11 x12 x13 x14 x15 x16 x17 x18 x19 x20 x21 x22 x23 x24 x25) (k0_pay59 x0 x1 x2 x3 x4 x5 x6 x7 x8 x9 x10 x11 x12 x13 x14 x15 x16 x17 x18 x19 x20 x21 x22 x23 x24 x25) (View.ld x11 r0_3) (View.ld x13 r0_9) -- `v263`
def k0_pay63 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x1x24x288 .f32 :=
  k0_pay23 (F := F) -- `v264`
def k0_pay64 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x42x26x288 .fp8e4m3 :=
  k0_pay24 (k0_pay21 (F := F)) (k0_pay62 x0 x1 x2 x3 x4 x5 x6 x7 x8 x9 x10 x11 x12 x13 x14 x15 x16 x17 x18 x19 x20 x21 x22 x23 x24 x25) (k0_pay63 x0 x1 x2 x3 x4 x5 x6 x7 x8 x9 x10 x11 x12 x13 x14 x15 x16 x17 x18 x19 x20 x21 x22 x23 x24 x25) -- `v270`
def k0_pay65 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x24x288 .f32 :=
  k0_pay25 (k0_pay61 x0 x1 x2 x3 x4 x5 x6 x7 x8 x9 x10 x11 x12 x13 x14 x15 x16 x17 x18 x19 x20 x21 x22 x23 x24 x25) (k0_pay21 (F := F)) (k0_pay62 x0 x1 x2 x3 x4 x5 x6 x7 x8 x9 x10 x11 x12 x13 x14 x15 x16 x17 x18 x19 x20 x21 x22 x23 x24 x25) (k0_pay63 x0 x1 x2 x3 x4 x5 x6 x7 x8 x9 x10 x11 x12 x13 x14 x15 x16 x17 x18 x19 x20 x21 x22 x23 x24 x25) -- `v311`
def k0_pay66 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x24x288 .f32 :=
  k0_pay26 (k0_pay61 x0 x1 x2 x3 x4 x5 x6 x7 x8 x9 x10 x11 x12 x13 x14 x15 x16 x17 x18 x19 x20 x21 x22 x23 x24 x25) (k0_pay21 (F := F)) (k0_pay62 x0 x1 x2 x3 x4 x5 x6 x7 x8 x9 x10 x11 x12 x13 x14 x15 x16 x17 x18 x19 x20 x21 x22 x23 x24 x25) (k0_pay63 x0 x1 x2 x3 x4 x5 x6 x7 x8 x9 x10 x11 x12 x13 x14 x15 x16 x17 x18 x19 x20 x21 x22 x23 x24 x25) -- `v316`
def k0_pay67 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x24x288 .f32 :=
  k0_pay31 (k0_pay28 (View.ld x7 r0_11)) (k0_pay29 (View.ld x13 r0_9) (k0_pay61 x0 x1 x2 x3 x4 x5 x6 x7 x8 x9 x10 x11 x12 x13 x14 x15 x16 x17 x18 x19 x20 x21 x22 x23 x24 x25) (k0_pay64 x0 x1 x2 x3 x4 x5 x6 x7 x8 x9 x10 x11 x12 x13 x14 x15 x16 x17 x18 x19 x20 x21 x22 x23 x24 x25) (k0_pay65 x0 x1 x2 x3 x4 x5 x6 x7 x8 x9 x10 x11 x12 x13 x14 x15 x16 x17 x18 x19 x20 x21 x22 x23 x24 x25) (k0_pay66 x0 x1 x2 x3 x4 x5 x6 x7 x8 x9 x10 x11 x12 x13 x14 x15 x16 x17 x18 x19 x20 x21 x22 x23 x24 x25) (View.ld x8 r0_6) (View.ld x10 r0_6) (View.ld x12 r0_12)) (k0_pay30 (View.ld x13 r0_9) (k0_pay61 x0 x1 x2 x3 x4 x5 x6 x7 x8 x9 x10 x11 x12 x13 x14 x15 x16 x17 x18 x19 x20 x21 x22 x23 x24 x25) (k0_pay64 x0 x1 x2 x3 x4 x5 x6 x7 x8 x9 x10 x11 x12 x13 x14 x15 x16 x17 x18 x19 x20 x21 x22 x23 x24 x25) (k0_pay65 x0 x1 x2 x3 x4 x5 x6 x7 x8 x9 x10 x11 x12 x13 x14 x15 x16 x17 x18 x19 x20 x21 x22 x23 x24 x25) (k0_pay66 x0 x1 x2 x3 x4 x5 x6 x7 x8 x9 x10 x11 x12 x13 x14 x15 x16 x17 x18 x19 x20 x21 x22 x23 x24 x25) (View.ld x8 r0_6) (View.ld x10 r0_6) (View.ld x12 r0_12) (View.ld x7 r0_11)) -- `v412`
def k0_pay68 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x24x576 .f32 :=
  k0_pay36 (View.ld x5 r0_0) (k0_pay53 x0 x1 x2 x3 x4 x5 x6 x7 x8 x9 x10 x11 x12 x13 x14 x15 x16 x17 x18 x19 x20 x21 x22 x23 x24 x25) (View.ld x13 r0_9) (k0_pay60 x0 x1 x2 x3 x4 x5 x6 x7 x8 x9 x10 x11 x12 x13 x14 x15 x16 x17 x18 x19 x20 x21 x22 x23 x24 x25) (View.ld x13 r0_12) (k0_pay32 (View.ld x13 r0_9) (k0_pay60 x0 x1 x2 x3 x4 x5 x6 x7 x8 x9 x10 x11 x12 x13 x14 x15 x16 x17 x18 x19 x20 x21 x22 x23 x24 x25) (View.ld x12 r0_12) (k0_pay67 x0 x1 x2 x3 x4 x5 x6 x7 x8 x9 x10 x11 x12 x13 x14 x15 x16 x17 x18 x19 x20 x21 x22 x23 x24 x25) (View.ld x9 r0_6) (View.ld x11 r0_6) (View.ld x13 r0_12)) (k0_pay35 (k0_pay2 (View.ld x5 r0_0) (View.ld x0 r0_1) (View.ld x2 r0_2) (View.ld x1 r0_0) (View.ld x3 r0_3) (View.ld x4 r0_3)) (View.ld x14 r0_14)) (View.ld x14 r0_15) (View.ld x14 r0_16) (View.ld x14 r0_17) (View.ld x15 r0_18) (View.ld x16 r0_18) (View.ld x17 r0_0) -- `v496`
def k0_pay69 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x24x576 .f32 :=
  k0_pay37 (F := F) -- `v497`
def k0_pay70 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x44x28x288 .f32 :=
  k0_pay42 (k0_pay68 x0 x1 x2 x3 x4 x5 x6 x7 x8 x9 x10 x11 x12 x13 x14 x15 x16 x17 x18 x19 x20 x21 x22 x23 x24 x25) (k0_pay69 x0 x1 x2 x3 x4 x5 x6 x7 x8 x9 x10 x11 x12 x13 x14 x15 x16 x17 x18 x19 x20 x21 x22 x23 x24 x25) (View.ld x18 r0_20) (View.ld x17 r0_0) (View.ld x19 r0_21) (View.ld x20 r0_21) (View.ld x21 r0_0) -- `v538`
def k0_pay71 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x40x28x288 .f32 :=
  k0_pay43 (k0_pay68 x0 x1 x2 x3 x4 x5 x6 x7 x8 x9 x10 x11 x12 x13 x14 x15 x16 x17 x18 x19 x20 x21 x22 x23 x24 x25) (k0_pay69 x0 x1 x2 x3 x4 x5 x6 x7 x8 x9 x10 x11 x12 x13 x14 x15 x16 x17 x18 x19 x20 x21 x22 x23 x24 x25) (View.ld x18 r0_20) (View.ld x17 r0_0) (View.ld x19 r0_21) (View.ld x20 r0_21) (View.ld x21 r0_0) -- `v539`
def k0_pay72 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x44x24x288 .f32 :=
  k0_pay47 (k0_pay70 x0 x1 x2 x3 x4 x5 x6 x7 x8 x9 x10 x11 x12 x13 x14 x15 x16 x17 x18 x19 x20 x21 x22 x23 x24 x25) (k0_pay71 x0 x1 x2 x3 x4 x5 x6 x7 x8 x9 x10 x11 x12 x13 x14 x15 x16 x17 x18 x19 x20 x21 x22 x23 x24 x25) -- `v592`
def k0_pay73 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : FVec F S16x44x2x288 .f32 :=
  k0_pay48 (F := F) -- `v593`

/-- Window 26's staging buffer after the body, from the input windows' blocks: its 1 store as pieces, LAST
    FIRST (Lib/Pipeline/FrameBody.lean `View.canon`; the payloads are the skeleton's and the values stated above). -/
def out0_26 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : Vec F S16x960x576 .fp8e4m3 :=
  View.canon [⟨r0_19, k0_pay39 (k0_pay68 x0 x1 x2 x3 x4 x5 x6 x7 x8 x9 x10 x11 x12 x13 x14 x15 x16 x17 x18 x19 x20 x21 x22 x23 x24 x25) (k0_pay69 x0 x1 x2 x3 x4 x5 x6 x7 x8 x9 x10 x11 x12 x13 x14 x15 x16 x17 x18 x19 x20 x21 x22 x23 x24 x25)⟩]

/-- Its stores tile the buffer (checked by evaluation), so they cover it. -/
theorem cover0_26 (p0 : Vec F S16x960x576 .fp8e4m3) (y : S16x960x576.Idx) :
    ∃ pc ∈ ([⟨r0_19, p0⟩] : List (View.Piece (Elt F) S16x960x576 .fp8e4m3)), y ∈ pc.1.set :=
  View.cover_of_tiled [⟨r0_19, p0⟩] S16x960x576.size (by rfl) y

/-- Window 27's staging buffer after the body, from the input windows' blocks: its 1 store as pieces, LAST
    FIRST (Lib/Pipeline/FrameBody.lean `View.canon`; the payloads are the skeleton's and the values stated above). -/
def out0_27 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : Vec F S16x960x576 .fp8e4m3 :=
  View.canon [⟨r0_19, k0_pay1 (k0_pay49 (Scalar.ofBits .f32 0xFF800000#32) (k0_pay72 x0 x1 x2 x3 x4 x5 x6 x7 x8 x9 x10 x11 x12 x13 x14 x15 x16 x17 x18 x19 x20 x21 x22 x23 x24 x25) (k0_pay73 x0 x1 x2 x3 x4 x5 x6 x7 x8 x9 x10 x11 x12 x13 x14 x15 x16 x17 x18 x19 x20 x21 x22 x23 x24 x25)) (View.ld x21 r0_0) (k0_pay51 (k0_pay40 (k0_pay68 x0 x1 x2 x3 x4 x5 x6 x7 x8 x9 x10 x11 x12 x13 x14 x15 x16 x17 x18 x19 x20 x21 x22 x23 x24 x25) (k0_pay69 x0 x1 x2 x3 x4 x5 x6 x7 x8 x9 x10 x11 x12 x13 x14 x15 x16 x17 x18 x19 x20 x21 x22 x23 x24 x25) (View.ld x18 r0_20) (View.ld x17 r0_0) (View.ld x19 r0_21) (View.ld x20 r0_21) (View.ld x21 r0_0)) (k0_pay44 (k0_pay70 x0 x1 x2 x3 x4 x5 x6 x7 x8 x9 x10 x11 x12 x13 x14 x15 x16 x17 x18 x19 x20 x21 x22 x23 x24 x25) (k0_pay71 x0 x1 x2 x3 x4 x5 x6 x7 x8 x9 x10 x11 x12 x13 x14 x15 x16 x17 x18 x19 x20 x21 x22 x23 x24 x25)) (View.ld x22 r0_14) (View.ld x22 r0_15)) (k0_pay52 (k0_pay46 (k0_pay70 x0 x1 x2 x3 x4 x5 x6 x7 x8 x9 x10 x11 x12 x13 x14 x15 x16 x17 x18 x19 x20 x21 x22 x23 x24 x25) (k0_pay71 x0 x1 x2 x3 x4 x5 x6 x7 x8 x9 x10 x11 x12 x13 x14 x15 x16 x17 x18 x19 x20 x21 x22 x23 x24 x25)) (View.ld x22 r0_16)) (View.ld x22 r0_17) (View.ld x23 r0_18) (View.ld x24 r0_18) (View.ld x25 r0_0)⟩]

/-- Its stores tile the buffer (checked by evaluation), so they cover it. -/
theorem cover0_27 (p0 : Vec F S16x960x576 .fp8e4m3) (y : S16x960x576.Idx) :
    ∃ pc ∈ ([⟨r0_19, p0⟩] : List (View.Piece (Elt F) S16x960x576 .fp8e4m3)), y ∈ pc.1.set :=
  View.cover_of_tiled [⟨r0_19, p0⟩] S16x960x576.size (by rfl) y

/-- Window 28's staging buffer after the body, from the input windows' blocks: its 2 stores as pieces, LAST
    FIRST (Lib/Pipeline/FrameBody.lean `View.canon`; the payloads are the skeleton's and the values stated above). -/
def out0_28 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : Vec F S16x2x960x288 .fp8e4m3 :=
  View.canon [⟨r0_7, k0_pay5 (View.ld x5 r0_0) (View.ld x0 r0_1) (View.ld x2 r0_5) (View.ld x1 r0_0) (View.ld x3 r0_6) (View.ld x4 r0_6)⟩,
    ⟨r0_4, k0_pay3 (View.ld x5 r0_0) (View.ld x0 r0_1) (View.ld x2 r0_2) (View.ld x1 r0_0) (View.ld x3 r0_3) (View.ld x4 r0_3)⟩]

/-- Its stores tile the buffer (checked by evaluation), so they cover it. -/
theorem cover0_28 (p0 : Vec F S16x1x960x288 .fp8e4m3) (p1 : Vec F S16x1x960x288 .fp8e4m3) (y : S16x2x960x288.Idx) :
    ∃ pc ∈ ([⟨r0_7, p0⟩, ⟨r0_4, p1⟩] : List (View.Piece (Elt F) S16x2x960x288 .fp8e4m3)), y ∈ pc.1.set :=
  View.cover_of_tiled [⟨r0_7, p0⟩, ⟨r0_4, p1⟩] S16x1x960x288.size (by rfl) y

/-- Window 29's staging buffer after the body, from the input windows' blocks: its 2 stores as pieces, LAST
    FIRST (Lib/Pipeline/FrameBody.lean `View.canon`; the payloads are the skeleton's and the values stated above). -/
def out0_29 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : Vec F S2x16x960x288 .fp8e4m3 :=
  View.canon [⟨r0_13, k0_pay33 (k0_pay27 (View.ld x13 r0_9) (k0_pay61 x0 x1 x2 x3 x4 x5 x6 x7 x8 x9 x10 x11 x12 x13 x14 x15 x16 x17 x18 x19 x20 x21 x22 x23 x24 x25) (k0_pay64 x0 x1 x2 x3 x4 x5 x6 x7 x8 x9 x10 x11 x12 x13 x14 x15 x16 x17 x18 x19 x20 x21 x22 x23 x24 x25) (k0_pay65 x0 x1 x2 x3 x4 x5 x6 x7 x8 x9 x10 x11 x12 x13 x14 x15 x16 x17 x18 x19 x20 x21 x22 x23 x24 x25) (k0_pay66 x0 x1 x2 x3 x4 x5 x6 x7 x8 x9 x10 x11 x12 x13 x14 x15 x16 x17 x18 x19 x20 x21 x22 x23 x24 x25) (View.ld x8 r0_6) (View.ld x10 r0_6) (View.ld x12 r0_12))⟩,
    ⟨r0_10, k0_pay18 (k0_pay11 (View.ld x5 r0_0) (k0_pay54 x0 x1 x2 x3 x4 x5 x6 x7 x8 x9 x10 x11 x12 x13 x14 x15 x16 x17 x18 x19 x20 x21 x22 x23 x24 x25) (k0_pay56 x0 x1 x2 x3 x4 x5 x6 x7 x8 x9 x10 x11 x12 x13 x14 x15 x16 x17 x18 x19 x20 x21 x22 x23 x24 x25) (k0_pay57 x0 x1 x2 x3 x4 x5 x6 x7 x8 x9 x10 x11 x12 x13 x14 x15 x16 x17 x18 x19 x20 x21 x22 x23 x24 x25) (View.ld x8 r0_3) (View.ld x10 r0_3) (View.ld x12 r0_9))⟩]

/-- Its stores tile the buffer (checked by evaluation), so they cover it. -/
theorem cover0_29 (p0 : Vec F S1x16x960x288 .fp8e4m3) (p1 : Vec F S1x16x960x288 .fp8e4m3) (y : S2x16x960x288.Idx) :
    ∃ pc ∈ ([⟨r0_13, p0⟩, ⟨r0_10, p1⟩] : List (View.Piece (Elt F) S2x16x960x288 .fp8e4m3)), y ∈ pc.1.set :=
  View.cover_of_tiled [⟨r0_13, p0⟩, ⟨r0_10, p1⟩] S1x16x960x288.size (by rfl) y

/-- Window 30's staging buffer after the body, from the input windows' blocks: its 2 stores as pieces, LAST
    FIRST (Lib/Pipeline/FrameBody.lean `View.canon`; the payloads are the skeleton's and the values stated above). -/
def out0_30 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : Vec F S2x16x960x288 .fp8e4m3 :=
  View.canon [⟨r0_13, k0_pay34 (View.ld x13 r0_9) (k0_pay60 x0 x1 x2 x3 x4 x5 x6 x7 x8 x9 x10 x11 x12 x13 x14 x15 x16 x17 x18 x19 x20 x21 x22 x23 x24 x25) (View.ld x12 r0_12) (k0_pay67 x0 x1 x2 x3 x4 x5 x6 x7 x8 x9 x10 x11 x12 x13 x14 x15 x16 x17 x18 x19 x20 x21 x22 x23 x24 x25) (View.ld x9 r0_6) (View.ld x11 r0_6) (View.ld x13 r0_12)⟩,
    ⟨r0_10, k0_pay19 (View.ld x5 r0_0) (k0_pay53 x0 x1 x2 x3 x4 x5 x6 x7 x8 x9 x10 x11 x12 x13 x14 x15 x16 x17 x18 x19 x20 x21 x22 x23 x24 x25) (View.ld x12 r0_9) (k0_pay58 x0 x1 x2 x3 x4 x5 x6 x7 x8 x9 x10 x11 x12 x13 x14 x15 x16 x17 x18 x19 x20 x21 x22 x23 x24 x25) (k0_pay59 x0 x1 x2 x3 x4 x5 x6 x7 x8 x9 x10 x11 x12 x13 x14 x15 x16 x17 x18 x19 x20 x21 x22 x23 x24 x25) (View.ld x11 r0_3) (View.ld x13 r0_9)⟩]

/-- Its stores tile the buffer (checked by evaluation), so they cover it. -/
theorem cover0_30 (p0 : Vec F S1x16x960x288 .fp8e4m3) (p1 : Vec F S1x16x960x288 .fp8e4m3) (y : S2x16x960x288.Idx) :
    ∃ pc ∈ ([⟨r0_13, p0⟩, ⟨r0_10, p1⟩] : List (View.Piece (Elt F) S2x16x960x288 .fp8e4m3)), y ∈ pc.1.set :=
  View.cover_of_tiled [⟨r0_13, p0⟩, ⟨r0_10, p1⟩] S1x16x960x288.size (by rfl) y

/-- Window 31's staging buffer after the body, from the input windows' blocks: its 1 store as pieces, LAST
    FIRST (Lib/Pipeline/FrameBody.lean `View.canon`; the payloads are the skeleton's and the values stated above). -/
def out0_31 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : Vec F S16x960x288 .fp8e4m3 :=
  View.canon [⟨r0_22, k0_pay41 (k0_pay68 x0 x1 x2 x3 x4 x5 x6 x7 x8 x9 x10 x11 x12 x13 x14 x15 x16 x17 x18 x19 x20 x21 x22 x23 x24 x25) (k0_pay69 x0 x1 x2 x3 x4 x5 x6 x7 x8 x9 x10 x11 x12 x13 x14 x15 x16 x17 x18 x19 x20 x21 x22 x23 x24 x25) (View.ld x18 r0_20) (View.ld x17 r0_0) (View.ld x19 r0_21) (View.ld x20 r0_21) (View.ld x21 r0_0)⟩]

/-- Its stores tile the buffer (checked by evaluation), so they cover it. -/
theorem cover0_31 (p0 : Vec F S16x960x288 .fp8e4m3) (y : S16x960x288.Idx) :
    ∃ pc ∈ ([⟨r0_22, p0⟩] : List (View.Piece (Elt F) S16x960x288 .fp8e4m3)), y ∈ pc.1.set :=
  View.cover_of_tiled [⟨r0_22, p0⟩] S16x960x288.size (by rfl) y

/-- Window 32's staging buffer after the body, from the input windows' blocks: its 1 store as pieces, LAST
    FIRST (Lib/Pipeline/FrameBody.lean `View.canon`; the payloads are the skeleton's and the values stated above). -/
def out0_32 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : Vec F S16x960x288 .fp8e4m3 :=
  View.canon [⟨r0_22, k0_pay45 (k0_pay70 x0 x1 x2 x3 x4 x5 x6 x7 x8 x9 x10 x11 x12 x13 x14 x15 x16 x17 x18 x19 x20 x21 x22 x23 x24 x25) (k0_pay71 x0 x1 x2 x3 x4 x5 x6 x7 x8 x9 x10 x11 x12 x13 x14 x15 x16 x17 x18 x19 x20 x21 x22 x23 x24 x25)⟩]

/-- Its stores tile the buffer (checked by evaluation), so they cover it. -/
theorem cover0_32 (p0 : Vec F S16x960x288 .fp8e4m3) (y : S16x960x288.Idx) :
    ∃ pc ∈ ([⟨r0_22, p0⟩] : List (View.Piece (Elt F) S16x960x288 .fp8e4m3)), y ∈ pc.1.set :=
  View.cover_of_tiled [⟨r0_22, p0⟩] S16x960x288.size (by rfl) y

/-- Window 33's staging buffer after the body, from the input windows' blocks: its 1 store as pieces, LAST
    FIRST (Lib/Pipeline/FrameBody.lean `View.canon`; the payloads are the skeleton's and the values stated above). -/
def out0_33 (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) : Vec F S16x960x288 .fp8e4m3 :=
  View.canon [⟨r0_22, k0_pay50 (Scalar.ofBits .f32 0xFF800000#32) (k0_pay72 x0 x1 x2 x3 x4 x5 x6 x7 x8 x9 x10 x11 x12 x13 x14 x15 x16 x17 x18 x19 x20 x21 x22 x23 x24 x25) (k0_pay73 x0 x1 x2 x3 x4 x5 x6 x7 x8 x9 x10 x11 x12 x13 x14 x15 x16 x17 x18 x19 x20 x21 x22 x23 x24 x25)⟩]

/-- Its stores tile the buffer (checked by evaluation), so they cover it. -/
theorem cover0_33 (p0 : Vec F S16x960x288 .fp8e4m3) (y : S16x960x288.Idx) :
    ∃ pc ∈ ([⟨r0_22, p0⟩] : List (View.Piece (Elt F) S16x960x288 .fp8e4m3)), y ∈ pc.1.set :=
  View.cover_of_tiled [⟨r0_22, p0⟩] S16x960x288.size (by rfl) y

/-! ## The body's triple -/

set_option maxHeartbeats 7709700 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S16x40x24x576 .fp8e4m3) (harg0 : arg0.IsWhole) (arg1 : Memref sig .tc .vmem S1 .f32) (harg1 : arg1.IsWhole) (arg2 : Memref sig .tc .vmem S576x2x288 .fp8e4m3) (harg2 : arg2.IsWhole) (arg3 : Memref sig .tc .vmem S2x288 .f32) (harg3 : arg3.IsWhole) (arg4 : Memref sig .tc .vmem S2x288 .f32) (harg4 : arg4.IsWhole) (arg5 : Memref sig .tc .vmem S1 .f32) (harg5 : arg5.IsWhole) (arg6 : Memref sig .tc .vmem S2x2592x288 .fp8e4m3) (harg6 : arg6.IsWhole) (arg7 : Memref sig .tc .vmem S2x2592x288 .fp8e4m3) (harg7 : arg7.IsWhole) (arg8 : Memref sig .tc .vmem S2x288 .f32) (harg8 : arg8.IsWhole) (arg9 : Memref sig .tc .vmem S2x288 .f32) (harg9 : arg9.IsWhole) (arg10 : Memref sig .tc .vmem S2x288 .f32) (harg10 : arg10.IsWhole) (arg11 : Memref sig .tc .vmem S2x288 .f32) (harg11 : arg11.IsWhole) (arg12 : Memref sig .tc .vmem S2 .f32) (harg12 : arg12.IsWhole) (arg13 : Memref sig .tc .vmem S2 .f32) (harg13 : arg13.IsWhole) (arg14 : Memref sig .tc .vmem S4x288x576 .fp8e4m3) (harg14 : arg14.IsWhole) (arg15 : Memref sig .tc .vmem S576 .f32) (harg15 : arg15.IsWhole) (arg16 : Memref sig .tc .vmem S576 .f32) (harg16 : arg16.IsWhole) (arg17 : Memref sig .tc .vmem S1 .f32) (harg17 : arg17.IsWhole) (arg18 : Memref sig .tc .vmem S576x288 .fp8e4m3) (harg18 : arg18.IsWhole) (arg19 : Memref sig .tc .vmem S288 .f32) (harg19 : arg19.IsWhole) (arg20 : Memref sig .tc .vmem S288 .f32) (harg20 : arg20.IsWhole) (arg21 : Memref sig .tc .vmem S1 .f32) (harg21 : arg21.IsWhole) (arg22 : Memref sig .tc .vmem S4x288x576 .fp8e4m3) (harg22 : arg22.IsWhole) (arg23 : Memref sig .tc .vmem S576 .f32) (harg23 : arg23.IsWhole) (arg24 : Memref sig .tc .vmem S576 .f32) (harg24 : arg24.IsWhole) (arg25 : Memref sig .tc .vmem S1 .f32) (harg25 : arg25.IsWhole) (arg26 : Memref sig .tc .vmem S16x960x576 .fp8e4m3) (harg26 : arg26.IsWhole) (arg27 : Memref sig .tc .vmem S16x960x576 .fp8e4m3) (harg27 : arg27.IsWhole) (arg28 : Memref sig .tc .vmem S16x2x960x288 .fp8e4m3) (harg28 : arg28.IsWhole) (arg29 : Memref sig .tc .vmem S2x16x960x288 .fp8e4m3) (harg29 : arg29.IsWhole) (arg30 : Memref sig .tc .vmem S2x16x960x288 .fp8e4m3) (harg30 : arg30.IsWhole) (arg31 : Memref sig .tc .vmem S16x960x288 .fp8e4m3) (harg31 : arg31.IsWhole) (arg32 : Memref sig .tc .vmem S16x960x288 .fp8e4m3) (harg32 : arg32.IsWhole) (arg33 : Memref sig .tc .vmem S16x960x288 .fp8e4m3) (harg33 : arg33.IsWhole)
    (x0 : Vec F S16x40x24x576 .fp8e4m3) (x1 : Vec F S1 .f32) (x2 : Vec F S576x2x288 .fp8e4m3) (x3 : Vec F S2x288 .f32) (x4 : Vec F S2x288 .f32) (x5 : Vec F S1 .f32) (x6 : Vec F S2x2592x288 .fp8e4m3) (x7 : Vec F S2x2592x288 .fp8e4m3) (x8 : Vec F S2x288 .f32) (x9 : Vec F S2x288 .f32) (x10 : Vec F S2x288 .f32) (x11 : Vec F S2x288 .f32) (x12 : Vec F S2 .f32) (x13 : Vec F S2 .f32) (x14 : Vec F S4x288x576 .fp8e4m3) (x15 : Vec F S576 .f32) (x16 : Vec F S576 .f32) (x17 : Vec F S1 .f32) (x18 : Vec F S576x288 .fp8e4m3) (x19 : Vec F S288 .f32) (x20 : Vec F S288 .f32) (x21 : Vec F S1 .f32) (x22 : Vec F S4x288x576 .fp8e4m3) (x23 : Vec F S576 .f32) (x24 : Vec F S576 .f32) (x25 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare (out0_26 x0 x1 x2 x3 x4 x5 x6 x7 x8 x9 x10 x11 x12 x13 x14 x15 x16 x17 x18 x19 x20 x21 x22 x23 x24 x25) ∗ owns (c : Thread nD τ) arg27 fullShare (out0_27 x0 x1 x2 x3 x4 x5 x6 x7 x8 x9 x10 x11 x12 x13 x14 x15 x16 x17 x18 x19 x20 x21 x22 x23 x24 x25) ∗ owns (c : Thread nD τ) arg28 fullShare (out0_28 x0 x1 x2 x3 x4 x5 x6 x7 x8 x9 x10 x11 x12 x13 x14 x15 x16 x17 x18 x19 x20 x21 x22 x23 x24 x25) ∗ owns (c : Thread nD τ) arg29 fullShare (out0_29 x0 x1 x2 x3 x4 x5 x6 x7 x8 x9 x10 x11 x12 x13 x14 x15 x16 x17 x18 x19 x20 x21 x22 x23 x24 x25) ∗ owns (c : Thread nD τ) arg30 fullShare (out0_30 x0 x1 x2 x3 x4 x5 x6 x7 x8 x9 x10 x11 x12 x13 x14 x15 x16 x17 x18 x19 x20 x21 x22 x23 x24 x25) ∗ owns (c : Thread nD τ) arg31 fullShare (out0_31 x0 x1 x2 x3 x4 x5 x6 x7 x8 x9 x10 x11 x12 x13 x14 x15 x16 x17 x18 x19 x20 x21 x22 x23 x24 x25) ∗ owns (c : Thread nD τ) arg32 fullShare (out0_32 x0 x1 x2 x3 x4 x5 x6 x7 x8 x9 x10 x11 x12 x13 x14 x15 x16 x17 x18 x19 x20 x21 x22 x23 x24 x25) ∗ owns (c : Thread nD τ) arg33 fullShare (out0_33 x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E (cc0__reference_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__reference_body_eq_skeleton]; unfold cc0__reference_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _ _)).trans ?_
    rfl
  isplitl [H29]
  · iexists _; isplitr
    swap; · iexact H29
    ipureintro
    refine (View.read_writes_eq_canon _ _ _ (cover0_29 _ _)).trans ?_
    rfl
  isplitl [H30]
  · iexists _; isplitr
    swap; · iexact H30
    ipureintro
    refine (View.read_writes_eq_canon _ _ _ (cover0_30 _ _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  iexists _; isplitr
  swap; · iexact H33
  ipureintro
  refine (View.read_writes_eq_canon _ _ _ (cover0_33 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨_ + 34, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iintro ⟨H0, H1, H2, H3, H4, H5, H6, H7, H8, H9, H10, H11, H12, H13, H14, H15, H16, H17, H18, H19, H20, H21, H22, H23, H24, H25, H26, H27, H28, H29, H30, H31, H32, H33⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

/-- THE FRAME: `Cert.quiescent_ReferenceIdeal`'s statement (Defs.lean) at any `F` — Proof.lean cites it at `Bits`:
    `theorem Cert.Proof.claim : Cert.Claim := ⟨Cert.ReferenceIdeal.Gen.facts, fun m ρ _ => Cert.ReferenceIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0) :=
  θ_run_and (unchanged m ρ) ((θ_run defs _ _).mono (fun _ h => h.2) (run_main_quiescent m ρ))

end Cert.ReferenceIdeal.Gen

end
-- ==== Proof.RI.Value.lean ====
/- The VALUE LEG of proofs.«01_k».proof.ReferenceIdeal's certificate (Lib/Pipeline/Value.lean), in two forms. BLOCKWISE, for this class-A kernel
   whatever its body computes: `run_blocks` is the frame run `Gen.run_main` with each output array after the run NAMED
   (`(Gen.dats m 0 c).arrAt w N`), and per output window `w`: `flushed_w` — what grid point `t` writes back is the body's
   result (`Gen.out`, the stores as pieces) of the input windows' BLOCKS at `t`; `disjoint_w` — two points' blocks share no
   index (the index map is injective on the grid, decided); `blocks_w` — so block `t` of the final array, read back, is exactly
   what point `t` wrote; `entry_w` — an index no block covers keeps the array's contents at region entry. CLOSED FORM,
   when the body is a tree of pointwise operations over whole input blocks and constants: `G_w m c`, the output array as ONE
   function of the argument arrays index by index; `idx_facts` (each input window moves with the output at a constant
   block offset, decided), `flushed_w_eq` (point `t` writes block `t` of `G_w`), `covered_iff_w`, `final_w` (the array IS
   `G_w` where covered, entry contents elsewhere), and `run` — NOT written in that form for this kernel (output window 26's payload is not a pointwise expression (its casts do not cancel, or its result is not an operation)).
   Written instead, because the kernel has ONE grid point and every window's block is its whole array: `G_w`, which is
   `Gen.outK_w` applied to the argument arrays in place of the input blocks; `out_w_eq` (`Gen.outK_w` of any contents is `G_w` of
   them), `flushed_w_eq`, `covered_w`, `final_w` (the output array after the run IS `G_w`); and `run`, the frame run re-posted
   with those equations. Ahead of them, for each output window whose pieces re-lay computed values, `canon_w_eq`: their canon as
   ONE function `E_w` of the pieces' loads. A certificate's hand proof sets these beside the reference's run. -/
module

public import proofs.«01_k».proof.Proof.RI.Frame
public import Idealize.ShloMosaic.Lib.Pipeline.Value

@[expose] public section

set_option maxHeartbeats 4000000

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 26's array: the body's result for that window (`Gen.out0_26`: its stores
    as pieces over the input windows' blocks), read through the window's block. -/
theorem flushed26 (c : Dev nD) (t : Fin cfg0.N) :
    (dats m 0 c).flushed 26 t = (cfg0.win 26).cut (grid0.coords t) (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 26).cut (grid0.coords t) ((dats m 0 c).after 26 t) = _
  rw [after0_26]

/-- The index map sends distinct grid points to distinct block indices (decided over the 1 point). -/
theorem idx_inj26 : ∀ t t' : Fin cfg0.N, win0_26.index t = win0_26.index t' → t = t' :=
  (by decide +kernel : ∀ t t' : Fin grid0.N, win0_26.index t = win0_26.index t' → t = t')

/-- So two flushing points' blocks share no array index (Lib/Pipeline/Cells.lean `Window.disjoint_blk`). -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- BLOCK `t` OF THE FINAL ARRAY, read back through the window, is what point `t` wrote back (`flushed26`), for every
    point that writes back: no other point's block meets it. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no flushing point's block covers keeps output window 26's array contents at region entry. -/
theorem entry26 (c : Dev nD) (i : S16x960x576.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- WHAT POINT `t` WRITES BACK to output window 27's array: the body's result for that window (`Gen.out0_27`: its stores
    as pieces over the input windows' blocks), read through the window's block. -/
theorem flushed27 (c : Dev nD) (t : Fin cfg0.N) :
    (dats m 0 c).flushed 27 t = (cfg0.win 27).cut (grid0.coords t) (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 27).cut (grid0.coords t) ((dats m 0 c).after 27 t) = _
  rw [after0_27]

/-- The index map sends distinct grid points to distinct block indices (decided over the 1 point). -/
theorem idx_inj27 : ∀ t t' : Fin cfg0.N, win0_27.index t = win0_27.index t' → t = t' :=
  (by decide +kernel : ∀ t t' : Fin grid0.N, win0_27.index t = win0_27.index t' → t = t')

/-- So two flushing points' blocks share no array index (Lib/Pipeline/Cells.lean `Window.disjoint_blk`). -/
theorem disjoint27 : ∀ t t' : Fin cfg0.N, (cfg0.win 27).flush t = true → (cfg0.win 27).flush t' = true → t ≠ t' →
    Disjoint ((cfg0.win 27).blk t).view.set ((cfg0.win 27).blk t').view.set :=
  fun t t' _ _ hne => (cfg0.win 27).disjoint_blk fun h => hne (idx_inj27 t t' h)

/-- BLOCK `t` OF THE FINAL ARRAY, read back through the window, is what point `t` wrote back (`flushed27`), for every
    point that writes back: no other point's block meets it. -/
theorem blocks27 (c : Dev nD) (t : Fin cfg0.N) (hf : (cfg0.win 27).flush t = true) :
    ((cfg0.win 27).blk t).view.read (Elt F) ((dats m 0 c).arrAt 27 cfg0.N) = (dats m 0 c).flushed 27 t :=
  (dats m 0 c).read_blk_arrAt_eq_flushed 27 disjoint27 cfg0.N t t.isLt hf

/-- An index that no flushing point's block covers keeps output window 27's array contents at region entry. -/
theorem entry27 (c : Dev nD) (i : S16x960x576.Idx) (h : ∀ t : Fin cfg0.N, (cfg0.win 27).flush t = true → i ∉ ((cfg0.win 27).blk t).view.set) :
    (dats m 0 c).arrAt 27 cfg0.N i = V m c (Pipeline.arrRef spec0 27) i := by
  rw [(dats m 0 c).arrAt_apply_of_forall_not_mem 27 cfg0.N i (fun t _ hf => h t hf), A_eq]

/-- WHAT POINT `t` WRITES BACK to output window 28's array: the body's result for that window (`Gen.out0_28`: its stores
    as pieces over the input windows' blocks), read through the window's block. -/
theorem flushed28 (c : Dev nD) (t : Fin cfg0.N) :
    (dats m 0 c).flushed 28 t = (cfg0.win 28).cut (grid0.coords t) (out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 28).cut (grid0.coords t) ((dats m 0 c).after 28 t) = _
  rw [after0_28]

/-- The index map sends distinct grid points to distinct block indices (decided over the 1 point). -/
theorem idx_inj28 : ∀ t t' : Fin cfg0.N, win0_28.index t = win0_28.index t' → t = t' :=
  (by decide +kernel : ∀ t t' : Fin grid0.N, win0_28.index t = win0_28.index t' → t = t')

/-- So two flushing points' blocks share no array index (Lib/Pipeline/Cells.lean `Window.disjoint_blk`). -/
theorem disjoint28 : ∀ t t' : Fin cfg0.N, (cfg0.win 28).flush t = true → (cfg0.win 28).flush t' = true → t ≠ t' →
    Disjoint ((cfg0.win 28).blk t).view.set ((cfg0.win 28).blk t').view.set :=
  fun t t' _ _ hne => (cfg0.win 28).disjoint_blk fun h => hne (idx_inj28 t t' h)

/-- BLOCK `t` OF THE FINAL ARRAY, read back through the window, is what point `t` wrote back (`flushed28`), for every
    point that writes back: no other point's block meets it. -/
theorem blocks28 (c : Dev nD) (t : Fin cfg0.N) (hf : (cfg0.win 28).flush t = true) :
    ((cfg0.win 28).blk t).view.read (Elt F) ((dats m 0 c).arrAt 28 cfg0.N) = (dats m 0 c).flushed 28 t :=
  (dats m 0 c).read_blk_arrAt_eq_flushed 28 disjoint28 cfg0.N t t.isLt hf

/-- An index that no flushing point's block covers keeps output window 28's array contents at region entry. -/
theorem entry28 (c : Dev nD) (i : S16x2x960x288.Idx) (h : ∀ t : Fin cfg0.N, (cfg0.win 28).flush t = true → i ∉ ((cfg0.win 28).blk t).view.set) :
    (dats m 0 c).arrAt 28 cfg0.N i = V m c (Pipeline.arrRef spec0 28) i := by
  rw [(dats m 0 c).arrAt_apply_of_forall_not_mem 28 cfg0.N i (fun t _ hf => h t hf), A_eq]

/-- WHAT POINT `t` WRITES BACK to output window 29's array: the body's result for that window (`Gen.out0_29`: its stores
    as pieces over the input windows' blocks), read through the window's block. -/
theorem flushed29 (c : Dev nD) (t : Fin cfg0.N) :
    (dats m 0 c).flushed 29 t = (cfg0.win 29).cut (grid0.coords t) (out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 29).cut (grid0.coords t) ((dats m 0 c).after 29 t) = _
  rw [after0_29]

/-- The index map sends distinct grid points to distinct block indices (decided over the 1 point). -/
theorem idx_inj29 : ∀ t t' : Fin cfg0.N, win0_29.index t = win0_29.index t' → t = t' :=
  (by decide +kernel : ∀ t t' : Fin grid0.N, win0_29.index t = win0_29.index t' → t = t')

/-- So two flushing points' blocks share no array index (Lib/Pipeline/Cells.lean `Window.disjoint_blk`). -/
theorem disjoint29 : ∀ t t' : Fin cfg0.N, (cfg0.win 29).flush t = true → (cfg0.win 29).flush t' = true → t ≠ t' →
    Disjoint ((cfg0.win 29).blk t).view.set ((cfg0.win 29).blk t').view.set :=
  fun t t' _ _ hne => (cfg0.win 29).disjoint_blk fun h => hne (idx_inj29 t t' h)

/-- BLOCK `t` OF THE FINAL ARRAY, read back through the window, is what point `t` wrote back (`flushed29`), for every
    point that writes back: no other point's block meets it. -/
theorem blocks29 (c : Dev nD) (t : Fin cfg0.N) (hf : (cfg0.win 29).flush t = true) :
    ((cfg0.win 29).blk t).view.read (Elt F) ((dats m 0 c).arrAt 29 cfg0.N) = (dats m 0 c).flushed 29 t :=
  (dats m 0 c).read_blk_arrAt_eq_flushed 29 disjoint29 cfg0.N t t.isLt hf

/-- An index that no flushing point's block covers keeps output window 29's array contents at region entry. -/
theorem entry29 (c : Dev nD) (i : S2x16x960x288.Idx) (h : ∀ t : Fin cfg0.N, (cfg0.win 29).flush t = true → i ∉ ((cfg0.win 29).blk t).view.set) :
    (dats m 0 c).arrAt 29 cfg0.N i = V m c (Pipeline.arrRef spec0 29) i := by
  rw [(dats m 0 c).arrAt_apply_of_forall_not_mem 29 cfg0.N i (fun t _ hf => h t hf), A_eq]

/-- WHAT POINT `t` WRITES BACK to output window 30's array: the body's result for that window (`Gen.out0_30`: its stores
    as pieces over the input windows' blocks), read through the window's block. -/
theorem flushed30 (c : Dev nD) (t : Fin cfg0.N) :
    (dats m 0 c).flushed 30 t = (cfg0.win 30).cut (grid0.coords t) (out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 30).cut (grid0.coords t) ((dats m 0 c).after 30 t) = _
  rw [after0_30]

/-- The index map sends distinct grid points to distinct block indices (decided over the 1 point). -/
theorem idx_inj30 : ∀ t t' : Fin cfg0.N, win0_30.index t = win0_30.index t' → t = t' :=
  (by decide +kernel : ∀ t t' : Fin grid0.N, win0_30.index t = win0_30.index t' → t = t')

/-- So two flushing points' blocks share no array index (Lib/Pipeline/Cells.lean `Window.disjoint_blk`). -/
theorem disjoint30 : ∀ t t' : Fin cfg0.N, (cfg0.win 30).flush t = true → (cfg0.win 30).flush t' = true → t ≠ t' →
    Disjoint ((cfg0.win 30).blk t).view.set ((cfg0.win 30).blk t').view.set :=
  fun t t' _ _ hne => (cfg0.win 30).disjoint_blk fun h => hne (idx_inj30 t t' h)

/-- BLOCK `t` OF THE FINAL ARRAY, read back through the window, is what point `t` wrote back (`flushed30`), for every
    point that writes back: no other point's block meets it. -/
theorem blocks30 (c : Dev nD) (t : Fin cfg0.N) (hf : (cfg0.win 30).flush t = true) :
    ((cfg0.win 30).blk t).view.read (Elt F) ((dats m 0 c).arrAt 30 cfg0.N) = (dats m 0 c).flushed 30 t :=
  (dats m 0 c).read_blk_arrAt_eq_flushed 30 disjoint30 cfg0.N t t.isLt hf

/-- An index that no flushing point's block covers keeps output window 30's array contents at region entry. -/
theorem entry30 (c : Dev nD) (i : S2x16x960x288.Idx) (h : ∀ t : Fin cfg0.N, (cfg0.win 30).flush t = true → i ∉ ((cfg0.win 30).blk t).view.set) :
    (dats m 0 c).arrAt 30 cfg0.N i = V m c (Pipeline.arrRef spec0 30) i := by
  rw [(dats m 0 c).arrAt_apply_of_forall_not_mem 30 cfg0.N i (fun t _ hf => h t hf), A_eq]

/-- WHAT POINT `t` WRITES BACK to output window 31's array: the body's result for that window (`Gen.out0_31`: its stores
    as pieces over the input windows' blocks), read through the window's block. -/
theorem flushed31 (c : Dev nD) (t : Fin cfg0.N) :
    (dats m 0 c).flushed 31 t = (cfg0.win 31).cut (grid0.coords t) (out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 31).cut (grid0.coords t) ((dats m 0 c).after 31 t) = _
  rw [after0_31]

/-- The index map sends distinct grid points to distinct block indices (decided over the 1 point). -/
theorem idx_inj31 : ∀ t t' : Fin cfg0.N, win0_31.index t = win0_31.index t' → t = t' :=
  (by decide +kernel : ∀ t t' : Fin grid0.N, win0_31.index t = win0_31.index t' → t = t')

/-- So two flushing points' blocks share no array index (Lib/Pipeline/Cells.lean `Window.disjoint_blk`). -/
theorem disjoint31 : ∀ t t' : Fin cfg0.N, (cfg0.win 31).flush t = true → (cfg0.win 31).flush t' = true → t ≠ t' →
    Disjoint ((cfg0.win 31).blk t).view.set ((cfg0.win 31).blk t').view.set :=
  fun t t' _ _ hne => (cfg0.win 31).disjoint_blk fun h => hne (idx_inj31 t t' h)

/-- BLOCK `t` OF THE FINAL ARRAY, read back through the window, is what point `t` wrote back (`flushed31`), for every
    point that writes back: no other point's block meets it. -/
theorem blocks31 (c : Dev nD) (t : Fin cfg0.N) (hf : (cfg0.win 31).flush t = true) :
    ((cfg0.win 31).blk t).view.read (Elt F) ((dats m 0 c).arrAt 31 cfg0.N) = (dats m 0 c).flushed 31 t :=
  (dats m 0 c).read_blk_arrAt_eq_flushed 31 disjoint31 cfg0.N t t.isLt hf

/-- An index that no flushing point's block covers keeps output window 31's array contents at region entry. -/
theorem entry31 (c : Dev nD) (i : S16x960x288.Idx) (h : ∀ t : Fin cfg0.N, (cfg0.win 31).flush t = true → i ∉ ((cfg0.win 31).blk t).view.set) :
    (dats m 0 c).arrAt 31 cfg0.N i = V m c (Pipeline.arrRef spec0 31) i := by
  rw [(dats m 0 c).arrAt_apply_of_forall_not_mem 31 cfg0.N i (fun t _ hf => h t hf), A_eq]

/-- WHAT POINT `t` WRITES BACK to output window 32's array: the body's result for that window (`Gen.out0_32`: its stores
    as pieces over the input windows' blocks), read through the window's block. -/
theorem flushed32 (c : Dev nD) (t : Fin cfg0.N) :
    (dats m 0 c).flushed 32 t = (cfg0.win 32).cut (grid0.coords t) (out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 32).cut (grid0.coords t) ((dats m 0 c).after 32 t) = _
  rw [after0_32]

/-- The index map sends distinct grid points to distinct block indices (decided over the 1 point). -/
theorem idx_inj32 : ∀ t t' : Fin cfg0.N, win0_32.index t = win0_32.index t' → t = t' :=
  (by decide +kernel : ∀ t t' : Fin grid0.N, win0_32.index t = win0_32.index t' → t = t')

/-- So two flushing points' blocks share no array index (Lib/Pipeline/Cells.lean `Window.disjoint_blk`). -/
theorem disjoint32 : ∀ t t' : Fin cfg0.N, (cfg0.win 32).flush t = true → (cfg0.win 32).flush t' = true → t ≠ t' →
    Disjoint ((cfg0.win 32).blk t).view.set ((cfg0.win 32).blk t').view.set :=
  fun t t' _ _ hne => (cfg0.win 32).disjoint_blk fun h => hne (idx_inj32 t t' h)

/-- BLOCK `t` OF THE FINAL ARRAY, read back through the window, is what point `t` wrote back (`flushed32`), for every
    point that writes back: no other point's block meets it. -/
theorem blocks32 (c : Dev nD) (t : Fin cfg0.N) (hf : (cfg0.win 32).flush t = true) :
    ((cfg0.win 32).blk t).view.read (Elt F) ((dats m 0 c).arrAt 32 cfg0.N) = (dats m 0 c).flushed 32 t :=
  (dats m 0 c).read_blk_arrAt_eq_flushed 32 disjoint32 cfg0.N t t.isLt hf

/-- An index that no flushing point's block covers keeps output window 32's array contents at region entry. -/
theorem entry32 (c : Dev nD) (i : S16x960x288.Idx) (h : ∀ t : Fin cfg0.N, (cfg0.win 32).flush t = true → i ∉ ((cfg0.win 32).blk t).view.set) :
    (dats m 0 c).arrAt 32 cfg0.N i = V m c (Pipeline.arrRef spec0 32) i := by
  rw [(dats m 0 c).arrAt_apply_of_forall_not_mem 32 cfg0.N i (fun t _ hf => h t hf), A_eq]

/-- WHAT POINT `t` WRITES BACK to output window 33's array: the body's result for that window (`Gen.out0_33`: its stores
    as pieces over the input windows' blocks), read through the window's block. -/
theorem flushed33 (c : Dev nD) (t : Fin cfg0.N) :
    (dats m 0 c).flushed 33 t = (cfg0.win 33).cut (grid0.coords t) (out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 33).cut (grid0.coords t) ((dats m 0 c).after 33 t) = _
  rw [after0_33]

/-- The index map sends distinct grid points to distinct block indices (decided over the 1 point). -/
theorem idx_inj33 : ∀ t t' : Fin cfg0.N, win0_33.index t = win0_33.index t' → t = t' :=
  (by decide +kernel : ∀ t t' : Fin grid0.N, win0_33.index t = win0_33.index t' → t = t')

/-- So two flushing points' blocks share no array index (Lib/Pipeline/Cells.lean `Window.disjoint_blk`). -/
theorem disjoint33 : ∀ t t' : Fin cfg0.N, (cfg0.win 33).flush t = true → (cfg0.win 33).flush t' = true → t ≠ t' →
    Disjoint ((cfg0.win 33).blk t).view.set ((cfg0.win 33).blk t').view.set :=
  fun t t' _ _ hne => (cfg0.win 33).disjoint_blk fun h => hne (idx_inj33 t t' h)

/-- BLOCK `t` OF THE FINAL ARRAY, read back through the window, is what point `t` wrote back (`flushed33`), for every
    point that writes back: no other point's block meets it. -/
theorem blocks33 (c : Dev nD) (t : Fin cfg0.N) (hf : (cfg0.win 33).flush t = true) :
    ((cfg0.win 33).blk t).view.read (Elt F) ((dats m 0 c).arrAt 33 cfg0.N) = (dats m 0 c).flushed 33 t :=
  (dats m 0 c).read_blk_arrAt_eq_flushed 33 disjoint33 cfg0.N t t.isLt hf

/-- An index that no flushing point's block covers keeps output window 33's array contents at region entry. -/
theorem entry33 (c : Dev nD) (i : S16x960x288.Idx) (h : ∀ t : Fin cfg0.N, (cfg0.win 33).flush t = true → i ∉ ((cfg0.win 33).blk t).view.set) :
    (dats m 0 c).arrAt 33 cfg0.N i = V m c (Pipeline.arrRef spec0 33) i := by
  rw [(dats m 0 c).arrAt_apply_of_forall_not_mem 33 cfg0.N i (fun t _ hf => h t hf), A_eq]

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v0_0) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v0_1) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v0_2) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v0_3) = (dats m 0 c).arrAt 29 cfg0.N :=
  (h c).1 29

/-- After the frame run, output window 30's array is `(dats m 0 c).arrAt 30 N`. -/
theorem post30 (r : PUnit × MemSt nD τ sig (Elt F)) (h : Pipeline.FramePost cfgs (dats m) 0 (V m) r) (c : Dev nD) :
    r.2.mem ((c : Thread nD τ).loc main_v0_4) = (dats m 0 c).arrAt 30 cfg0.N :=
  (h c).1 30

/-- After the frame run, output window 31's array is `(dats m 0 c).arrAt 31 N`. -/
theorem post31 (r : PUnit × MemSt nD τ sig (Elt F)) (h : Pipeline.FramePost cfgs (dats m) 0 (V m) r) (c : Dev nD) :
    r.2.mem ((c : Thread nD τ).loc main_v0_5) = (dats m 0 c).arrAt 31 cfg0.N :=
  (h c).1 31

/-- After the frame run, output window 32's array is `(dats m 0 c).arrAt 32 N`. -/
theorem post32 (r : PUnit × MemSt nD τ sig (Elt F)) (h : Pipeline.FramePost cfgs (dats m) 0 (V m) r) (c : Dev nD) :
    r.2.mem ((c : Thread nD τ).loc main_v0_6) = (dats m 0 c).arrAt 32 cfg0.N :=
  (h c).1 32

/-- After the frame run, output window 33's array is `(dats m 0 c).arrAt 33 N`. -/
theorem post33 (r : PUnit × MemSt nD τ sig (Elt F)) (h : Pipeline.FramePost cfgs (dats m) 0 (V m) r) (c : Dev nD) :
    r.2.mem ((c : Thread nD τ).loc main_v0_7) = (dats m 0 c).arrAt 33 cfg0.N :=
  (h c).1 33

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: input window 13 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- After the frame run, argument `main_arg14` is as launched: input window 14 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

/-- After the frame run, argument `main_arg15` is as launched: input window 15 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

/-- After the frame run, argument `main_arg16` is as launched: input window 16 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))

/-- After the frame run, argument `main_arg17` is as launched: input window 17 stages it and never writes it back. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 17).trans (((dats m 0 c).arrAt_in 17 rfl _).trans ((A_eq m c 17).trans (V_main_arg17 m c)))

/-- After the frame run, argument `main_arg18` is as launched: input window 18 stages it and never writes it back. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))

/-- After the frame run, argument `main_arg19` is as launched: input window 19 stages it and never writes it back. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 19).trans (((dats m 0 c).arrAt_in 19 rfl _).trans ((A_eq m c 19).trans (V_main_arg19 m c)))

/-- After the frame run, argument `main_arg20` is as launched: input window 20 stages it and never writes it back. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).1 20).trans (((dats m 0 c).arrAt_in 20 rfl _).trans ((A_eq m c 20).trans (V_main_arg20 m c)))

/-- After the frame run, argument `main_arg21` is as launched: input window 21 stages it and never writes it back. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).1 21).trans (((dats m 0 c).arrAt_in 21 rfl _).trans ((A_eq m c 21).trans (V_main_arg21 m c)))

/-- After the frame run, argument `main_arg22` is as launched: input window 22 stages it and never writes it back. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).1 22).trans (((dats m 0 c).arrAt_in 22 rfl _).trans ((A_eq m c 22).trans (V_main_arg22 m c)))

/-- After the frame run, argument `main_arg23` is as launched: input window 23 stages it and never writes it back. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).1 23).trans (((dats m 0 c).arrAt_in 23 rfl _).trans ((A_eq m c 23).trans (V_main_arg23 m c)))

/-- After the frame run, argument `main_arg24` is as launched: input window 24 stages it and never writes it back. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).1 24).trans (((dats m 0 c).arrAt_in 24 rfl _).trans ((A_eq m c 24).trans (V_main_arg24 m c)))

/-- After the frame run, argument `main_arg25` is as launched: input window 25 stages it and never writes it back. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).1 25).trans (((dats m 0 c).arrAt_in 25 rfl _).trans ((A_eq m c 25).trans (V_main_arg25 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 26 cfg0.N
      ∧ r.2.mem ((c : Thread nD τ).loc main_v0_1) = (dats m 0 c).arrAt 27 cfg0.N
      ∧ r.2.mem ((c : Thread nD τ).loc main_v0_2) = (dats m 0 c).arrAt 28 cfg0.N
      ∧ r.2.mem ((c : Thread nD τ).loc main_v0_3) = (dats m 0 c).arrAt 29 cfg0.N
      ∧ r.2.mem ((c : Thread nD τ).loc main_v0_4) = (dats m 0 c).arrAt 30 cfg0.N
      ∧ r.2.mem ((c : Thread nD τ).loc main_v0_5) = (dats m 0 c).arrAt 31 cfg0.N
      ∧ r.2.mem ((c : Thread nD τ).loc main_v0_6) = (dats m 0 c).arrAt 32 cfg0.N
      ∧ r.2.mem ((c : Thread nD τ).loc main_v0_7) = (dats m 0 c).arrAt 33 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨post26 m r h c,
      post27 m r h c,
      post28 m r h c,
      post29 m r h c,
      post30 m r h c,
      post31 m r h c,
      post32 m r h c,
      post33 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c⟩)
    (run_main m ρ)

/-! ## Closed form at one grid point: every window's block is its array -/

theorem hz0 : (![0, 0, 0, 0] : Fin 4 → Nat) = fun _ => 0 := funext fun a => by fin_cases a <;> rfl

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S16x40x24x576.Idx) : ((cfg0.win 0).blk t).view.emb j = j := by
  obtain ⟨e0, e1, e2, e3⟩ := idx_zero0 t
  funext a; apply Fin.ext
  match a with
  | ⟨0, _⟩ => show win0_0.index t (0 : Fin 4) * 16 + 1 * (j 0).val = (j 0).val; omega
  | ⟨1, _⟩ => show win0_0.index t (1 : Fin 4) * 40 + 1 * (j 1).val = (j 1).val; omega
  | ⟨2, _⟩ => show win0_0.index t (2 : Fin 4) * 24 + 1 * (j 2).val = (j 2).val; omega
  | ⟨3, _⟩ => show win0_0.index t (3 : Fin 4) * 576 + 1 * (j 3).val = (j 3).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S1.Idx) : ((cfg0.win 1).blk t).view.emb j = j := by
  have e0 := idx_zero1 t
  funext a; apply Fin.ext
  match a with
  | ⟨0, _⟩ => show win0_1.index t (0 : Fin 1) * 1 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S576x2x288.Idx) : ((cfg0.win 2).blk t).view.emb j = j := by
  obtain ⟨e0, e1, e2⟩ := idx_zero2 t
  funext a; apply Fin.ext
  match a with
  | ⟨0, _⟩ => show win0_2.index t (0 : Fin 3) * 576 + 1 * (j 0).val = (j 0).val; omega
  | ⟨1, _⟩ => show win0_2.index t (1 : Fin 3) * 2 + 1 * (j 1).val = (j 1).val; omega
  | ⟨2, _⟩ => show win0_2.index t (2 : Fin 3) * 288 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S2x288.Idx) : ((cfg0.win 3).blk t).view.emb j = j := by
  obtain ⟨e0, e1⟩ := idx_zero3 t
  funext a; apply Fin.ext
  match a with
  | ⟨0, _⟩ => show win0_3.index t (0 : Fin 2) * 2 + 1 * (j 0).val = (j 0).val; omega
  | ⟨1, _⟩ => show win0_3.index t (1 : Fin 2) * 288 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S2x288.Idx) : ((cfg0.win 4).blk t).view.emb j = j := by
  obtain ⟨e0, e1⟩ := idx_zero4 t
  funext a; apply Fin.ext
  match a with
  | ⟨0, _⟩ => show win0_4.index t (0 : Fin 2) * 2 + 1 * (j 0).val = (j 0).val; omega
  | ⟨1, _⟩ => show win0_4.index t (1 : Fin 2) * 288 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S1.Idx) : ((cfg0.win 5).blk t).view.emb j = j := by
  have e0 := idx_zero5 t
  funext a; apply Fin.ext
  match a with
  | ⟨0, _⟩ => show win0_5.index t (0 : Fin 1) * 1 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S2x2592x288.Idx) : ((cfg0.win 6).blk t).view.emb j = j := by
  obtain ⟨e0, e1, e2⟩ := idx_zero6 t
  funext a; apply Fin.ext
  match a with
  | ⟨0, _⟩ => show win0_6.index t (0 : Fin 3) * 2 + 1 * (j 0).val = (j 0).val; omega
  | ⟨1, _⟩ => show win0_6.index t (1 : Fin 3) * 2592 + 1 * (j 1).val = (j 1).val; omega
  | ⟨2, _⟩ => show win0_6.index t (2 : Fin 3) * 288 + 1 * (j 2).val = (j 2).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S2x2592x288.Idx) : ((cfg0.win 7).blk t).view.emb j = j := by
  obtain ⟨e0, e1, e2⟩ := idx_zero7 t
  funext a; apply Fin.ext
  match a with
  | ⟨0, _⟩ => show win0_7.index t (0 : Fin 3) * 2 + 1 * (j 0).val = (j 0).val; omega
  | ⟨1, _⟩ => show win0_7.index t (1 : Fin 3) * 2592 + 1 * (j 1).val = (j 1).val; omega
  | ⟨2, _⟩ => show win0_7.index t (2 : Fin 3) * 288 + 1 * (j 2).val = (j 2).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S2x288.Idx) : ((cfg0.win 8).blk t).view.emb j = j := by
  obtain ⟨e0, e1⟩ := idx_zero8 t
  funext a; apply Fin.ext
  match a with
  | ⟨0, _⟩ => show win0_8.index t (0 : Fin 2) * 2 + 1 * (j 0).val = (j 0).val; omega
  | ⟨1, _⟩ => show win0_8.index t (1 : Fin 2) * 288 + 1 * (j 1).val = (j 1).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S2x288.Idx) : ((cfg0.win 9).blk t).view.emb j = j := by
  obtain ⟨e0, e1⟩ := idx_zero9 t
  funext a; apply Fin.ext
  match a with
  | ⟨0, _⟩ => show win0_9.index t (0 : Fin 2) * 2 + 1 * (j 0).val = (j 0).val; omega
  | ⟨1, _⟩ => show win0_9.index t (1 : Fin 2) * 288 + 1 * (j 1).val = (j 1).val; omega

/-- Input window 9's block at the point is its array as the region finds it. -/
theorem iblk9_eq (c : Dev nD) (t : Fin cfg0.N) : iblk m c 9 t = V m c main_arg9 := by
  funext j; show V m c main_arg9 (((cfg0.win 9).blk t).view.emb j) = V m c main_arg9 j; rw [emb9]

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S2x288.Idx) : ((cfg0.win 10).blk t).view.emb j = j := by
  obtain ⟨e0, e1⟩ := idx_zero10 t
  funext a; apply Fin.ext
  match a with
  | ⟨0, _⟩ => show win0_10.index t (0 : Fin 2) * 2 + 1 * (j 0).val = (j 0).val; omega
  | ⟨1, _⟩ => show win0_10.index t (1 : Fin 2) * 288 + 1 * (j 1).val = (j 1).val; omega

/-- Input window 10's block at the point is its array as the region finds it. -/
theorem iblk10_eq (c : Dev nD) (t : Fin cfg0.N) : iblk m c 10 t = V m c main_arg10 := by
  funext j; show V m c main_arg10 (((cfg0.win 10).blk t).view.emb j) = V m c main_arg10 j; rw [emb10]

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S2x288.Idx) : ((cfg0.win 11).blk t).view.emb j = j := by
  obtain ⟨e0, e1⟩ := idx_zero11 t
  funext a; apply Fin.ext
  match a with
  | ⟨0, _⟩ => show win0_11.index t (0 : Fin 2) * 2 + 1 * (j 0).val = (j 0).val; omega
  | ⟨1, _⟩ => show win0_11.index t (1 : Fin 2) * 288 + 1 * (j 1).val = (j 1).val; omega

/-- Input window 11's block at the point is its array as the region finds it. -/
theorem iblk11_eq (c : Dev nD) (t : Fin cfg0.N) : iblk m c 11 t = V m c main_arg11 := by
  funext j; show V m c main_arg11 (((cfg0.win 11).blk t).view.emb j) = V m c main_arg11 j; rw [emb11]

theorem hz12 : (![0] : Fin 1 → Nat) = fun _ => 0 := funext fun a => by fin_cases a <;> rfl

/-- Window 12's block index at the one point is zero on every axis. -/
theorem idx_zero12 : ∀ t : Fin cfg0.N, win0_12.index t (0 : Fin 1) = 0 :=
  (by decide +kernel : ∀ t : Fin grid0.N, _)

/-- An index of window 12's block is the same index of its array. -/
theorem emb12 (t : Fin cfg0.N) (j : S2.Idx) : ((cfg0.win 12).blk t).view.emb j = j := by
  have e0 := idx_zero12 t
  funext a; apply Fin.ext
  match a with
  | ⟨0, _⟩ => show win0_12.index t (0 : Fin 1) * 2 + 1 * (j 0).val = (j 0).val; omega

/-- Input window 12's block at the point is its array as the region finds it. -/
theorem iblk12_eq (c : Dev nD) (t : Fin cfg0.N) : iblk m c 12 t = V m c main_arg12 := by
  funext j; show V m c main_arg12 (((cfg0.win 12).blk t).view.emb j) = V m c main_arg12 j; rw [emb12]

theorem hz13 : (![0] : Fin 1 → Nat) = fun _ => 0 := funext fun a => by fin_cases a <;> rfl

/-- Window 13's block index at the one point is zero on every axis. -/
theorem idx_zero13 : ∀ t : Fin cfg0.N, win0_13.index t (0 : Fin 1) = 0 :=
  (by decide +kernel : ∀ t : Fin grid0.N, _)

/-- An index of window 13's block is the same index of its array. -/
theorem emb13 (t : Fin cfg0.N) (j : S2.Idx) : ((cfg0.win 13).blk t).view.emb j = j := by
  have e0 := idx_zero13 t
  funext a; apply Fin.ext
  match a with
  | ⟨0, _⟩ => show win0_13.index t (0 : Fin 1) * 2 + 1 * (j 0).val = (j 0).val; omega

/-- Input window 13's block at the point is its array as the region finds it. -/
theorem iblk13_eq (c : Dev nD) (t : Fin cfg0.N) : iblk m c 13 t = V m c main_arg13 := by
  funext j; show V m c main_arg13 (((cfg0.win 13).blk t).view.emb j) = V m c main_arg13 j; rw [emb13]

theorem hz14 : (![0, 0, 0] : Fin 3 → Nat) = fun _ => 0 := funext fun a => by fin_cases a <;> rfl

/-- Window 14's block index at the one point is zero on every axis. -/
theorem idx_zero14 : ∀ t : Fin cfg0.N, win0_14.index t (0 : Fin 3) = 0 ∧ win0_14.index t (1 : Fin 3) = 0 ∧ win0_14.index t (2 : Fin 3) = 0 :=
  (by decide +kernel : ∀ t : Fin grid0.N, _)

/-- An index of window 14's block is the same index of its array. -/
theorem emb14 (t : Fin cfg0.N) (j : S4x288x576.Idx) : ((cfg0.win 14).blk t).view.emb j = j := by
  obtain ⟨e0, e1, e2⟩ := idx_zero14 t
  funext a; apply Fin.ext
  match a with
  | ⟨0, _⟩ => show win0_14.index t (0 : Fin 3) * 4 + 1 * (j 0).val = (j 0).val; omega
  | ⟨1, _⟩ => show win0_14.index t (1 : Fin 3) * 288 + 1 * (j 1).val = (j 1).val; omega
  | ⟨2, _⟩ => show win0_14.index t (2 : Fin 3) * 576 + 1 * (j 2).val = (j 2).val; omega

/-- Input window 14's block at the point is its array as the region finds it. -/
theorem iblk14_eq (c : Dev nD) (t : Fin cfg0.N) : iblk m c 14 t = V m c main_arg14 := by
  funext j; show V m c main_arg14 (((cfg0.win 14).blk t).view.emb j) = V m c main_arg14 j; rw [emb14]

theorem hz15 : (![0] : Fin 1 → Nat) = fun _ => 0 := funext fun a => by fin_cases a <;> rfl

/-- Window 15's block index at the one point is zero on every axis. -/
theorem idx_zero15 : ∀ t : Fin cfg0.N, win0_15.index t (0 : Fin 1) = 0 :=
  (by decide +kernel : ∀ t : Fin grid0.N, _)

/-- An index of window 15's block is the same index of its array. -/
theorem emb15 (t : Fin cfg0.N) (j : S576.Idx) : ((cfg0.win 15).blk t).view.emb j = j := by
  have e0 := idx_zero15 t
  funext a; apply Fin.ext
  match a with
  | ⟨0, _⟩ => show win0_15.index t (0 : Fin 1) * 576 + 1 * (j 0).val = (j 0).val; omega

/-- Input window 15's block at the point is its array as the region finds it. -/
theorem iblk15_eq (c : Dev nD) (t : Fin cfg0.N) : iblk m c 15 t = V m c main_arg15 := by
  funext j; show V m c main_arg15 (((cfg0.win 15).blk t).view.emb j) = V m c main_arg15 j; rw [emb15]

theorem hz16 : (![0] : Fin 1 → Nat) = fun _ => 0 := funext fun a => by fin_cases a <;> rfl

/-- Window 16's block index at the one point is zero on every axis. -/
theorem idx_zero16 : ∀ t : Fin cfg0.N, win0_16.index t (0 : Fin 1) = 0 :=
  (by decide +kernel : ∀ t : Fin grid0.N, _)

/-- An index of window 16's block is the same index of its array. -/
theorem emb16 (t : Fin cfg0.N) (j : S576.Idx) : ((cfg0.win 16).blk t).view.emb j = j := by
  have e0 := idx_zero16 t
  funext a; apply Fin.ext
  match a with
  | ⟨0, _⟩ => show win0_16.index t (0 : Fin 1) * 576 + 1 * (j 0).val = (j 0).val; omega

/-- Input window 16's block at the point is its array as the region finds it. -/
theorem iblk16_eq (c : Dev nD) (t : Fin cfg0.N) : iblk m c 16 t = V m c main_arg16 := by
  funext j; show V m c main_arg16 (((cfg0.win 16).blk t).view.emb j) = V m c main_arg16 j; rw [emb16]

theorem hz17 : (![0] : Fin 1 → Nat) = fun _ => 0 := funext fun a => by fin_cases a <;> rfl

/-- Window 17's block index at the one point is zero on every axis. -/
theorem idx_zero17 : ∀ t : Fin cfg0.N, win0_17.index t (0 : Fin 1) = 0 :=
  (by decide +kernel : ∀ t : Fin grid0.N, _)

/-- An index of window 17's block is the same index of its array. -/
theorem emb17 (t : Fin cfg0.N) (j : S1.Idx) : ((cfg0.win 17).blk t).view.emb j = j := by
  have e0 := idx_zero17 t
  funext a; apply Fin.ext
  match a with
  | ⟨0, _⟩ => show win0_17.index t (0 : Fin 1) * 1 + 1 * (j 0).val = (j 0).val; omega

/-- Input window 17's block at the point is its array as the region finds it. -/
theorem iblk17_eq (c : Dev nD) (t : Fin cfg0.N) : iblk m c 17 t = V m c main_arg17 := by
  funext j; show V m c main_arg17 (((cfg0.win 17).blk t).view.emb j) = V m c main_arg17 j; rw [emb17]

theorem hz18 : (![0, 0] : Fin 2 → Nat) = fun _ => 0 := funext fun a => by fin_cases a <;> rfl

/-- Window 18's block index at the one point is zero on every axis. -/
theorem idx_zero18 : ∀ t : Fin cfg0.N, win0_18.index t (0 : Fin 2) = 0 ∧ win0_18.index t (1 : Fin 2) = 0 :=
  (by decide +kernel : ∀ t : Fin grid0.N, _)

/-- An index of window 18's block is the same index of its array. -/
theorem emb18 (t : Fin cfg0.N) (j : S576x288.Idx) : ((cfg0.win 18).blk t).view.emb j = j := by
  obtain ⟨e0, e1⟩ := idx_zero18 t
  funext a; apply Fin.ext
  match a with
  | ⟨0, _⟩ => show win0_18.index t (0 : Fin 2) * 576 + 1 * (j 0).val = (j 0).val; omega
  | ⟨1, _⟩ => show win0_18.index t (1 : Fin 2) * 288 + 1 * (j 1).val = (j 1).val; omega

/-- Input window 18's block at the point is its array as the region finds it. -/
theorem iblk18_eq (c : Dev nD) (t : Fin cfg0.N) : iblk m c 18 t = V m c main_arg18 := by
  funext j; show V m c main_arg18 (((cfg0.win 18).blk t).view.emb j) = V m c main_arg18 j; rw [emb18]

theorem hz19 : (![0] : Fin 1 → Nat) = fun _ => 0 := funext fun a => by fin_cases a <;> rfl

/-- Window 19's block index at the one point is zero on every axis. -/
theorem idx_zero19 : ∀ t : Fin cfg0.N, win0_19.index t (0 : Fin 1) = 0 :=
  (by decide +kernel : ∀ t : Fin grid0.N, _)

/-- An index of window 19's block is the same index of its array. -/
theorem emb19 (t : Fin cfg0.N) (j : S288.Idx) : ((cfg0.win 19).blk t).view.emb j = j := by
  have e0 := idx_zero19 t
  funext a; apply Fin.ext
  match a with
  | ⟨0, _⟩ => show win0_19.index t (0 : Fin 1) * 288 + 1 * (j 0).val = (j 0).val; omega

/-- Input window 19's block at the point is its array as the region finds it. -/
theorem iblk19_eq (c : Dev nD) (t : Fin cfg0.N) : iblk m c 19 t = V m c main_arg19 := by
  funext j; show V m c main_arg19 (((cfg0.win 19).blk t).view.emb j) = V m c main_arg19 j; rw [emb19]

theorem hz20 : (![0] : Fin 1 → Nat) = fun _ => 0 := funext fun a => by fin_cases a <;> rfl

/-- Window 20's block index at the one point is zero on every axis. -/
theorem idx_zero20 : ∀ t : Fin cfg0.N, win0_20.index t (0 : Fin 1) = 0 :=
  (by decide +kernel : ∀ t : Fin grid0.N, _)

/-- An index of window 20's block is the same index of its array. -/
theorem emb20 (t : Fin cfg0.N) (j : S288.Idx) : ((cfg0.win 20).blk t).view.emb j = j := by
  have e0 := idx_zero20 t
  funext a; apply Fin.ext
  match a with
  | ⟨0, _⟩ => show win0_20.index t (0 : Fin 1) * 288 + 1 * (j 0).val = (j 0).val; omega

/-- Input window 20's block at the point is its array as the region finds it. -/
theorem iblk20_eq (c : Dev nD) (t : Fin cfg0.N) : iblk m c 20 t = V m c main_arg20 := by
  funext j; show V m c main_arg20 (((cfg0.win 20).blk t).view.emb j) = V m c main_arg20 j; rw [emb20]

theorem hz21 : (![0] : Fin 1 → Nat) = fun _ => 0 := funext fun a => by fin_cases a <;> rfl

/-- Window 21's block index at the one point is zero on every axis. -/
theorem idx_zero21 : ∀ t : Fin cfg0.N, win0_21.index t (0 : Fin 1) = 0 :=
  (by decide +kernel : ∀ t : Fin grid0.N, _)

/-- An index of window 21's block is the same index of its array. -/
theorem emb21 (t : Fin cfg0.N) (j : S1.Idx) : ((cfg0.win 21).blk t).view.emb j = j := by
  have e0 := idx_zero21 t
  funext a; apply Fin.ext
  match a with
  | ⟨0, _⟩ => show win0_21.index t (0 : Fin 1) * 1 + 1 * (j 0).val = (j 0).val; omega

/-- Input window 21's block at the point is its array as the region finds it. -/
theorem iblk21_eq (c : Dev nD) (t : Fin cfg0.N) : iblk m c 21 t = V m c main_arg21 := by
  funext j; show V m c main_arg21 (((cfg0.win 21).blk t).view.emb j) = V m c main_arg21 j; rw [emb21]

theorem hz22 : (![0, 0, 0] : Fin 3 → Nat) = fun _ => 0 := funext fun a => by fin_cases a <;> rfl

/-- Window 22's block index at the one point is zero on every axis. -/
theorem idx_zero22 : ∀ t : Fin cfg0.N, win0_22.index t (0 : Fin 3) = 0 ∧ win0_22.index t (1 : Fin 3) = 0 ∧ win0_22.index t (2 : Fin 3) = 0 :=
  (by decide +kernel : ∀ t : Fin grid0.N, _)

/-- An index of window 22's block is the same index of its array. -/
theorem emb22 (t : Fin cfg0.N) (j : S4x288x576.Idx) : ((cfg0.win 22).blk t).view.emb j = j := by
  obtain ⟨e0, e1, e2⟩ := idx_zero22 t
  funext a; apply Fin.ext
  match a with
  | ⟨0, _⟩ => show win0_22.index t (0 : Fin 3) * 4 + 1 * (j 0).val = (j 0).val; omega
  | ⟨1, _⟩ => show win0_22.index t (1 : Fin 3) * 288 + 1 * (j 1).val = (j 1).val; omega
  | ⟨2, _⟩ => show win0_22.index t (2 : Fin 3) * 576 + 1 * (j 2).val = (j 2).val; omega

/-- Input window 22's block at the point is its array as the region finds it. -/
theorem iblk22_eq (c : Dev nD) (t : Fin cfg0.N) : iblk m c 22 t = V m c main_arg22 := by
  funext j; show V m c main_arg22 (((cfg0.win 22).blk t).view.emb j) = V m c main_arg22 j; rw [emb22]

theorem hz23 : (![0] : Fin 1 → Nat) = fun _ => 0 := funext fun a => by fin_cases a <;> rfl

/-- Window 23's block index at the one point is zero on every axis. -/
theorem idx_zero23 : ∀ t : Fin cfg0.N, win0_23.index t (0 : Fin 1) = 0 :=
  (by decide +kernel : ∀ t : Fin grid0.N, _)

/-- An index of window 23's block is the same index of its array. -/
theorem emb23 (t : Fin cfg0.N) (j : S576.Idx) : ((cfg0.win 23).blk t).view.emb j = j := by
  have e0 := idx_zero23 t
  funext a; apply Fin.ext
  match a with
  | ⟨0, _⟩ => show win0_23.index t (0 : Fin 1) * 576 + 1 * (j 0).val = (j 0).val; omega

/-- Input window 23's block at the point is its array as the region finds it. -/
theorem iblk23_eq (c : Dev nD) (t : Fin cfg0.N) : iblk m c 23 t = V m c main_arg23 := by
  funext j; show V m c main_arg23 (((cfg0.win 23).blk t).view.emb j) = V m c main_arg23 j; rw [emb23]

theorem hz24 : (![0] : Fin 1 → Nat) = fun _ => 0 := funext fun a => by fin_cases a <;> rfl

/-- Window 24's block index at the one point is zero on every axis. -/
theorem idx_zero24 : ∀ t : Fin cfg0.N, win0_24.index t (0 : Fin 1) = 0 :=
  (by decide +kernel : ∀ t : Fin grid0.N, _)

/-- An index of window 24's block is the same index of its array. -/
theorem emb24 (t : Fin cfg0.N) (j : S576.Idx) : ((cfg0.win 24).blk t).view.emb j = j := by
  have e0 := idx_zero24 t
  funext a; apply Fin.ext
  match a with
  | ⟨0, _⟩ => show win0_24.index t (0 : Fin 1) * 576 + 1 * (j 0).val = (j 0).val; omega

/-- Input window 24's block at the point is its array as the region finds it. -/
theorem iblk24_eq (c : Dev nD) (t : Fin cfg0.N) : iblk m c 24 t = V m c main_arg24 := by
  funext j; show V m c main_arg24 (((cfg0.win 24).blk t).view.emb j) = V m c main_arg24 j; rw [emb24]

theorem hz25 : (![0] : Fin 1 → Nat) = fun _ => 0 := funext fun a => by fin_cases a <;> rfl

/-- Window 25's block index at the one point is zero on every axis. -/
theorem idx_zero25 : ∀ t : Fin cfg0.N, win0_25.index t (0 : Fin 1) = 0 :=
  (by decide +kernel : ∀ t : Fin grid0.N, _)

/-- An index of window 25's block is the same index of its array. -/
theorem emb25 (t : Fin cfg0.N) (j : S1.Idx) : ((cfg0.win 25).blk t).view.emb j = j := by
  have e0 := idx_zero25 t
  funext a; apply Fin.ext
  match a with
  | ⟨0, _⟩ => show win0_25.index t (0 : Fin 1) * 1 + 1 * (j 0).val = (j 0).val; omega

/-- Input window 25's block at the point is its array as the region finds it. -/
theorem iblk25_eq (c : Dev nD) (t : Fin cfg0.N) : iblk m c 25 t = V m c main_arg25 := by
  funext j; show V m c main_arg25 (((cfg0.win 25).blk t).view.emb j) = V m c main_arg25 j; rw [emb25]

theorem hz26 : (![0, 0, 0] : Fin 3 → Nat) = fun _ => 0 := funext fun a => by fin_cases a <;> rfl

/-- Window 26's block index at the one point is zero on every axis. -/
theorem idx_zero26 : ∀ t : Fin cfg0.N, win0_26.index t (0 : Fin 3) = 0 ∧ win0_26.index t (1 : Fin 3) = 0 ∧ win0_26.index t (2 : Fin 3) = 0 :=
  (by decide +kernel : ∀ t : Fin grid0.N, _)

/-- An index of window 26's block is the same index of its array. -/
theorem emb26 (t : Fin cfg0.N) (j : S16x960x576.Idx) : ((cfg0.win 26).blk t).view.emb j = j := by
  obtain ⟨e0, e1, e2⟩ := idx_zero26 t
  funext a; apply Fin.ext
  match a with
  | ⟨0, _⟩ => show win0_26.index t (0 : Fin 3) * 16 + 1 * (j 0).val = (j 0).val; omega
  | ⟨1, _⟩ => show win0_26.index t (1 : Fin 3) * 960 + 1 * (j 1).val = (j 1).val; omega
  | ⟨2, _⟩ => show win0_26.index t (2 : Fin 3) * 576 + 1 * (j 2).val = (j 2).val; omega

theorem hz27 : (![0, 0, 0] : Fin 3 → Nat) = fun _ => 0 := funext fun a => by fin_cases a <;> rfl

/-- Window 27's block index at the one point is zero on every axis. -/
theorem idx_zero27 : ∀ t : Fin cfg0.N, win0_27.index t (0 : Fin 3) = 0 ∧ win0_27.index t (1 : Fin 3) = 0 ∧ win0_27.index t (2 : Fin 3) = 0 :=
  (by decide +kernel : ∀ t : Fin grid0.N, _)

/-- An index of window 27's block is the same index of its array. -/
theorem emb27 (t : Fin cfg0.N) (j : S16x960x576.Idx) : ((cfg0.win 27).blk t).view.emb j = j := by
  obtain ⟨e0, e1, e2⟩ := idx_zero27 t
  funext a; apply Fin.ext
  match a with
  | ⟨0, _⟩ => show win0_27.index t (0 : Fin 3) * 16 + 1 * (j 0).val = (j 0).val; omega
  | ⟨1, _⟩ => show win0_27.index t (1 : Fin 3) * 960 + 1 * (j 1).val = (j 1).val; omega
  | ⟨2, _⟩ => show win0_27.index t (2 : Fin 3) * 576 + 1 * (j 2).val = (j 2).val; omega

theorem hz28 : (![0, 0, 0, 0] : Fin 4 → Nat) = fun _ => 0 := funext fun a => by fin_cases a <;> rfl

/-- Window 28's block index at the one point is zero on every axis. -/
theorem idx_zero28 : ∀ t : Fin cfg0.N, win0_28.index t (0 : Fin 4) = 0 ∧ win0_28.index t (1 : Fin 4) = 0 ∧ win0_28.index t (2 : Fin 4) = 0 ∧ win0_28.index t (3 : Fin 4) = 0 :=
  (by decide +kernel : ∀ t : Fin grid0.N, _)

/-- An index of window 28's block is the same index of its array. -/
theorem emb28 (t : Fin cfg0.N) (j : S16x2x960x288.Idx) : ((cfg0.win 28).blk t).view.emb j = j := by
  obtain ⟨e0, e1, e2, e3⟩ := idx_zero28 t
  funext a; apply Fin.ext
  match a with
  | ⟨0, _⟩ => show win0_28.index t (0 : Fin 4) * 16 + 1 * (j 0).val = (j 0).val; omega
  | ⟨1, _⟩ => show win0_28.index t (1 : Fin 4) * 2 + 1 * (j 1).val = (j 1).val; omega
  | ⟨2, _⟩ => show win0_28.index t (2 : Fin 4) * 960 + 1 * (j 2).val = (j 2).val; omega
  | ⟨3, _⟩ => show win0_28.index t (3 : Fin 4) * 288 + 1 * (j 3).val = (j 3).val; omega

theorem hz29 : (![0, 0, 0, 0] : Fin 4 → Nat) = fun _ => 0 := funext fun a => by fin_cases a <;> rfl

/-- Window 29's block index at the one point is zero on every axis. -/
theorem idx_zero29 : ∀ t : Fin cfg0.N, win0_29.index t (0 : Fin 4) = 0 ∧ win0_29.index t (1 : Fin 4) = 0 ∧ win0_29.index t (2 : Fin 4) = 0 ∧ win0_29.index t (3 : Fin 4) = 0 :=
  (by decide +kernel : ∀ t : Fin grid0.N, _)

/-- An index of window 29's block is the same index of its array. -/
theorem emb29 (t : Fin cfg0.N) (j : S2x16x960x288.Idx) : ((cfg0.win 29).blk t).view.emb j = j := by
  obtain ⟨e0, e1, e2, e3⟩ := idx_zero29 t
  funext a; apply Fin.ext
  match a with
  | ⟨0, _⟩ => show win0_29.index t (0 : Fin 4) * 2 + 1 * (j 0).val = (j 0).val; omega
  | ⟨1, _⟩ => show win0_29.index t (1 : Fin 4) * 16 + 1 * (j 1).val = (j 1).val; omega
  | ⟨2, _⟩ => show win0_29.index t (2 : Fin 4) * 960 + 1 * (j 2).val = (j 2).val; omega
  | ⟨3, _⟩ => show win0_29.index t (3 : Fin 4) * 288 + 1 * (j 3).val = (j 3).val; omega

theorem hz30 : (![0, 0, 0, 0] : Fin 4 → Nat) = fun _ => 0 := funext fun a => by fin_cases a <;> rfl

/-- Window 30's block index at the one point is zero on every axis. -/
theorem idx_zero30 : ∀ t : Fin cfg0.N, win0_30.index t (0 : Fin 4) = 0 ∧ win0_30.index t (1 : Fin 4) = 0 ∧ win0_30.index t (2 : Fin 4) = 0 ∧ win0_30.index t (3 : Fin 4) = 0 :=
  (by decide +kernel : ∀ t : Fin grid0.N, _)

/-- An index of window 30's block is the same index of its array. -/
theorem emb30 (t : Fin cfg0.N) (j : S2x16x960x288.Idx) : ((cfg0.win 30).blk t).view.emb j = j := by
  obtain ⟨e0, e1, e2, e3⟩ := idx_zero30 t
  funext a; apply Fin.ext
  match a with
  | ⟨0, _⟩ => show win0_30.index t (0 : Fin 4) * 2 + 1 * (j 0).val = (j 0).val; omega
  | ⟨1, _⟩ => show win0_30.index t (1 : Fin 4) * 16 + 1 * (j 1).val = (j 1).val; omega
  | ⟨2, _⟩ => show win0_30.index t (2 : Fin 4) * 960 + 1 * (j 2).val = (j 2).val; omega
  | ⟨3, _⟩ => show win0_30.index t (3 : Fin 4) * 288 + 1 * (j 3).val = (j 3).val; omega

theorem hz31 : (![0, 0, 0] : Fin 3 → Nat) = fun _ => 0 := funext fun a => by fin_cases a <;> rfl

/-- Window 31's block index at the one point is zero on every axis. -/
theorem idx_zero31 : ∀ t : Fin cfg0.N, win0_31.index t (0 : Fin 3) = 0 ∧ win0_31.index t (1 : Fin 3) = 0 ∧ win0_31.index t (2 : Fin 3) = 0 :=
  (by decide +kernel : ∀ t : Fin grid0.N, _)

/-- An index of window 31's block is the same index of its array. -/
theorem emb31 (t : Fin cfg0.N) (j : S16x960x288.Idx) : ((cfg0.win 31).blk t).view.emb j = j := by
  obtain ⟨e0, e1, e2⟩ := idx_zero31 t
  funext a; apply Fin.ext
  match a with
  | ⟨0, _⟩ => show win0_31.index t (0 : Fin 3) * 16 + 1 * (j 0).val = (j 0).val; omega
  | ⟨1, _⟩ => show win0_31.index t (1 : Fin 3) * 960 + 1 * (j 1).val = (j 1).val; omega
  | ⟨2, _⟩ => show win0_31.index t (2 : Fin 3) * 288 + 1 * (j 2).val = (j 2).val; omega

theorem hz32 : (![0, 0, 0] : Fin 3 → Nat) = fun _ => 0 := funext fun a => by fin_cases a <;> rfl

/-- Window 32's block index at the one point is zero on every axis. -/
theorem idx_zero32 : ∀ t : Fin cfg0.N, win0_32.index t (0 : Fin 3) = 0 ∧ win0_32.index t (1 : Fin 3) = 0 ∧ win0_32.index t (2 : Fin 3) = 0 :=
  (by decide +kernel : ∀ t : Fin grid0.N, _)

/-- An index of window 32's block is the same index of its array. -/
theorem emb32 (t : Fin cfg0.N) (j : S16x960x288.Idx) : ((cfg0.win 32).blk t).view.emb j = j := by
  obtain ⟨e0, e1, e2⟩ := idx_zero32 t
  funext a; apply Fin.ext
  match a with
  | ⟨0, _⟩ => show win0_32.index t (0 : Fin 3) * 16 + 1 * (j 0).val = (j 0).val; omega
  | ⟨1, _⟩ => show win0_32.index t (1 : Fin 3) * 960 + 1 * (j 1).val = (j 1).val; omega
  | ⟨2, _⟩ => show win0_32.index t (2 : Fin 3) * 288 + 1 * (j 2).val = (j 2).val; omega

theorem hz33 : (![0, 0, 0] : Fin 3 → Nat) = fun _ => 0 := funext fun a => by fin_cases a <;> rfl

/-- Window 33's block index at the one point is zero on every axis. -/
theorem idx_zero33 : ∀ t : Fin cfg0.N, win0_33.index t (0 : Fin 3) = 0 ∧ win0_33.index t (1 : Fin 3) = 0 ∧ win0_33.index t (2 : Fin 3) = 0 :=
  (by decide +kernel : ∀ t : Fin grid0.N, _)

/-- An index of window 33's block is the same index of its array. -/
theorem emb33 (t : Fin cfg0.N) (j : S16x960x288.Idx) : ((cfg0.win 33).blk t).view.emb j = j := by
  obtain ⟨e0, e1, e2⟩ := idx_zero33 t
  funext a; apply Fin.ext
  match a with
  | ⟨0, _⟩ => show win0_33.index t (0 : Fin 3) * 16 + 1 * (j 0).val = (j 0).val; omega
  | ⟨1, _⟩ => show win0_33.index t (1 : Fin 3) * 960 + 1 * (j 1).val = (j 1).val; omega
  | ⟨2, _⟩ => show win0_33.index t (2 : Fin 3) * 288 + 1 * (j 2).val = (j 2).val; omega

/-! ### Output window 26: the array after the run -/

/-- What the window's array ends holding: `out0_26` applied to the argument arrays in place of the input blocks (a value that the
    frame states apart, `kK_payN a…`, keeps its loads inside its own definition). -/
abbrev G26 (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : Vec F S16x960x576 .fp8e4m3 :=
  k0_pay39 (k0_pay68 a0 a1 a2 a3 a4 a5 a6 a7 a8 a9 a10 a11 a12 a13 a14 a15 a16 a17 a18 a19 a20 a21 a22 a23 a24 a25) (k0_pay69 a0 a1 a2 a3 a4 a5 a6 a7 a8 a9 a10 a11 a12 a13 a14 a15 a16 a17 a18 a19 a20 a21 a22 a23 a24 a25)

/-- The one store through the whole rectangle leaves its payload. -/
theorem out26_eq (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : out0_26 (F := F) a0 a1 a2 a3 a4 a5 a6 a7 a8 a9 a10 a11 a12 a13 a14 a15 a16 a17 a18 a19 a20 a21 a22 a23 a24 a25 = G26 a0 a1 a2 a3 a4 a5 a6 a7 a8 a9 a10 a11 a12 a13 a14 a15 a16 a17 a18 a19 a20 a21 a22 a23 a24 a25 := by
  unfold out0_26
  rw [View.canon_unit_zero hz26]

/-- Cutting the point's block out of `X` and reading `X` through the block's view give the same. -/
theorem cut26_eq (t : Fin cfg0.N) (X : Vec F S16x960x576 .fp8e4m3) :
    (cfg0.win 26).cut (grid0.coords t) X = ((cfg0.win 26).blk t).view.read (Elt F) X := by
  funext j
  show X j = X (((cfg0.win 26).blk t).view.emb j)
  rw [emb26]

/-- WHAT THE POINT WRITES BACK is its block of `G26` of the argument arrays as the region finds them. -/
theorem flushed26_eq (c : Dev nD) (t : Fin cfg0.N) :
    (dats m 0 c).flushed 26 t = ((cfg0.win 26).blk t).view.read (Elt F) (G26 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) := by
  show (cfg0.win 26).cut (grid0.coords t) ((dats m 0 c).after 26 t) = _
  rw [after0_26, out26_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq]
  exact cut26_eq t _

/-- Every index of the array is in the point's block. -/
theorem covered26 (i : S16x960x576.Idx) :
    ∃ t : Fin cfg0.N, (cfg0.win 26).flush t = true ∧ i ∈ ((cfg0.win 26).blk t).view.set :=
  ⟨(⟨0, by decide⟩ : Fin cfg0.N), flush0_26 _, by have h := ((cfg0.win 26).blk (⟨0, by decide⟩ : Fin cfg0.N)).view.emb_mem_set i; rwa [emb26] at h⟩

/-- THE ARRAY after the run: `G26` of the argument arrays as launched. -/
theorem final26 (c : Dev nD) : (dats m 0 c).arrAt 26 cfg0.N = G26 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  ((dats m 0 c).arrAt_eq_of_cover 26 (G26 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) (fun t _ => flushed26_eq m c t) covered26).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16, V_main_arg17, V_main_arg18, V_main_arg19, V_main_arg20, V_main_arg21, V_main_arg22, V_main_arg23, V_main_arg24, V_main_arg25])

/-! ### Output window 27: the array after the run -/

/-- What the window's array ends holding: `out0_27` applied to the argument arrays in place of the input blocks (a value that the
    frame states apart, `kK_payN a…`, keeps its loads inside its own definition). -/
abbrev G27 (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : Vec F S16x960x576 .fp8e4m3 :=
  k0_pay1 (k0_pay49 (Scalar.ofBits .f32 0xFF800000#32) (k0_pay72 a0 a1 a2 a3 a4 a5 a6 a7 a8 a9 a10 a11 a12 a13 a14 a15 a16 a17 a18 a19 a20 a21 a22 a23 a24 a25) (k0_pay73 a0 a1 a2 a3 a4 a5 a6 a7 a8 a9 a10 a11 a12 a13 a14 a15 a16 a17 a18 a19 a20 a21 a22 a23 a24 a25)) a21 (k0_pay51 (k0_pay40 (k0_pay68 a0 a1 a2 a3 a4 a5 a6 a7 a8 a9 a10 a11 a12 a13 a14 a15 a16 a17 a18 a19 a20 a21 a22 a23 a24 a25) (k0_pay69 a0 a1 a2 a3 a4 a5 a6 a7 a8 a9 a10 a11 a12 a13 a14 a15 a16 a17 a18 a19 a20 a21 a22 a23 a24 a25) a18 a17 a19 a20 a21) (k0_pay44 (k0_pay70 a0 a1 a2 a3 a4 a5 a6 a7 a8 a9 a10 a11 a12 a13 a14 a15 a16 a17 a18 a19 a20 a21 a22 a23 a24 a25) (k0_pay71 a0 a1 a2 a3 a4 a5 a6 a7 a8 a9 a10 a11 a12 a13 a14 a15 a16 a17 a18 a19 a20 a21 a22 a23 a24 a25)) (View.ld a22 r0_14) (View.ld a22 r0_15)) (k0_pay52 (k0_pay46 (k0_pay70 a0 a1 a2 a3 a4 a5 a6 a7 a8 a9 a10 a11 a12 a13 a14 a15 a16 a17 a18 a19 a20 a21 a22 a23 a24 a25) (k0_pay71 a0 a1 a2 a3 a4 a5 a6 a7 a8 a9 a10 a11 a12 a13 a14 a15 a16 a17 a18 a19 a20 a21 a22 a23 a24 a25)) (View.ld a22 r0_16)) (View.ld a22 r0_17) a23 a24 a25

/-- A load of the whole of a block reads the block, and the one store through the whole rectangle leaves its payload. -/
theorem out27_eq (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : out0_27 (F := F) a0 a1 a2 a3 a4 a5 a6 a7 a8 a9 a10 a11 a12 a13 a14 a15 a16 a17 a18 a19 a20 a21 a22 a23 a24 a25 = G27 a0 a1 a2 a3 a4 a5 a6 a7 a8 a9 a10 a11 a12 a13 a14 a15 a16 a17 a18 a19 a20 a21 a22 a23 a24 a25 := by
  unfold out0_27
  rw [View.canon_unit_zero hz27, View.ld_unit_zero (S := S1) hz21 _ a21, View.ld_unit_zero (S := S576x288) hz18 _ a18, View.ld_unit_zero (S := S1) hz17 _ a17, View.ld_unit_zero (S := S288) hz19 _ a19, View.ld_unit_zero (S := S288) hz20 _ a20, View.ld_unit_zero (S := S576) hz23 _ a23, View.ld_unit_zero (S := S576) hz24 _ a24, View.ld_unit_zero (S := S1) hz25 _ a25]

/-- Cutting the point's block out of `X` and reading `X` through the block's view give the same. -/
theorem cut27_eq (t : Fin cfg0.N) (X : Vec F S16x960x576 .fp8e4m3) :
    (cfg0.win 27).cut (grid0.coords t) X = ((cfg0.win 27).blk t).view.read (Elt F) X := by
  funext j
  show X j = X (((cfg0.win 27).blk t).view.emb j)
  rw [emb27]

/-- WHAT THE POINT WRITES BACK is its block of `G27` of the argument arrays as the region finds them. -/
theorem flushed27_eq (c : Dev nD) (t : Fin cfg0.N) :
    (dats m 0 c).flushed 27 t = ((cfg0.win 27).blk t).view.read (Elt F) (G27 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) := by
  show (cfg0.win 27).cut (grid0.coords t) ((dats m 0 c).after 27 t) = _
  rw [after0_27, out27_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq]
  exact cut27_eq t _

/-- Every index of the array is in the point's block. -/
theorem covered27 (i : S16x960x576.Idx) :
    ∃ t : Fin cfg0.N, (cfg0.win 27).flush t = true ∧ i ∈ ((cfg0.win 27).blk t).view.set :=
  ⟨(⟨0, by decide⟩ : Fin cfg0.N), flush0_27 _, by have h := ((cfg0.win 27).blk (⟨0, by decide⟩ : Fin cfg0.N)).view.emb_mem_set i; rwa [emb27] at h⟩

/-- THE ARRAY after the run: `G27` of the argument arrays as launched. -/
theorem final27 (c : Dev nD) : (dats m 0 c).arrAt 27 cfg0.N = G27 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  ((dats m 0 c).arrAt_eq_of_cover 27 (G27 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) (fun t _ => flushed27_eq m c t) covered27).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16, V_main_arg17, V_main_arg18, V_main_arg19, V_main_arg20, V_main_arg21, V_main_arg22, V_main_arg23, V_main_arg24, V_main_arg25])

/-! ### Output window 28: the array after the run -/

/-- What the window's array ends holding: `out0_28` applied to the argument arrays in place of the input blocks (a value that the
    frame states apart, `kK_payN a…`, keeps its loads inside its own definition). -/
abbrev G28 (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : Vec F S16x2x960x288 .fp8e4m3 :=
  View.canon [⟨r0_7, k0_pay5 a5 a0 (View.ld a2 r0_5) a1 (View.ld a3 r0_6) (View.ld a4 r0_6)⟩,
    ⟨r0_4, k0_pay3 a5 a0 (View.ld a2 r0_2) a1 (View.ld a3 r0_3) (View.ld a4 r0_3)⟩]

/-- A load of the whole of a block reads the block. -/
theorem out28_eq (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : out0_28 (F := F) a0 a1 a2 a3 a4 a5 a6 a7 a8 a9 a10 a11 a12 a13 a14 a15 a16 a17 a18 a19 a20 a21 a22 a23 a24 a25 = G28 a0 a1 a2 a3 a4 a5 a6 a7 a8 a9 a10 a11 a12 a13 a14 a15 a16 a17 a18 a19 a20 a21 a22 a23 a24 a25 := by
  unfold out0_28
  rw [View.ld_unit_zero (S := S1) hz5 _ a5, View.ld_unit_zero (S := S16x40x24x576) hz0 _ a0, View.ld_unit_zero (S := S1) hz1 _ a1]

/-- Cutting the point's block out of `X` and reading `X` through the block's view give the same. -/
theorem cut28_eq (t : Fin cfg0.N) (X : Vec F S16x2x960x288 .fp8e4m3) :
    (cfg0.win 28).cut (grid0.coords t) X = ((cfg0.win 28).blk t).view.read (Elt F) X := by
  funext j
  show X j = X (((cfg0.win 28).blk t).view.emb j)
  rw [emb28]

/-- WHAT THE POINT WRITES BACK is its block of `G28` of the argument arrays as the region finds them. -/
theorem flushed28_eq (c : Dev nD) (t : Fin cfg0.N) :
    (dats m 0 c).flushed 28 t = ((cfg0.win 28).blk t).view.read (Elt F) (G28 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) := by
  show (cfg0.win 28).cut (grid0.coords t) ((dats m 0 c).after 28 t) = _
  rw [after0_28, out28_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq]
  exact cut28_eq t _

/-- Every index of the array is in the point's block. -/
theorem covered28 (i : S16x2x960x288.Idx) :
    ∃ t : Fin cfg0.N, (cfg0.win 28).flush t = true ∧ i ∈ ((cfg0.win 28).blk t).view.set :=
  ⟨(⟨0, by decide⟩ : Fin cfg0.N), flush0_28 _, by have h := ((cfg0.win 28).blk (⟨0, by decide⟩ : Fin cfg0.N)).view.emb_mem_set i; rwa [emb28] at h⟩

/-- THE ARRAY after the run: `G28` of the argument arrays as launched. -/
theorem final28 (c : Dev nD) : (dats m 0 c).arrAt 28 cfg0.N = G28 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  ((dats m 0 c).arrAt_eq_of_cover 28 (G28 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) (fun t _ => flushed28_eq m c t) covered28).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16, V_main_arg17, V_main_arg18, V_main_arg19, V_main_arg20, V_main_arg21, V_main_arg22, V_main_arg23, V_main_arg24, V_main_arg25])

/-! ### Output window 29: the array after the run -/

/-- What the window's array ends holding: `out0_29` applied to the argument arrays in place of the input blocks (a value that the
    frame states apart, `kK_payN a…`, keeps its loads inside its own definition). -/
abbrev G29 (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : Vec F S2x16x960x288 .fp8e4m3 :=
  View.canon [⟨r0_13, k0_pay33 (k0_pay27 (View.ld a13 r0_9) (k0_pay61 a0 a1 a2 a3 a4 a5 a6 a7 a8 a9 a10 a11 a12 a13 a14 a15 a16 a17 a18 a19 a20 a21 a22 a23 a24 a25) (k0_pay64 a0 a1 a2 a3 a4 a5 a6 a7 a8 a9 a10 a11 a12 a13 a14 a15 a16 a17 a18 a19 a20 a21 a22 a23 a24 a25) (k0_pay65 a0 a1 a2 a3 a4 a5 a6 a7 a8 a9 a10 a11 a12 a13 a14 a15 a16 a17 a18 a19 a20 a21 a22 a23 a24 a25) (k0_pay66 a0 a1 a2 a3 a4 a5 a6 a7 a8 a9 a10 a11 a12 a13 a14 a15 a16 a17 a18 a19 a20 a21 a22 a23 a24 a25) (View.ld a8 r0_6) (View.ld a10 r0_6) (View.ld a12 r0_12))⟩,
    ⟨r0_10, k0_pay18 (k0_pay11 a5 (k0_pay54 a0 a1 a2 a3 a4 a5 a6 a7 a8 a9 a10 a11 a12 a13 a14 a15 a16 a17 a18 a19 a20 a21 a22 a23 a24 a25) (k0_pay56 a0 a1 a2 a3 a4 a5 a6 a7 a8 a9 a10 a11 a12 a13 a14 a15 a16 a17 a18 a19 a20 a21 a22 a23 a24 a25) (k0_pay57 a0 a1 a2 a3 a4 a5 a6 a7 a8 a9 a10 a11 a12 a13 a14 a15 a16 a17 a18 a19 a20 a21 a22 a23 a24 a25) (View.ld a8 r0_3) (View.ld a10 r0_3) (View.ld a12 r0_9))⟩]

/-- A load of the whole of a block reads the block. -/
theorem out29_eq (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : out0_29 (F := F) a0 a1 a2 a3 a4 a5 a6 a7 a8 a9 a10 a11 a12 a13 a14 a15 a16 a17 a18 a19 a20 a21 a22 a23 a24 a25 = G29 a0 a1 a2 a3 a4 a5 a6 a7 a8 a9 a10 a11 a12 a13 a14 a15 a16 a17 a18 a19 a20 a21 a22 a23 a24 a25 := by
  unfold out0_29
  rw [View.ld_unit_zero (S := S1) hz5 _ a5]

/-- Cutting the point's block out of `X` and reading `X` through the block's view give the same. -/
theorem cut29_eq (t : Fin cfg0.N) (X : Vec F S2x16x960x288 .fp8e4m3) :
    (cfg0.win 29).cut (grid0.coords t) X = ((cfg0.win 29).blk t).view.read (Elt F) X := by
  funext j
  show X j = X (((cfg0.win 29).blk t).view.emb j)
  rw [emb29]

/-- WHAT THE POINT WRITES BACK is its block of `G29` of the argument arrays as the region finds them. -/
theorem flushed29_eq (c : Dev nD) (t : Fin cfg0.N) :
    (dats m 0 c).flushed 29 t = ((cfg0.win 29).blk t).view.read (Elt F) (G29 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) := by
  show (cfg0.win 29).cut (grid0.coords t) ((dats m 0 c).after 29 t) = _
  rw [after0_29, out29_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq]
  exact cut29_eq t _

/-- Every index of the array is in the point's block. -/
theorem covered29 (i : S2x16x960x288.Idx) :
    ∃ t : Fin cfg0.N, (cfg0.win 29).flush t = true ∧ i ∈ ((cfg0.win 29).blk t).view.set :=
  ⟨(⟨0, by decide⟩ : Fin cfg0.N), flush0_29 _, by have h := ((cfg0.win 29).blk (⟨0, by decide⟩ : Fin cfg0.N)).view.emb_mem_set i; rwa [emb29] at h⟩

/-- THE ARRAY after the run: `G29` of the argument arrays as launched. -/
theorem final29 (c : Dev nD) : (dats m 0 c).arrAt 29 cfg0.N = G29 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  ((dats m 0 c).arrAt_eq_of_cover 29 (G29 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) (fun t _ => flushed29_eq m c t) covered29).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16, V_main_arg17, V_main_arg18, V_main_arg19, V_main_arg20, V_main_arg21, V_main_arg22, V_main_arg23, V_main_arg24, V_main_arg25])

/-! ### Output window 30: the array after the run -/

/-- What the window's array ends holding: `out0_30` applied to the argument arrays in place of the input blocks (a value that the
    frame states apart, `kK_payN a…`, keeps its loads inside its own definition). -/
abbrev G30 (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : Vec F S2x16x960x288 .fp8e4m3 :=
  View.canon [⟨r0_13, k0_pay34 (View.ld a13 r0_9) (k0_pay60 a0 a1 a2 a3 a4 a5 a6 a7 a8 a9 a10 a11 a12 a13 a14 a15 a16 a17 a18 a19 a20 a21 a22 a23 a24 a25) (View.ld a12 r0_12) (k0_pay67 a0 a1 a2 a3 a4 a5 a6 a7 a8 a9 a10 a11 a12 a13 a14 a15 a16 a17 a18 a19 a20 a21 a22 a23 a24 a25) (View.ld a9 r0_6) (View.ld a11 r0_6) (View.ld a13 r0_12)⟩,
    ⟨r0_10, k0_pay19 a5 (k0_pay53 a0 a1 a2 a3 a4 a5 a6 a7 a8 a9 a10 a11 a12 a13 a14 a15 a16 a17 a18 a19 a20 a21 a22 a23 a24 a25) (View.ld a12 r0_9) (k0_pay58 a0 a1 a2 a3 a4 a5 a6 a7 a8 a9 a10 a11 a12 a13 a14 a15 a16 a17 a18 a19 a20 a21 a22 a23 a24 a25) (k0_pay59 a0 a1 a2 a3 a4 a5 a6 a7 a8 a9 a10 a11 a12 a13 a14 a15 a16 a17 a18 a19 a20 a21 a22 a23 a24 a25) (View.ld a11 r0_3) (View.ld a13 r0_9)⟩]

/-- A load of the whole of a block reads the block. -/
theorem out30_eq (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : out0_30 (F := F) a0 a1 a2 a3 a4 a5 a6 a7 a8 a9 a10 a11 a12 a13 a14 a15 a16 a17 a18 a19 a20 a21 a22 a23 a24 a25 = G30 a0 a1 a2 a3 a4 a5 a6 a7 a8 a9 a10 a11 a12 a13 a14 a15 a16 a17 a18 a19 a20 a21 a22 a23 a24 a25 := by
  unfold out0_30
  rw [View.ld_unit_zero (S := S1) hz5 _ a5]

/-- Cutting the point's block out of `X` and reading `X` through the block's view give the same. -/
theorem cut30_eq (t : Fin cfg0.N) (X : Vec F S2x16x960x288 .fp8e4m3) :
    (cfg0.win 30).cut (grid0.coords t) X = ((cfg0.win 30).blk t).view.read (Elt F) X := by
  funext j
  show X j = X (((cfg0.win 30).blk t).view.emb j)
  rw [emb30]

/-- WHAT THE POINT WRITES BACK is its block of `G30` of the argument arrays as the region finds them. -/
theorem flushed30_eq (c : Dev nD) (t : Fin cfg0.N) :
    (dats m 0 c).flushed 30 t = ((cfg0.win 30).blk t).view.read (Elt F) (G30 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) := by
  show (cfg0.win 30).cut (grid0.coords t) ((dats m 0 c).after 30 t) = _
  rw [after0_30, out30_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq]
  exact cut30_eq t _

/-- Every index of the array is in the point's block. -/
theorem covered30 (i : S2x16x960x288.Idx) :
    ∃ t : Fin cfg0.N, (cfg0.win 30).flush t = true ∧ i ∈ ((cfg0.win 30).blk t).view.set :=
  ⟨(⟨0, by decide⟩ : Fin cfg0.N), flush0_30 _, by have h := ((cfg0.win 30).blk (⟨0, by decide⟩ : Fin cfg0.N)).view.emb_mem_set i; rwa [emb30] at h⟩

/-- THE ARRAY after the run: `G30` of the argument arrays as launched. -/
theorem final30 (c : Dev nD) : (dats m 0 c).arrAt 30 cfg0.N = G30 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  ((dats m 0 c).arrAt_eq_of_cover 30 (G30 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) (fun t _ => flushed30_eq m c t) covered30).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16, V_main_arg17, V_main_arg18, V_main_arg19, V_main_arg20, V_main_arg21, V_main_arg22, V_main_arg23, V_main_arg24, V_main_arg25])

/-! ### Output window 31: the array after the run -/

/-- What the window's array ends holding: `out0_31` applied to the argument arrays in place of the input blocks (a value that the
    frame states apart, `kK_payN a…`, keeps its loads inside its own definition). -/
abbrev G31 (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : Vec F S16x960x288 .fp8e4m3 :=
  k0_pay41 (k0_pay68 a0 a1 a2 a3 a4 a5 a6 a7 a8 a9 a10 a11 a12 a13 a14 a15 a16 a17 a18 a19 a20 a21 a22 a23 a24 a25) (k0_pay69 a0 a1 a2 a3 a4 a5 a6 a7 a8 a9 a10 a11 a12 a13 a14 a15 a16 a17 a18 a19 a20 a21 a22 a23 a24 a25) a18 a17 a19 a20 a21

/-- A load of the whole of a block reads the block, and the one store through the whole rectangle leaves its payload. -/
theorem out31_eq (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : out0_31 (F := F) a0 a1 a2 a3 a4 a5 a6 a7 a8 a9 a10 a11 a12 a13 a14 a15 a16 a17 a18 a19 a20 a21 a22 a23 a24 a25 = G31 a0 a1 a2 a3 a4 a5 a6 a7 a8 a9 a10 a11 a12 a13 a14 a15 a16 a17 a18 a19 a20 a21 a22 a23 a24 a25 := by
  unfold out0_31
  rw [View.canon_unit_zero hz31, View.ld_unit_zero (S := S576x288) hz18 _ a18, View.ld_unit_zero (S := S1) hz17 _ a17, View.ld_unit_zero (S := S288) hz19 _ a19, View.ld_unit_zero (S := S288) hz20 _ a20, View.ld_unit_zero (S := S1) hz21 _ a21]

/-- Cutting the point's block out of `X` and reading `X` through the block's view give the same. -/
theorem cut31_eq (t : Fin cfg0.N) (X : Vec F S16x960x288 .fp8e4m3) :
    (cfg0.win 31).cut (grid0.coords t) X = ((cfg0.win 31).blk t).view.read (Elt F) X := by
  funext j
  show X j = X (((cfg0.win 31).blk t).view.emb j)
  rw [emb31]

/-- WHAT THE POINT WRITES BACK is its block of `G31` of the argument arrays as the region finds them. -/
theorem flushed31_eq (c : Dev nD) (t : Fin cfg0.N) :
    (dats m 0 c).flushed 31 t = ((cfg0.win 31).blk t).view.read (Elt F) (G31 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) := by
  show (cfg0.win 31).cut (grid0.coords t) ((dats m 0 c).after 31 t) = _
  rw [after0_31, out31_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq]
  exact cut31_eq t _

/-- Every index of the array is in the point's block. -/
theorem covered31 (i : S16x960x288.Idx) :
    ∃ t : Fin cfg0.N, (cfg0.win 31).flush t = true ∧ i ∈ ((cfg0.win 31).blk t).view.set :=
  ⟨(⟨0, by decide⟩ : Fin cfg0.N), flush0_31 _, by have h := ((cfg0.win 31).blk (⟨0, by decide⟩ : Fin cfg0.N)).view.emb_mem_set i; rwa [emb31] at h⟩

/-- THE ARRAY after the run: `G31` of the argument arrays as launched. -/
theorem final31 (c : Dev nD) : (dats m 0 c).arrAt 31 cfg0.N = G31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  ((dats m 0 c).arrAt_eq_of_cover 31 (G31 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) (fun t _ => flushed31_eq m c t) covered31).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16, V_main_arg17, V_main_arg18, V_main_arg19, V_main_arg20, V_main_arg21, V_main_arg22, V_main_arg23, V_main_arg24, V_main_arg25])

/-! ### Output window 32: the array after the run -/

/-- What the window's array ends holding: `out0_32` applied to the argument arrays in place of the input blocks (a value that the
    frame states apart, `kK_payN a…`, keeps its loads inside its own definition). -/
abbrev G32 (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : Vec F S16x960x288 .fp8e4m3 :=
  k0_pay45 (k0_pay70 a0 a1 a2 a3 a4 a5 a6 a7 a8 a9 a10 a11 a12 a13 a14 a15 a16 a17 a18 a19 a20 a21 a22 a23 a24 a25) (k0_pay71 a0 a1 a2 a3 a4 a5 a6 a7 a8 a9 a10 a11 a12 a13 a14 a15 a16 a17 a18 a19 a20 a21 a22 a23 a24 a25)

/-- The one store through the whole rectangle leaves its payload. -/
theorem out32_eq (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : out0_32 (F := F) a0 a1 a2 a3 a4 a5 a6 a7 a8 a9 a10 a11 a12 a13 a14 a15 a16 a17 a18 a19 a20 a21 a22 a23 a24 a25 = G32 a0 a1 a2 a3 a4 a5 a6 a7 a8 a9 a10 a11 a12 a13 a14 a15 a16 a17 a18 a19 a20 a21 a22 a23 a24 a25 := by
  unfold out0_32
  rw [View.canon_unit_zero hz32]

/-- Cutting the point's block out of `X` and reading `X` through the block's view give the same. -/
theorem cut32_eq (t : Fin cfg0.N) (X : Vec F S16x960x288 .fp8e4m3) :
    (cfg0.win 32).cut (grid0.coords t) X = ((cfg0.win 32).blk t).view.read (Elt F) X := by
  funext j
  show X j = X (((cfg0.win 32).blk t).view.emb j)
  rw [emb32]

/-- WHAT THE POINT WRITES BACK is its block of `G32` of the argument arrays as the region finds them. -/
theorem flushed32_eq (c : Dev nD) (t : Fin cfg0.N) :
    (dats m 0 c).flushed 32 t = ((cfg0.win 32).blk t).view.read (Elt F) (G32 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) := by
  show (cfg0.win 32).cut (grid0.coords t) ((dats m 0 c).after 32 t) = _
  rw [after0_32, out32_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq]
  exact cut32_eq t _

/-- Every index of the array is in the point's block. -/
theorem covered32 (i : S16x960x288.Idx) :
    ∃ t : Fin cfg0.N, (cfg0.win 32).flush t = true ∧ i ∈ ((cfg0.win 32).blk t).view.set :=
  ⟨(⟨0, by decide⟩ : Fin cfg0.N), flush0_32 _, by have h := ((cfg0.win 32).blk (⟨0, by decide⟩ : Fin cfg0.N)).view.emb_mem_set i; rwa [emb32] at h⟩

/-- THE ARRAY after the run: `G32` of the argument arrays as launched. -/
theorem final32 (c : Dev nD) : (dats m 0 c).arrAt 32 cfg0.N = G32 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  ((dats m 0 c).arrAt_eq_of_cover 32 (G32 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) (fun t _ => flushed32_eq m c t) covered32).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16, V_main_arg17, V_main_arg18, V_main_arg19, V_main_arg20, V_main_arg21, V_main_arg22, V_main_arg23, V_main_arg24, V_main_arg25])

/-! ### Output window 33: the array after the run -/

/-- What the window's array ends holding: `out0_33` applied to the argument arrays in place of the input blocks (a value that the
    frame states apart, `kK_payN a…`, keeps its loads inside its own definition). -/
abbrev G33 (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : Vec F S16x960x288 .fp8e4m3 :=
  k0_pay50 (Scalar.ofBits .f32 0xFF800000#32) (k0_pay72 a0 a1 a2 a3 a4 a5 a6 a7 a8 a9 a10 a11 a12 a13 a14 a15 a16 a17 a18 a19 a20 a21 a22 a23 a24 a25) (k0_pay73 a0 a1 a2 a3 a4 a5 a6 a7 a8 a9 a10 a11 a12 a13 a14 a15 a16 a17 a18 a19 a20 a21 a22 a23 a24 a25)

/-- The one store through the whole rectangle leaves its payload. -/
theorem out33_eq (a0 : Vec F S16x40x24x576 .fp8e4m3) (a1 : Vec F S1 .f32) (a2 : Vec F S576x2x288 .fp8e4m3) (a3 : Vec F S2x288 .f32) (a4 : Vec F S2x288 .f32) (a5 : Vec F S1 .f32) (a6 : Vec F S2x2592x288 .fp8e4m3) (a7 : Vec F S2x2592x288 .fp8e4m3) (a8 : Vec F S2x288 .f32) (a9 : Vec F S2x288 .f32) (a10 : Vec F S2x288 .f32) (a11 : Vec F S2x288 .f32) (a12 : Vec F S2 .f32) (a13 : Vec F S2 .f32) (a14 : Vec F S4x288x576 .fp8e4m3) (a15 : Vec F S576 .f32) (a16 : Vec F S576 .f32) (a17 : Vec F S1 .f32) (a18 : Vec F S576x288 .fp8e4m3) (a19 : Vec F S288 .f32) (a20 : Vec F S288 .f32) (a21 : Vec F S1 .f32) (a22 : Vec F S4x288x576 .fp8e4m3) (a23 : Vec F S576 .f32) (a24 : Vec F S576 .f32) (a25 : Vec F S1 .f32) : out0_33 (F := F) a0 a1 a2 a3 a4 a5 a6 a7 a8 a9 a10 a11 a12 a13 a14 a15 a16 a17 a18 a19 a20 a21 a22 a23 a24 a25 = G33 a0 a1 a2 a3 a4 a5 a6 a7 a8 a9 a10 a11 a12 a13 a14 a15 a16 a17 a18 a19 a20 a21 a22 a23 a24 a25 := by
  unfold out0_33
  rw [View.canon_unit_zero hz33]

/-- Cutting the point's block out of `X` and reading `X` through the block's view give the same. -/
theorem cut33_eq (t : Fin cfg0.N) (X : Vec F S16x960x288 .fp8e4m3) :
    (cfg0.win 33).cut (grid0.coords t) X = ((cfg0.win 33).blk t).view.read (Elt F) X := by
  funext j
  show X j = X (((cfg0.win 33).blk t).view.emb j)
  rw [emb33]

/-- WHAT THE POINT WRITES BACK is its block of `G33` of the argument arrays as the region finds them. -/
theorem flushed33_eq (c : Dev nD) (t : Fin cfg0.N) :
    (dats m 0 c).flushed 33 t = ((cfg0.win 33).blk t).view.read (Elt F) (G33 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) := by
  show (cfg0.win 33).cut (grid0.coords t) ((dats m 0 c).after 33 t) = _
  rw [after0_33, out33_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq]
  exact cut33_eq t _

/-- Every index of the array is in the point's block. -/
theorem covered33 (i : S16x960x288.Idx) :
    ∃ t : Fin cfg0.N, (cfg0.win 33).flush t = true ∧ i ∈ ((cfg0.win 33).blk t).view.set :=
  ⟨(⟨0, by decide⟩ : Fin cfg0.N), flush0_33 _, by have h := ((cfg0.win 33).blk (⟨0, by decide⟩ : Fin cfg0.N)).view.emb_mem_set i; rwa [emb33] at h⟩

/-- THE ARRAY after the run: `G33` of the argument arrays as launched. -/
theorem final33 (c : Dev nD) : (dats m 0 c).arrAt 33 cfg0.N = G33 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  ((dats m 0 c).arrAt_eq_of_cover 33 (G33 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)) (fun t _ => flushed33_eq m c t) covered33).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16, V_main_arg17, V_main_arg18, V_main_arg19, V_main_arg20, V_main_arg21, V_main_arg22, V_main_arg23, V_main_arg24, V_main_arg25])

/-! ## The run, read -/

set_option maxHeartbeats 643400 in
/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G26 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_v0_1) = G27 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_v0_2) = G28 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_v0_3) = G29 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_v0_4) = G30 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_v0_5) = G31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_v0_6) = G32 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_v0_7) = G33 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(post26 m r h c).trans (final26 m c),
      (post27 m r h c).trans (final27 m c),
      (post28 m r h c).trans (final28 m c),
      (post29 m r h c).trans (final29 m c),
      (post30 m r h c).trans (final30 m c),
      (post31 m r h c).trans (final31 m c),
      (post32 m r h c).trans (final32 m c),
      (post33 m r h c).trans (final33 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c⟩)
    (run_main m ρ)

end Cert.ReferenceIdeal.Value

end
-- ==== Proof.Model.lean ====
/-
  The mathematics that both programs compute, on the extended reals, for one image: values are functions of a
  row `r = 24 * h + w` of the flattened 40 x 24 image and of a channel. Nothing here mentions tiles, memories or
  either program.
-/
module

public import Idealize.ShloMosaic.Lib.Pointwise

@[expose] public section

noncomputable section

namespace C2f

open Idealize.ShloMosaic

/-- `z / (1 + exp (-z))`, spelt as the product both programs form. -/
def silu (z : EReal) : EReal := z * Ideal.div 1 (1 + Ideal.exp (0 - z))

/-- The quantiser: the quotient by the scale, clipped to ±448 (the rounding to eight bits is the identity here). -/
def quant (v s : EReal) : EReal :=
  min (Ideal.ofBits .f32 0x43E00000#32) (max (Ideal.ofBits .f32 0xC3E00000#32) (Ideal.div v s))

/-- The padding value of a maximum. -/
def low : EReal := Ideal.ofBits .f32 0xFF800000#32

/-- The image `g` (one channel) shifted by `(ky - p, kx - p)`, with `fill` outside of the 40 x 24 image. -/
def tap (p ky kx : ℕ) (fill : EReal) (g : Fin 960 → EReal) (r : Fin 960) : EReal :=
  if h : (p ≤ r.val / 24 + ky ∧ r.val / 24 + ky < 40 + p) ∧ p ≤ r.val % 24 + kx ∧ r.val % 24 + kx < 24 + p then
    g ⟨(r.val / 24 + ky - p) * 24 + (r.val % 24 + kx - p), by omega⟩
  else fill

/-- One tap's part of a 3 x 3 convolution: the shifted image against rows `288 t …` of the weights. -/
def convTap (ky kx t : ℕ) (ht : t < 9) (g : Fin 960 → Fin 288 → EReal) (W : Fin 2592 → Fin 288 → EReal)
    (r : Fin 960) (c : Fin 288) : EReal :=
  ∑ k : Fin 288, tap 1 ky kx 0 (fun q => g q k) r * W ⟨t * 288 + k.val, by omega⟩ c

/-- A 3 x 3 convolution with zero padding, the nine taps added in order. -/
def conv (g : Fin 960 → Fin 288 → EReal) (W : Fin 2592 → Fin 288 → EReal) (r : Fin 960) (c : Fin 288) : EReal :=
  convTap 0 0 0 (by omega) g W r c + convTap 0 1 1 (by omega) g W r c + convTap 0 2 2 (by omega) g W r c
  + convTap 1 0 3 (by omega) g W r c + convTap 1 1 4 (by omega) g W r c + convTap 1 2 5 (by omega) g W r c
  + convTap 2 0 6 (by omega) g W r c + convTap 2 1 7 (by omega) g W r c + convTap 2 2 8 (by omega) g W r c

/-- The maximum over five rows. -/
def colMax (g : Fin 960 → EReal) (r : Fin 960) : EReal :=
  max (max (max (max (tap 2 0 2 low g r) (tap 2 1 2 low g r)) (tap 2 2 2 low g r)) (tap 2 3 2 low g r))
    (tap 2 4 2 low g r)

/-- The maximum over five columns. -/
def rowMax (g : Fin 960 → EReal) (r : Fin 960) : EReal :=
  max (max (max (max (tap 2 2 0 low g r) (tap 2 2 1 low g r)) (tap 2 2 2 low g r)) (tap 2 2 3 low g r))
    (tap 2 2 4 low g r)

/-- The 5 x 5 maximum pool: first down the columns, then along the rows. -/
def pool (g : Fin 960 → Fin 288 → EReal) (r : Fin 960) (c : Fin 288) : EReal :=
  rowMax (colMax fun q => g q c) r

/-- A product of an image with a weight matrix. -/
def mm {k n : ℕ} (g : Fin 960 → Fin k → EReal) (W : Fin k → Fin n → EReal) (r : Fin 960) (c : Fin n) : EReal :=
  ∑ i : Fin k, g r i * W i c

/-- What the network reads for one image: the image, the weights, and per layer the row of factors, the row of biases
and the scales `s` (of the first layer, the second layer, the two pooling layers' activations, then of the two
bottlenecks' inner and outer activations). -/
@[ext] structure Inp where
  x : Fin 960 → Fin 576 → EReal
  wc1 : Fin 2 → Fin 576 → Fin 288 → EReal
  gc1 : Fin 2 → Fin 288 → EReal
  bc1 : Fin 2 → Fin 288 → EReal
  w1 : Fin 2 → Fin 2592 → Fin 288 → EReal
  w2 : Fin 2 → Fin 2592 → Fin 288 → EReal
  g : Fin 4 → Fin 288 → EReal
  b : Fin 4 → Fin 288 → EReal
  wc2 : Fin 4 → Fin 288 → Fin 576 → EReal
  gc2 : Fin 576 → EReal
  bc2 : Fin 576 → EReal
  ws1 : Fin 576 → Fin 288 → EReal
  gs1 : Fin 288 → EReal
  bs1 : Fin 288 → EReal
  ws2 : Fin 4 → Fin 288 → Fin 576 → EReal
  gs2 : Fin 576 → EReal
  bs2 : Fin 576 → EReal
  s : Fin 8 → EReal

namespace Inp

variable (I : Inp)

/-- The two halves of the first layer. -/
def c1 (p : Fin 2) (r : Fin 960) (c : Fin 288) : EReal :=
  quant (silu (mm I.x (I.wc1 p) r c * I.gc1 p c + I.bc1 p c)) (I.s 0)

/-- The inner activation of the first bottleneck. -/
def mid0 (r : Fin 960) (c : Fin 288) : EReal :=
  quant (silu (conv (I.c1 1) (I.w1 0) r c * I.g 0 c + I.b 0 c)) (I.s 4)

/-- The first bottleneck. -/
def out0 (r : Fin 960) (c : Fin 288) : EReal :=
  quant (silu (conv I.mid0 (I.w2 0) r c * I.g 1 c + I.b 1 c) + I.c1 1 r c * I.s 0) (I.s 6)

/-- The inner activation of the second bottleneck. -/
def mid1 (r : Fin 960) (c : Fin 288) : EReal :=
  quant (silu (conv I.out0 (I.w1 1) r c * I.g 2 c + I.b 2 c)) (I.s 5)

/-- The second bottleneck. -/
def out1 (r : Fin 960) (c : Fin 288) : EReal :=
  quant (silu (conv I.mid1 (I.w2 1) r c * I.g 3 c + I.b 3 c) + I.out0 r c * I.s 6) (I.s 7)

/-- The layer that joins the halves and the bottlenecks. -/
def c2f (r : Fin 960) (c : Fin 576) : EReal :=
  quant (silu ((I.s 0 * (mm (I.c1 0) (I.wc2 0) r c + mm (I.c1 1) (I.wc2 1) r c) + I.s 6 * mm I.out0 (I.wc2 2) r c
    + I.s 7 * mm I.out1 (I.wc2 3) r c) * I.gc2 c + I.bc2 c)) (I.s 1)

/-- The image that is pooled. -/
def p0 (r : Fin 960) (c : Fin 288) : EReal :=
  quant (silu (mm I.c2f I.ws1 r c * I.gs1 c + I.bs1 c)) (I.s 2)

/-- Pooled once, down the columns only. -/
def v1 (r : Fin 960) (c : Fin 288) : EReal := colMax (fun q => I.p0 q c) r

/-- Pooled once. -/
def p1 : Fin 960 → Fin 288 → EReal := pool I.p0

/-- Pooled once, then down the columns. -/
def v2 (r : Fin 960) (c : Fin 288) : EReal := colMax (fun q => I.p1 q c) r

/-- Pooled twice. -/
def p2 : Fin 960 → Fin 288 → EReal := pool I.p1

/-- Pooled twice, then down the columns. -/
def v3 (r : Fin 960) (c : Fin 288) : EReal := colMax (fun q => I.p2 q c) r

/-- Pooled three times. -/
def p3 : Fin 960 → Fin 288 → EReal := pool I.p2

/-- The layer over the four pooled images. -/
def sppf (r : Fin 960) (c : Fin 576) : EReal :=
  quant (silu (I.s 2 * (mm I.p0 (I.ws2 0) r c + mm I.p1 (I.ws2 1) r c + mm I.p2 (I.ws2 2) r c + mm I.p3 (I.ws2 3) r c)
    * I.gs2 c + I.bs2 c)) (I.s 3)

end Inp

end C2f
-- ==== Proof.KStage.lean ====
/-
  The vector expressions of the kernel's body, read at an index: masked shifts, split matrix products, the
  convolution's nine taps, the activation and the quantiser.
-/
module

public import proofs.«01_k».proof.Proof.Gen.KernelIdeal.Skeleton
public import proofs.«01_k».proof.Proof.Model

@[expose] public section

set_option maxRecDepth 16384

noncomputable section

namespace C2f

open Cert.KernelIdeal.Gen Idealize.ShloMosaic Cert.KernelIdeal

/-- `v` where the column `q + d` lies in the image, else `f`. -/
def msk (d q : BitVec 32) (v f : EReal) : EReal :=
  Scalar.select (IntOp.andi (IntOp.cmpi .sge (IntOp.addi q d) 0#32) (IntOp.cmpi .slt (IntOp.addi q d) 24#32)) v f

/-- A sum over 288 terms as one over 256 and one over 32. -/
theorem sum_288 (f : Fin 288 → EReal) :
    ∑ k, f k = ∑ k : Fin 256, f ⟨k.val, by omega⟩ + ∑ k : Fin 32, f ⟨256 + k.val, by omega⟩ :=
  Fin.sum_univ_add (a := 256) (b := 32) f

/-- The masked shift of the staged image. -/
def mv (d : BitVec 32) (v24 : IVec S960x288 32) (t : Vec Ideal S960x288 .f32) : FVec Ideal S960x288 .fp8e4m3 :=
  truncf .fp8e4m3 (select (andi (cmpi .sge (addi v24 (broadcast S960x288 d)) (broadcast S960x288 0#32))
    (cmpi .slt (addi v24 (broadcast S960x288 d)) (broadcast S960x288 24#32))) t
    (broadcast S960x288 (Scalar.ofBits .f32 0x00000000#32))) bitsLt_fp8e4m3_f32

theorem mv_apply (d : BitVec 32) (v24 : IVec S960x288 32) (t : Vec Ideal S960x288 .f32) (r : Fin 960) (c : Fin 288) :
    mv d v24 t (ix2 r c) = msk d (v24 (ix2 r c)) (t (ix2 r c)) 0 := by
  pointwise [mv, msk]

/-- A 1 x 288 x 288 block of weights as a matrix. -/
def wK (w : Vec Ideal S1x288x288 .fp8e4m3) : FVec Ideal S288x288 .fp8e4m3 :=
  shapeCast S288x288 w shapeCasts_S1x288x288_S288x288

/-- The product of a 960 x 288 image with a 288 x 288 matrix, split at 256. -/
def mmK (a : FVec Ideal S960x288 .fp8e4m3) (w : Vec Ideal S1x288x288 .fp8e4m3) : FVec Ideal S960x288 .f32 :=
  addf
    (matmul dot_S960x256_S256x288_S960x288_1_0_0_1_n_n none
      (extractStridedSlice S960x256 ![0, 0] a slices_S960x288_o0_0_S960x256)
      (extractStridedSlice S256x288 ![0, 0] (wK w)
        slices_S288x288_o0_0_S256x288) (constant S960x288 .f32 0x00000000#32))
    (matmul dot_S960x32_S32x288_S960x288_1_0_0_1_n_n none
      (extractStridedSlice S960x32 ![0, 256] a slices_S960x288_o0_256_S960x32)
      (extractStridedSlice S32x288 ![256, 0] (wK w)
        slices_S288x288_o256_0_S32x288) (constant S960x288 .f32 0x00000000#32))

theorem mmK_apply (a : FVec Ideal S960x288 .fp8e4m3) (w : Vec Ideal S1x288x288 .fp8e4m3) (r : Fin 960)
    (c : Fin 288) : mmK a w (ix2 r c) = ∑ k : Fin 288, a (ix2 r k) * w (ix3 0 k c) := by
  rw [sum_288]
  pointwise [mmK, wK]

/-- The convolution as the kernel forms it from its nine shifted loads and nine blocks of weights. -/
def convK (v24 : IVec S960x288 32) (t0 t1 t2 t3 t4 t5 t6 t7 t8 : Vec Ideal S960x288 .f32)
    (w0 w1 w2 w3 w4 w5 w6 w7 w8 : Vec Ideal S1x288x288 .fp8e4m3) : FVec Ideal S960x288 .f32 :=
  addf (addf (addf (addf (addf (addf (addf (addf (mmK (mv 4294967295#32 v24 t0) w0)
    (mmK (truncf .fp8e4m3 t1 bitsLt_fp8e4m3_f32) w1)) (mmK (mv 1#32 v24 t2) w2)) (mmK (mv 4294967295#32 v24 t3) w3))
    (mmK (truncf .fp8e4m3 t4 bitsLt_fp8e4m3_f32) w4)) (mmK (mv 1#32 v24 t5) w5)) (mmK (mv 4294967295#32 v24 t6) w6))
    (mmK (truncf .fp8e4m3 t7 bitsLt_fp8e4m3_f32) w7)) (mmK (mv 1#32 v24 t8) w8)

/-- The affine map with a row of factors and a row of biases. -/
def linK (a : FVec Ideal S960x288 .f32) (g b : Vec Ideal S1x288 .f32) : FVec Ideal S960x288 .f32 :=
  addf (mulf a (broadcastTo S960x288 (shapeCast S1x288 g shapeCasts_S1x288_S1x288) broadcasts_S1x288_S960x288))
    (broadcastTo S960x288 (shapeCast S1x288 b shapeCasts_S1x288_S1x288) broadcasts_S1x288_S960x288)

/-- The activation. -/
def siluK (z : FVec Ideal S960x288 .f32) : FVec Ideal S960x288 .f32 :=
  mulf z (divf (broadcast S960x288 (Scalar.ofBits .f32 0x3F800000#32))
    (addf (broadcast S960x288 (Scalar.ofBits .f32 0x3F800000#32))
      (exp (subf (broadcast S960x288 (Scalar.ofBits .f32 0x00000000#32)) z))))

/-- The quantiser. -/
def quantK (v : FVec Ideal S960x288 .f32) (s : Ideal .f32) : FVec Ideal S960x288 .fp8e4m3 :=
  truncf .fp8e4m3 (minimumf (broadcast S960x288 (Scalar.ofBits .f32 0x43E00000#32))
    (maximumf (broadcast S960x288 (Scalar.ofBits .f32 0xC3E00000#32)) (divf v (broadcast S960x288 s))))
    bitsLt_fp8e4m3_f32

theorem linK_apply (a : FVec Ideal S960x288 .f32) (g b : Vec Ideal S1x288 .f32) (r : Fin 960) (c : Fin 288) :
    linK a g b (ix2 r c) = a (ix2 r c) * g (ix2 0 c) + b (ix2 0 c) := by
  pointwise [linK]

theorem siluK_apply (z : FVec Ideal S960x288 .f32) (r : Fin 960) (c : Fin 288) :
    siluK z (ix2 r c) = silu (z (ix2 r c)) := by
  pointwise [siluK, silu]

theorem quantK_apply (v : FVec Ideal S960x288 .f32) (s : Ideal .f32) (r : Fin 960) (c : Fin 288) :
    quantK v s (ix2 r c) = quant (v (ix2 r c)) s := by
  pointwise [quantK, quant]

end C2f
-- ==== Proof.KConv.lean ====
/-
  The four convolution stages of the kernel's body: what each writes is the quantised activation of the affine image
  of `convK`, with the residual added in the second convolution of a bottleneck.
-/
module

public import proofs.«01_k».proof.Proof.KStage

@[expose] public section

set_option maxRecDepth 16384

noncomputable section

namespace C2f

open Cert.KernelIdeal.Gen Idealize.ShloMosaic Cert.KernelIdeal

/-- The codes `p`, scaled by `s`, added to `v`. -/
def resK (v : FVec Ideal S960x288 .f32) (p : FVec Ideal S960x288 .fp8e4m3) (s : Ideal .f32) : FVec Ideal S960x288 .f32 :=
  addf v (mulf (extf .f32 p bitsLt_fp8e4m3_f32) (broadcast S960x288 s))

theorem resK_apply (v : FVec Ideal S960x288 .f32) (p : FVec Ideal S960x288 .fp8e4m3) (s : Ideal .f32) (r : Fin 960)
    (c : Fin 288) : resK v p s (ix2 r c) = v (ix2 r c) + p (ix2 r c) * s := by
  pointwise [resK]

/-- The first convolution of the first bottleneck. -/
theorem conv0_eq (v24 : IVec S960x288 32) (t0 t1 t2 t3 t4 t5 t6 t7 t8 : Vec Ideal S960x288 .f32)
    (w0 w1 w2 w3 w4 w5 w6 w7 w8 : Vec Ideal S1x288x288 .fp8e4m3) (s4 : Ideal .f32) (g b : Vec Ideal S1x288 .f32) :
    k0_pay31 (k0_pay29 s4 v24 ((k0_pay27 v24 ((k0_pay25 ((k0_pay20 v24 (k0_pay19 v24 t0 w0 t1 w1) t2 w2))
    (k0_pay21 v24 t3) (k0_pay22 w3) (k0_pay23 v24 t3) (k0_pay24 w3) (constant S960x288 .f32 0x00000000#32) t4
    w4)) (k0_pay26 v24 t5 w5) t6 w6 t7 w7)) t8 k0_pay28 w8 g b) k0_pay30
    = quantK (siluK (linK (convK v24 t0 t1 t2 t3 t4 t5 t6 t7 t8 w0 w1 w2 w3 w4 w5 w6 w7 w8) g b)) s4 := by
  simp only [k0_pay31, k0_pay29, k0_pay27, k0_pay25, k0_pay20, k0_pay19, k0_pay21, k0_pay22, k0_pay23,
  k0_pay24, k0_pay26, k0_pay28, k0_pay30, quantK, siluK, linK, convK, mmK, mv, wK]

/-- The second convolution of the first bottleneck. -/
theorem conv1_eq (v24 : IVec S960x288 32) (t0 t1 t2 t3 t4 t5 t6 t7 t8 : Vec Ideal S960x288 .f32)
    (w0 w1 w2 w3 w4 w5 w6 w7 w8 : Vec Ideal S1x288x288 .fp8e4m3) (s0 s6 : Ideal .f32) (prev : FVec Ideal S960x288 .fp8e4m3) (g b : Vec Ideal S1x288 .f32) :
    (k0_pay50 s0 s6 prev ((k0_pay49 v24 ((k0_pay44 v24 ((k0_pay42 v24 ((k0_pay40 (k0_pay36 v24 t0) (k0_pay37
    w0) (k0_pay38 v24 t0) (k0_pay39 w0) t1 w1)) (k0_pay41 v24 t2 w2) t3 w3 t4 w4)) t5 k0_pay43 w5)) (k0_pay46
    w6) (k0_pay47 v24 t6 w6) (k0_pay48 v24 t6) t7 w7 t8 w8)) g b)
    = quantK (resK (siluK (linK (convK v24 t0 t1 t2 t3 t4 t5 t6 t7 t8 w0 w1 w2 w3 w4 w5 w6 w7 w8) g b)) prev s0) s6 := by
  simp only [k0_pay50, k0_pay49, k0_pay44, k0_pay42, k0_pay40, k0_pay36, k0_pay37, k0_pay38, k0_pay39,
  k0_pay41, k0_pay43, k0_pay46, k0_pay47, k0_pay48, k0_pay45, quantK, siluK, linK, convK, mmK, mv, wK, resK]

/-- The first convolution of the second bottleneck. -/
theorem conv2_eq (v24 : IVec S960x288 32) (t0 t1 t2 t3 t4 t5 t6 t7 t8 : Vec Ideal S960x288 .f32)
    (w0 w1 w2 w3 w4 w5 w6 w7 w8 : Vec Ideal S1x288x288 .fp8e4m3) (s5 : Ideal .f32) (g b : Vec Ideal S1x288 .f32) :
    k0_pay70 (k0_pay68 s5 v24 ((k0_pay67 v24 ((k0_pay61 ((k0_pay57 v24 (k0_pay56 v24 t0 w0 t1 w1) t2 w2))
    (k0_pay58 v24 t3) (k0_pay59 w3) (k0_pay60 v24 t3) t4 w4)) (k0_pay64 v24 t5 w5) (k0_pay65 v24 t5)
    (k0_pay66 w5) (constant S960x288 .f32 0x00000000#32) t6 w6 t7 w7)) t8 w8 g b) (Scalar.ofBits .f32
    0x43E00000#32) k0_pay69
    = quantK (siluK (linK (convK v24 t0 t1 t2 t3 t4 t5 t6 t7 t8 w0 w1 w2 w3 w4 w5 w6 w7 w8) g b)) s5 := by
  simp only [k0_pay70, k0_pay68, k0_pay67, k0_pay61, k0_pay57, k0_pay56, k0_pay58, k0_pay59, k0_pay60,
  k0_pay64, k0_pay65, k0_pay66, k0_pay69, k0_pay62, k0_pay63, quantK, siluK, linK, convK, mmK, mv, wK]

/-- The second convolution of the second bottleneck. -/
theorem conv3_eq (v24 : IVec S960x288 32) (t0 t1 t2 t3 t4 t5 t6 t7 t8 : Vec Ideal S960x288 .f32)
    (w0 w1 w2 w3 w4 w5 w6 w7 w8 : Vec Ideal S1x288x288 .fp8e4m3) (s6 s7 : Ideal .f32) (prev : FVec Ideal S960x288 .fp8e4m3) (g b : Vec Ideal S1x288 .f32) :
    (k0_pay91 s6 s7 prev ((k0_pay89 ((k0_pay84 v24 ((k0_pay83 v24 ((k0_pay77 (k0_pay75 v24 t0) (k0_pay76 w0)
    t1 w1)) (k0_pay80 v24 t2 w2) (k0_pay81 v24 t2) (k0_pay82 w2) (constant S960x288 .f32 0x00000000#32) t3 w3
    t4 w4)) t5 w5)) (k0_pay85 v24 t6) (k0_pay86 w6) (k0_pay87 v24 t6) (k0_pay88 w6) (constant S960x288 .f32
    0x00000000#32) t7 w7)) (k0_pay90 v24 t8 w8) g b)
    = quantK (resK (siluK (linK (convK v24 t0 t1 t2 t3 t4 t5 t6 t7 t8 w0 w1 w2 w3 w4 w5 w6 w7 w8) g b)) prev s6) s7 := by
  simp only [k0_pay91, k0_pay89, k0_pay84, k0_pay83, k0_pay77, k0_pay75, k0_pay76, k0_pay80, k0_pay81,
  k0_pay82, k0_pay85, k0_pay86, k0_pay87, k0_pay88, k0_pay90, k0_pay78, k0_pay79, quantK, siluK, linK, convK,
  mmK, mv, wK, resK]

end C2f
-- ==== Proof.Stage.lean ====
/-
  The kernel's staging buffer: 64 rows of a fill value, the 960 rows of an image, 64 rows of the fill value. A load
  of 960 rows at an offset, masked by column, is the image shifted in two dimensions.
-/
module

public import proofs.«01_k».proof.Proof.KStage
public import Idealize.ShloMosaic.Lib.Pipeline.FrameBody

@[expose] public section

set_option maxRecDepth 16384

noncomputable section

namespace C2f

open Cert.KernelIdeal.Gen Idealize.ShloMosaic Cert.KernelIdeal

/-- What a load of 960 rows from row `o` of the staging buffer finds: the image `g` from row 64, `f` around it. -/
def stg (o : ℕ) (f : EReal) (g : Fin 960 → EReal) (r : Fin 960) : EReal :=
  if h : 64 ≤ o + r.val ∧ o + r.val < 1024 then g ⟨o + r.val - 64, by omega⟩ else f

/-- A load from the staging buffer, after the image and the two fills were stored, finds `stg`. -/
theorem stage_read (v : View sig .tc .vmem S1088x288 .f32) (V : Vec Ideal S960x288 .f32) (hi lo : Vec Ideal S64x288 .f32)
    (f : EReal) (hhi : ∀ y, hi y = f) (hlo : ∀ y, lo y = f) (L : List (View.Piece (Elt Ideal) S1088x288 .f32)) (o : ℕ)
    (i1 : ∀ a, (![64, 0] : Fin 2 → ℕ) a + S960x288.size a ≤ S1088x288.size a)
    (i2 : ∀ a, (![1024, 0] : Fin 2 → ℕ) a + S64x288.size a ≤ S1088x288.size a)
    (i3 : ∀ a, (![0, 0] : Fin 2 → ℕ) a + S64x288.size a ≤ S1088x288.size a)
    (i4 : ∀ a, (![o, 0] : Fin 2 → ℕ) a + S960x288.size a ≤ S1088x288.size a) (r : Fin 960) (c : Fin 288) :
    v.readCov (⟨Rect.unit (s := S1088x288) ![64, 0] S960x288.size i1, V⟩
      :: ⟨Rect.unit (s := S1088x288) ![1024, 0] S64x288.size i2, hi⟩
      :: ⟨Rect.unit (s := S1088x288) ![0, 0] S64x288.size i3, lo⟩ :: L)
      (Rect.unit (s := S1088x288) ![o, 0] S960x288.size i4).toLoadRect (ix2 r c)
    = stg o f (fun q => V (ix2 q c)) r := by
  have ho : o + 960 ≤ 1088 := i4 0
  rw [View.readCov_eq_canon']
  have hidx : (Rect.unit (s := S1088x288) ![o, 0] S960x288.size i4).toLoadRect.idx (ix2 r c)
      = (ix2 ⟨o + r.val, by omega⟩ c : S1088x288.Idx) := by
    funext a
    apply Fin.ext
    match a with
    | 0 => simp
    | 1 => simp
  show View.canon _ ((Rect.unit (s := S1088x288) ![o, 0] S960x288.size i4).toLoadRect.idx (ix2 r c)) = _
  rw [hidx]
  unfold stg
  split
  · next h =>
    have e : (ix2 ⟨o + r.val, by omega⟩ c : S1088x288.Idx)
        = (Rect.unit (s := S1088x288) ![64, 0] S960x288.size i1).emb (ix2 ⟨o + r.val - 64, by omega⟩ c) := by
      funext a
      apply Fin.ext
      match a with
      | 0 => simp; omega
      | 1 => simp
    rw [e]
    exact View.canon_cons_emb _ _ _ _
  · next h =>
    rw [View.canon_cons_of_not_mem]
    swap
    · intro hm
      have hm' : _ ∈ (Rect.unit (s := S1088x288) ![64, 0] S960x288.size i1).set := hm
      have h0 := (Rect.mem_set_unit.mp hm') 0
      exact h ⟨h0.1, h0.2⟩
    by_cases h2 : 1024 ≤ o + r.val
    · have e : (ix2 ⟨o + r.val, by omega⟩ c : S1088x288.Idx)
          = (Rect.unit (s := S1088x288) ![1024, 0] S64x288.size i2).emb (ix2 ⟨o + r.val - 1024, by omega⟩ c) := by
        funext a
        apply Fin.ext
        match a with
        | 0 => simp; omega
        | 1 => simp
      rw [e]
      exact (View.canon_cons_emb _ _ _ _).trans (hhi _)
    · rw [View.canon_cons_of_not_mem]
      swap
      · intro hm
        have hm' : _ ∈ (Rect.unit (s := S1088x288) ![1024, 0] S64x288.size i2).set := hm
        have h0 := (Rect.mem_set_unit.mp hm') 0
        exact h2 h0.1
      have e : (ix2 ⟨o + r.val, by omega⟩ c : S1088x288.Idx)
          = (Rect.unit (s := S1088x288) ![0, 0] S64x288.size i3).emb (ix2 ⟨o + r.val, by omega⟩ c) := by
        funext a
        apply Fin.ext
        match a with
        | 0 => simp
        | 1 => simp
      rw [e]
      exact (View.canon_cons_emb _ _ _ _).trans (hlo _)

/-- The load from row `o`, kept where the shifted column lies in the image, is the shift in two dimensions. -/
theorem tap_eq (p ky kx o : ℕ) (ho : o + 25 * p = 64 + ky * 24 + kx) (f : EReal) (g : Fin 960 → EReal)
    (r : Fin 960) : (if p ≤ r.val % 24 + kx ∧ r.val % 24 + kx < 24 + p then stg o f g r else f)
      = tap p ky kx f g r := by
  have hr := r.isLt
  unfold tap stg
  split
  · next h =>
    split
    · next h1 =>
      rw [dif_pos (by omega)]
      congr 1
      apply Fin.ext
      show o + r.val - 64 = (r.val / 24 + ky - p) * 24 + (r.val % 24 + kx - p)
      omega
    · next h1 =>
      rw [dif_neg (by omega)]
  · next h => rw [dif_neg (fun hh => h hh.2)]

/-- A shift by whole rows needs no mask. -/
theorem tap_eq_mid (p ky o : ℕ) (ho : o + 24 * p = 64 + ky * 24) (f : EReal) (g : Fin 960 → EReal)
    (r : Fin 960) : stg o f g r = tap p ky p f g r := by
  rw [← tap_eq p ky p o (by omega), if_pos (by omega)]

/-- The unshifted image. -/
theorem tap_self (p : ℕ) (f : EReal) (g : Fin 960 → EReal) (r : Fin 960) : tap p p p f g r = g r := by
  have hr := r.isLt
  unfold tap
  rw [dif_pos (by omega)]
  congr 1
  apply Fin.ext
  show (r.val / 24 + p - p) * 24 + (r.val % 24 + p - p) = _
  omega

/-- The kernel's column counter. -/
theorem pay2_apply (r : Fin 960) (c : Fin 288) : k0_pay2 (ix2 r c) = BitVec.ofNat 32 (r.val % 24) := by
  pointwise [k0_pay2]
  revert r
  decide +kernel

theorem msk_m2 (r : Fin 960) (v f : EReal) : msk 4294967294#32 (BitVec.ofNat 32 (r.val % 24)) v f
    = if 2 ≤ r.val % 24 + 0 ∧ r.val % 24 + 0 < 24 + 2 then v else f := by
  have key : ∀ q : Fin 24, IntOp.andi (IntOp.cmpi .sge (IntOp.addi (BitVec.ofNat 32 q.val) 4294967294#32) 0#32)
      (IntOp.cmpi .slt (IntOp.addi (BitVec.ofNat 32 q.val) 4294967294#32) 24#32)
      = if 2 ≤ q.val + 0 ∧ q.val + 0 < 24 + 2 then 1#1 else 0#1 := by decide +kernel
  unfold msk
  rw [key ⟨r.val % 24, Nat.mod_lt _ (by omega)⟩]
  split <;> rfl

theorem msk_m1 (p : ℕ) (hp : p = 1 ∨ p = 2) (r : Fin 960) (v f : EReal) : msk 4294967295#32 (BitVec.ofNat 32 (r.val % 24)) v f
    = if p ≤ r.val % 24 + (p - 1) ∧ r.val % 24 + (p - 1) < 24 + p then v else f := by
  have key : ∀ q : Fin 24, IntOp.andi (IntOp.cmpi .sge (IntOp.addi (BitVec.ofNat 32 q.val) 4294967295#32) 0#32)
      (IntOp.cmpi .slt (IntOp.addi (BitVec.ofNat 32 q.val) 4294967295#32) 24#32)
      = if 1 ≤ q.val ∧ q.val < 25 then 1#1 else 0#1 := by decide +kernel
  unfold msk
  rw [key ⟨r.val % 24, Nat.mod_lt _ (by omega)⟩]
  dsimp only
  by_cases h : 1 ≤ r.val % 24 ∧ r.val % 24 < 25
  · rw [if_pos h, if_pos (by omega)]; rfl
  · rw [if_neg h, if_neg (by omega)]; rfl

theorem msk_p1 (p : ℕ) (hp : p = 1 ∨ p = 2) (r : Fin 960) (v f : EReal) : msk 1#32 (BitVec.ofNat 32 (r.val % 24)) v f
    = if p ≤ r.val % 24 + (p + 1) ∧ r.val % 24 + (p + 1) < 24 + p then v else f := by
  have key : ∀ q : Fin 24, IntOp.andi (IntOp.cmpi .sge (IntOp.addi (BitVec.ofNat 32 q.val) 1#32) 0#32)
      (IntOp.cmpi .slt (IntOp.addi (BitVec.ofNat 32 q.val) 1#32) 24#32)
      = if q.val < 23 then 1#1 else 0#1 := by decide +kernel
  unfold msk
  rw [key ⟨r.val % 24, Nat.mod_lt _ (by omega)⟩]
  dsimp only
  by_cases h : r.val % 24 < 23
  · rw [if_pos h, if_pos (by omega)]; rfl
  · rw [if_neg h, if_neg (by omega)]; rfl

theorem msk_p2 (r : Fin 960) (v f : EReal) : msk 2#32 (BitVec.ofNat 32 (r.val % 24)) v f
    = if 2 ≤ r.val % 24 + 4 ∧ r.val % 24 + 4 < 24 + 2 then v else f := by
  have key : ∀ q : Fin 24, IntOp.andi (IntOp.cmpi .sge (IntOp.addi (BitVec.ofNat 32 q.val) 2#32) 0#32)
      (IntOp.cmpi .slt (IntOp.addi (BitVec.ofNat 32 q.val) 2#32) 24#32)
      = if 2 ≤ q.val + 4 ∧ q.val + 4 < 24 + 2 then 1#1 else 0#1 := by decide +kernel
  unfold msk
  rw [key ⟨r.val % 24, Nat.mod_lt _ (by omega)⟩]
  split <;> rfl

/-- The nine masked taps against nine blocks of weights are the convolution. -/
theorem convK_apply (t0 t1 t2 t3 t4 t5 t6 t7 t8 : Vec Ideal S960x288 .f32)
    (w0 w1 w2 w3 w4 w5 w6 w7 w8 : Vec Ideal S1x288x288 .fp8e4m3) (g : Fin 960 → Fin 288 → EReal)
    (W : Fin 2592 → Fin 288 → EReal)
    (h0 : ∀ r k, t0 (ix2 r k) = stg 39 0 (fun q => g q k) r) (h1 : ∀ r k, t1 (ix2 r k) = stg 40 0 (fun q => g q k) r)
    (h2 : ∀ r k, t2 (ix2 r k) = stg 41 0 (fun q => g q k) r) (h3 : ∀ r k, t3 (ix2 r k) = stg 63 0 (fun q => g q k) r)
    (h4 : ∀ r k, t4 (ix2 r k) = stg 64 0 (fun q => g q k) r) (h5 : ∀ r k, t5 (ix2 r k) = stg 65 0 (fun q => g q k) r)
    (h6 : ∀ r k, t6 (ix2 r k) = stg 87 0 (fun q => g q k) r) (h7 : ∀ r k, t7 (ix2 r k) = stg 88 0 (fun q => g q k) r)
    (h8 : ∀ r k, t8 (ix2 r k) = stg 89 0 (fun q => g q k) r)
    (e0 : ∀ k c, w0 (ix3 0 k c) = W ⟨0 * 288 + k.val, by omega⟩ c)
    (e1 : ∀ k c, w1 (ix3 0 k c) = W ⟨1 * 288 + k.val, by omega⟩ c)
    (e2 : ∀ k c, w2 (ix3 0 k c) = W ⟨2 * 288 + k.val, by omega⟩ c)
    (e3 : ∀ k c, w3 (ix3 0 k c) = W ⟨3 * 288 + k.val, by omega⟩ c)
    (e4 : ∀ k c, w4 (ix3 0 k c) = W ⟨4 * 288 + k.val, by omega⟩ c)
    (e5 : ∀ k c, w5 (ix3 0 k c) = W ⟨5 * 288 + k.val, by omega⟩ c)
    (e6 : ∀ k c, w6 (ix3 0 k c) = W ⟨6 * 288 + k.val, by omega⟩ c)
    (e7 : ∀ k c, w7 (ix3 0 k c) = W ⟨7 * 288 + k.val, by omega⟩ c)
    (e8 : ∀ k c, w8 (ix3 0 k c) = W ⟨8 * 288 + k.val, by omega⟩ c) (r : Fin 960) (c : Fin 288) :
    convK k0_pay2 t0 t1 t2 t3 t4 t5 t6 t7 t8 w0 w1 w2 w3 w4 w5 w6 w7 w8 (ix2 r c) = conv g W r c := by
  have a1 : ∀ (t : Vec Ideal S960x288 .f32) (i : S960x288.Idx),
      (truncf .fp8e4m3 t bitsLt_fp8e4m3_f32 : FVec Ideal S960x288 .fp8e4m3) i = t i := fun _ _ => rfl
  have ad : ∀ (a b : FVec Ideal S960x288 .f32) (i : S960x288.Idx), addf a b i = (a i + b i : EReal) := fun _ _ _ => rfl
  unfold convK conv convTap
  simp only [ad, mmK_apply, mv_apply, a1, pay2_apply, msk_m1 1 (Or.inl rfl), msk_p1 1 (Or.inl rfl), h0, h1, h2, h3, h4, h5, h6, h7, h8,
    e0, e1, e2, e3, e4, e5, e6, e7, e8, tap_eq 1 0 (1 - 1) 39 rfl, tap_eq_mid 1 0 40 rfl, tap_eq 1 0 (1 + 1) 41 rfl,
    tap_eq 1 1 (1 - 1) 63 rfl, tap_eq_mid 1 1 64 rfl, tap_eq 1 1 (1 + 1) 65 rfl,
    tap_eq 1 2 (1 - 1) 87 rfl, tap_eq_mid 1 2 88 rfl, tap_eq 1 2 (1 + 1) 89 rfl]

end C2f
-- ==== Proof.KPool.lean ====
/-
  The kernel's pooling stages: four staged loads and the image itself under a maximum, first down the columns, then
  (masked) along the rows.
-/
module

public import proofs.«01_k».proof.Proof.Stage

@[expose] public section

set_option maxRecDepth 16384

noncomputable section

namespace C2f

open Cert.KernelIdeal.Gen Idealize.ShloMosaic Cert.KernelIdeal

/-- The masked shift of the staged image, filled with the padding value of a maximum. -/
def mx (d : BitVec 32) (v24 : IVec S960x288 32) (t : Vec Ideal S960x288 .f32) : FVec Ideal S960x288 .f32 :=
  select (andi (cmpi .sge (addi v24 (broadcast S960x288 d)) (broadcast S960x288 0#32))
    (cmpi .slt (addi v24 (broadcast S960x288 d)) (broadcast S960x288 24#32))) t
    (broadcast S960x288 (Scalar.ofBits .f32 0xFF800000#32))

theorem mx_apply (d : BitVec 32) (v24 : IVec S960x288 32) (t : Vec Ideal S960x288 .f32) (r : Fin 960) (c : Fin 288) :
    mx d v24 t (ix2 r c) = msk d (v24 (ix2 r c)) (t (ix2 r c)) low := by
  pointwise [mx, msk, low]

/-- The maximum down the columns. -/
def vertK (u t0 t1 t2 t3 : FVec Ideal S960x288 .f32) : FVec Ideal S960x288 .f32 :=
  maximumf (maximumf (maximumf (maximumf u t0) t1) t2) t3

/-- The maximum along the rows. -/
def horzK (v24 : IVec S960x288 32) (u t0 t1 t2 t3 : FVec Ideal S960x288 .f32) : FVec Ideal S960x288 .f32 :=
  maximumf (maximumf (maximumf (maximumf u (mx 4294967294#32 v24 t0)) (mx 4294967295#32 v24 t1)) (mx 1#32 v24 t2))
    (mx 2#32 v24 t3)

theorem vertK_apply (u t0 t1 t2 t3 : FVec Ideal S960x288 .f32) (g : Fin 960 → Fin 288 → EReal)
    (hu : ∀ r k, u (ix2 r k) = g r k) (h0 : ∀ r k, t0 (ix2 r k) = stg 16 low (fun q => g q k) r)
    (h1 : ∀ r k, t1 (ix2 r k) = stg 40 low (fun q => g q k) r) (h2 : ∀ r k, t2 (ix2 r k) = stg 88 low (fun q => g q k) r)
    (h3 : ∀ r k, t3 (ix2 r k) = stg 112 low (fun q => g q k) r) (r : Fin 960) (c : Fin 288) :
    vertK u t0 t1 t2 t3 (ix2 r c) = colMax (fun q => g q c) r := by
  have ad : ∀ (a b : FVec Ideal S960x288 .f32) (i : S960x288.Idx), maximumf a b i = (max (a i) (b i) : EReal) :=
    fun _ _ _ => rfl
  unfold vertK colMax
  simp only [ad, hu, h0, h1, h2, h3, tap_eq_mid 2 0 16 rfl, tap_eq_mid 2 1 40 rfl, tap_eq_mid 2 3 88 rfl,
    tap_eq_mid 2 4 112 rfl, tap_self]
  ac_rfl

theorem horzK_apply (u t0 t1 t2 t3 : FVec Ideal S960x288 .f32) (g : Fin 960 → Fin 288 → EReal)
    (hu : ∀ r k, u (ix2 r k) = g r k) (h0 : ∀ r k, t0 (ix2 r k) = stg 62 low (fun q => g q k) r)
    (h1 : ∀ r k, t1 (ix2 r k) = stg 63 low (fun q => g q k) r) (h2 : ∀ r k, t2 (ix2 r k) = stg 65 low (fun q => g q k) r)
    (h3 : ∀ r k, t3 (ix2 r k) = stg 66 low (fun q => g q k) r) (r : Fin 960) (c : Fin 288) :
    horzK k0_pay2 u t0 t1 t2 t3 (ix2 r c) = rowMax (fun q => g q c) r := by
  have ad : ∀ (a b : FVec Ideal S960x288 .f32) (i : S960x288.Idx), maximumf a b i = (max (a i) (b i) : EReal) :=
    fun _ _ _ => rfl
  have e1 : _ = tap 2 2 1 low (fun q => g q c) r := tap_eq 2 2 (2 - 1) 63 rfl low (fun q => g q c) r
  have e2 : _ = tap 2 2 3 low (fun q => g q c) r := tap_eq 2 2 (2 + 1) 65 rfl low (fun q => g q c) r
  unfold horzK rowMax
  simp only [ad, mx_apply, pay2_apply, msk_m2, msk_m1 2 (Or.inr rfl), msk_p1 2 (Or.inr rfl), msk_p2, hu, h0, h1, h2, h3,
    tap_eq 2 2 0 62 rfl, e1, e2, tap_eq 2 2 4 66 rfl, tap_self]
  ac_rfl

/-- The first pool's rows. -/
theorem vert1_eq (s : Ideal .f32) (z e : FVec Ideal S960x288 .f32) (o : Ideal .f32) (t0 t1 t2 t3 : Vec Ideal S960x288 .f32) :
    k0_pay110 s z e o t0 t1 t2 t3 = vertK (extf .f32 (k0_pay104 s z e o) bitsLt_fp8e4m3_f32) t0 t1 t2 t3 := by
  simp only [k0_pay110, k0_pay106, vertK]

theorem horz1_eq (v24 : IVec S960x288 32) (u : FVec Ideal S960x288 .f32) (t0 t1 t2 t3 : Vec Ideal S960x288 .f32) :
    k0_pay116 v24 (k0_pay115 v24 u t0 t1) t2 t3 = horzK v24 u t0 t1 t2 t3 := by
  simp only [k0_pay116, k0_pay115, horzK, mx]

theorem vert2_eq (u : FVec Ideal S960x288 .f32) (t0 t1 t2 t3 : Vec Ideal S960x288 .f32) :
    k0_pay122 u t0 t1 t2 t3 = vertK u t0 t1 t2 t3 := by
  simp only [k0_pay122, vertK]

theorem horz2_eq (v24 : IVec S960x288 32) (u : FVec Ideal S960x288 .f32) (t0 t1 t2 t3 : Vec Ideal S960x288 .f32) :
    k0_pay131 (k0_pay128 v24 u t0 (k0_pay126 v24) (k0_pay127 v24) t1 t2) t3 (k0_pay129 v24) (k0_pay130 v24)
      = horzK v24 u t0 t1 t2 t3 := by
  simp only [k0_pay131, k0_pay128, k0_pay126, k0_pay127, k0_pay129, k0_pay130, horzK, mx]

theorem vert3_eq (v24 : IVec S960x288 32) (u : FVec Ideal S960x288 .f32) (t : Vec Ideal S960x288 .f32) (t0 t1 t2 t3 : Vec Ideal S960x288 .f32) :
    k0_pay135 u t (k0_pay129 v24) (k0_pay130 v24) t0 t1 t2 t3
      = vertK (k0_pay131 u t (k0_pay129 v24) (k0_pay130 v24)) t0 t1 t2 t3 := by
  simp only [k0_pay135, vertK]

theorem horz3_eq (v24 : IVec S960x288 32) (u : FVec Ideal S960x288 .f32) (t0 t1 t2 t3 : Vec Ideal S960x288 .f32) :
    k0_pay143 v24 (k0_pay140 v24 u t0 t1) t2 (k0_pay141 v24) (k0_pay142 v24) t3 = horzK v24 u t0 t1 t2 t3 := by
  simp only [k0_pay143, k0_pay140, k0_pay141, k0_pay142, horzK, mx]

end C2f
-- ==== Proof.KTail.lean ====
/-
  The kernel's matrix products outside of the convolutions: the first layer, the joining layer and the two layers
  around the pools, each read at an index.
-/
module

public import proofs.«01_k».proof.Proof.KStage

@[expose] public section

set_option maxRecDepth 16384

noncomputable section

namespace C2f

open Cert.KernelIdeal.Gen Idealize.ShloMosaic Cert.KernelIdeal

/-- A sum over 576 terms in runs of 256, 256 and 64. -/
theorem sum_576 (f : Fin 576 → EReal) :
    ∑ k, f k = ∑ k : Fin 256, f ⟨k.val, by omega⟩ + ∑ k : Fin 256, f ⟨256 + k.val, by omega⟩
      + ∑ k : Fin 64, f ⟨512 + k.val, by omega⟩ := by
  rw [Fin.sum_univ_add (a := 512) (b := 64) f, Fin.sum_univ_add (a := 256) (b := 256)]
  rfl

/-- A sum over 1152 terms in runs of 256 and 128. -/
theorem sum_1152 (f : Fin 1152 → EReal) :
    ∑ k, f k = ∑ k : Fin 256, f ⟨k.val, by omega⟩ + ∑ k : Fin 256, f ⟨256 + k.val, by omega⟩
      + ∑ k : Fin 256, f ⟨512 + k.val, by omega⟩ + ∑ k : Fin 256, f ⟨768 + k.val, by omega⟩
      + ∑ k : Fin 128, f ⟨1024 + k.val, by omega⟩ := by
  rw [Fin.sum_univ_add (a := 1024) (b := 128) f, Fin.sum_univ_add (a := 768) (b := 256),
    Fin.sum_univ_add (a := 512) (b := 256), Fin.sum_univ_add (a := 256) (b := 256)]
  rfl

/-- A sum over 576 terms in halves. -/
theorem sum_halves (f : Fin 576 → EReal) :
    ∑ k, f k = ∑ k : Fin 288, f ⟨k.val, by omega⟩ + ∑ k : Fin 288, f ⟨288 + k.val, by omega⟩ :=
  Fin.sum_univ_add (a := 288) (b := 288) f

/-- A sum over 1152 terms in quarters. -/
theorem sum_quarters (f : Fin 1152 → EReal) :
    ∑ k, f k = ∑ k : Fin 288, f ⟨k.val, by omega⟩ + ∑ k : Fin 288, f ⟨288 + k.val, by omega⟩
      + ∑ k : Fin 288, f ⟨576 + k.val, by omega⟩ + ∑ k : Fin 288, f ⟨864 + k.val, by omega⟩ := by
  rw [Fin.sum_univ_add (a := 864) (b := 288) f, Fin.sum_univ_add (a := 576) (b := 288),
    Fin.sum_univ_add (a := 288) (b := 288)]
  rfl

/-- The product of a 960 x 576 image with a 576 x 288 matrix. -/
def mmA (a : FVec Ideal S960x576 .fp8e4m3) (w : FVec Ideal S576x288 .fp8e4m3) : FVec Ideal S960x288 .f32 :=
  addf (addf
    (matmul dot_S960x256_S256x288_S960x288_1_0_0_1_n_n none
      (extractStridedSlice S960x256 ![0, 0] a slices_S960x576_o0_0_S960x256)
      (extractStridedSlice S256x288 ![0, 0] w slices_S576x288_o0_0_S256x288) (constant S960x288 .f32 0x00000000#32))
    (matmul dot_S960x256_S256x288_S960x288_1_0_0_1_n_n none
      (extractStridedSlice S960x256 ![0, 256] a slices_S960x576_o0_256_S960x256)
      (extractStridedSlice S256x288 ![256, 0] w slices_S576x288_o256_0_S256x288) (constant S960x288 .f32 0x00000000#32)))
    (matmul dot_S960x64_S64x288_S960x288_1_0_0_1_n_n none
      (extractStridedSlice S960x64 ![0, 512] a slices_S960x576_o0_512_S960x64)
      (extractStridedSlice S64x288 ![512, 0] w slices_S576x288_o512_0_S64x288) (constant S960x288 .f32 0x00000000#32))

theorem mmA_apply (a : FVec Ideal S960x576 .fp8e4m3) (w : FVec Ideal S576x288 .fp8e4m3) (r : Fin 960) (c : Fin 288) :
    mmA a w (ix2 r c) = ∑ k : Fin 576, a (ix2 r k) * w (ix2 k c) := by
  rw [sum_576]
  pointwise [mmA]

/-- The product of a 960 x 576 image with a 576 x 576 matrix. -/
def mmB (a : FVec Ideal S960x576 .fp8e4m3) (w : FVec Ideal S576x576 .fp8e4m3) : FVec Ideal S960x576 .f32 :=
  addf (addf
    (matmul dot_S960x256_S256x576_S960x576_1_0_0_1_n_n none
      (extractStridedSlice S960x256 ![0, 0] a slices_S960x576_o0_0_S960x256)
      (extractStridedSlice S256x576 ![0, 0] w slices_S576x576_o0_0_S256x576) (constant S960x576 .f32 0x00000000#32))
    (matmul dot_S960x256_S256x576_S960x576_1_0_0_1_n_n none
      (extractStridedSlice S960x256 ![0, 256] a slices_S960x576_o0_256_S960x256)
      (extractStridedSlice S256x576 ![256, 0] w slices_S576x576_o256_0_S256x576) (constant S960x576 .f32 0x00000000#32)))
    (matmul dot_S960x64_S64x576_S960x576_1_0_0_1_n_n none
      (extractStridedSlice S960x64 ![0, 512] a slices_S960x576_o0_512_S960x64)
      (extractStridedSlice S64x576 ![512, 0] w slices_S576x576_o512_0_S64x576) (constant S960x576 .f32 0x00000000#32))

theorem mmB_apply (a : FVec Ideal S960x576 .fp8e4m3) (w : FVec Ideal S576x576 .fp8e4m3) (r : Fin 960) (c : Fin 576) :
    mmB a w (ix2 r c) = ∑ k : Fin 576, a (ix2 r k) * w (ix2 k c) := by
  rw [sum_576]
  pointwise [mmB]

/-- The product of a 960 x 288 image with a 288 x 576 block of weights. -/
def wC (w : Vec Ideal S1x288x576 .fp8e4m3) : FVec Ideal S288x576 .fp8e4m3 :=
  shapeCast S288x576 w shapeCasts_S1x288x576_S288x576

@[inherit_doc wC]
def mmC (a : FVec Ideal S960x288 .fp8e4m3) (w : Vec Ideal S1x288x576 .fp8e4m3) : FVec Ideal S960x576 .f32 :=
  addf
    (matmul dot_S960x256_S256x576_S960x576_1_0_0_1_n_n none
      (extractStridedSlice S960x256 ![0, 0] a slices_S960x288_o0_0_S960x256)
      (extractStridedSlice S256x576 ![0, 0] (wC w) slices_S288x576_o0_0_S256x576) (constant S960x576 .f32 0x00000000#32))
    (matmul dot_S960x32_S32x576_S960x576_1_0_0_1_n_n none
      (extractStridedSlice S960x32 ![0, 256] a slices_S960x288_o0_256_S960x32)
      (extractStridedSlice S32x576 ![256, 0] (wC w) slices_S288x576_o256_0_S32x576) (constant S960x576 .f32 0x00000000#32))

theorem mmC_apply (a : FVec Ideal S960x288 .fp8e4m3) (w : Vec Ideal S1x288x576 .fp8e4m3) (r : Fin 960) (c : Fin 576) :
    mmC a w (ix2 r c) = ∑ k : Fin 288, a (ix2 r k) * w (ix3 0 k c) := by
  rw [sum_288]
  pointwise [mmC, wC]

/-- The product of a 960 x 1152 image with a 1152 x 576 matrix. -/
def mmD (a : FVec Ideal S960x1152 .fp8e4m3) (w : FVec Ideal S1152x576 .fp8e4m3) : FVec Ideal S960x576 .f32 :=
  addf (addf (addf (addf
    (matmul dot_S960x256_S256x576_S960x576_1_0_0_1_n_n none
      (extractStridedSlice S960x256 ![0, 0] a slices_S960x1152_o0_0_S960x256)
      (extractStridedSlice S256x576 ![0, 0] w slices_S1152x576_o0_0_S256x576) (constant S960x576 .f32 0x00000000#32))
    (matmul dot_S960x256_S256x576_S960x576_1_0_0_1_n_n none
      (extractStridedSlice S960x256 ![0, 256] a slices_S960x1152_o0_256_S960x256)
      (extractStridedSlice S256x576 ![256, 0] w slices_S1152x576_o256_0_S256x576) (constant S960x576 .f32 0x00000000#32)))
    (matmul dot_S960x256_S256x576_S960x576_1_0_0_1_n_n none
      (extractStridedSlice S960x256 ![0, 512] a slices_S960x1152_o0_512_S960x256)
      (extractStridedSlice S256x576 ![512, 0] w slices_S1152x576_o512_0_S256x576) (constant S960x576 .f32 0x00000000#32)))
    (matmul dot_S960x256_S256x576_S960x576_1_0_0_1_n_n none
      (extractStridedSlice S960x256 ![0, 768] a slices_S960x1152_o0_768_S960x256)
      (extractStridedSlice S256x576 ![768, 0] w slices_S1152x576_o768_0_S256x576) (constant S960x576 .f32 0x00000000#32)))
    (matmul dot_S960x128_S128x576_S960x576_1_0_0_1_n_n none
      (extractStridedSlice S960x128 ![0, 1024] a slices_S960x1152_o0_1024_S960x128)
      (extractStridedSlice S128x576 ![1024, 0] w slices_S1152x576_o1024_0_S128x576) (constant S960x576 .f32 0x00000000#32))

theorem mmD_apply (a : FVec Ideal S960x1152 .fp8e4m3) (w : FVec Ideal S1152x576 .fp8e4m3) (r : Fin 960) (c : Fin 576) :
    mmD a w (ix2 r c) = ∑ k : Fin 1152, a (ix2 r k) * w (ix2 k c) := by
  rw [sum_1152]
  pointwise [mmD]

/-- The affine map, the activation and the quantiser at 576 channels. -/
def linW (a : FVec Ideal S960x576 .f32) (g b : Vec Ideal S1x576 .f32) : FVec Ideal S960x576 .f32 :=
  addf (mulf a (broadcastTo S960x576 (shapeCast S1x576 g shapeCasts_S1x576_S1x576) broadcasts_S1x576_S960x576))
    (broadcastTo S960x576 (shapeCast S1x576 b shapeCasts_S1x576_S1x576) broadcasts_S1x576_S960x576)

@[inherit_doc linW]
def siluW (z : FVec Ideal S960x576 .f32) : FVec Ideal S960x576 .f32 :=
  mulf z (divf (broadcast S960x576 (Scalar.ofBits .f32 0x3F800000#32))
    (addf (broadcast S960x576 (Scalar.ofBits .f32 0x3F800000#32))
      (exp (subf (broadcast S960x576 (Scalar.ofBits .f32 0x00000000#32)) z))))

@[inherit_doc linW]
def quantW (v : FVec Ideal S960x576 .f32) (s : Ideal .f32) : FVec Ideal S960x576 .fp8e4m3 :=
  truncf .fp8e4m3 (minimumf (broadcast S960x576 (Scalar.ofBits .f32 0x43E00000#32))
    (maximumf (broadcast S960x576 (Scalar.ofBits .f32 0xC3E00000#32)) (divf v (broadcast S960x576 s))))
    bitsLt_fp8e4m3_f32

theorem linW_apply (a : FVec Ideal S960x576 .f32) (g b : Vec Ideal S1x576 .f32) (r : Fin 960) (c : Fin 576) :
    linW a g b (ix2 r c) = a (ix2 r c) * g (ix2 0 c) + b (ix2 0 c) := by
  pointwise [linW]

theorem siluW_apply (z : FVec Ideal S960x576 .f32) (r : Fin 960) (c : Fin 576) :
    siluW z (ix2 r c) = silu (z (ix2 r c)) := by
  pointwise [siluW, silu]

theorem quantW_apply (v : FVec Ideal S960x576 .f32) (s : Ideal .f32) (r : Fin 960) (c : Fin 576) :
    quantW v s (ix2 r c) = quant (v (ix2 r c)) s := by
  pointwise [quantW, quant]

/-- The joining layer's image: two images side by side. -/
def catA (a b : FVec Ideal S960x288 .fp8e4m3) : FVec Ideal S960x576 .fp8e4m3 :=
  truncf .fp8e4m3 (concatenate S960x576 1 [⟨S960x288, extf .f32 a bitsLt_fp8e4m3_f32⟩, ⟨S960x288, extf .f32 b bitsLt_fp8e4m3_f32⟩]
    concatenates_S960x288_S960x288_S960x576_d1) bitsLt_fp8e4m3_f32

theorem catA_lo (a b : FVec Ideal S960x288 .fp8e4m3) (r : Fin 960) (k : Fin 288) :
    catA a b (ix2 r ⟨k.val, by omega⟩) = a (ix2 r k) := by
  pointwise [catA]

theorem catA_hi (a b : FVec Ideal S960x288 .fp8e4m3) (r : Fin 960) (k : Fin 288) :
    catA a b (ix2 r ⟨288 + k.val, by omega⟩) = b (ix2 r k) := by
  pointwise [catA]

/-- Two blocks of weights below each other. -/
def wB (w : Vec Ideal S2x288x576 .fp8e4m3) : FVec Ideal S576x576 .fp8e4m3 :=
  shapeCast S576x576 w shapeCasts_S2x288x576_S576x576

theorem wB_lo (w : Vec Ideal S2x288x576 .fp8e4m3) (k : Fin 288) (c : Fin 576) :
    wB w (ix2 ⟨k.val, by omega⟩ c) = w (ix3 0 k c) := by
  pointwise [wB]
  congr 2 <;> (apply Fin.ext; simp <;> omega)

theorem wB_hi (w : Vec Ideal S2x288x576 .fp8e4m3) (k : Fin 288) (c : Fin 576) :
    wB w (ix2 ⟨288 + k.val, by omega⟩ c) = w (ix3 1 k c) := by
  pointwise [wB]
  congr 2 <;> (apply Fin.ext; simp <;> omega)

/-- The last layer's image: four images side by side. -/
def catD (a : FVec Ideal S960x288 .fp8e4m3) (b c d : FVec Ideal S960x288 .f32) : FVec Ideal S960x1152 .fp8e4m3 :=
  truncf .fp8e4m3 (concatenate S960x1152 1 [⟨S960x288, extf .f32 a bitsLt_fp8e4m3_f32⟩, ⟨S960x288, b⟩, ⟨S960x288, c⟩, ⟨S960x288, d⟩]
    concatenates_S960x288_S960x288_S960x288_S960x288_S960x1152_d1) bitsLt_fp8e4m3_f32

theorem catD_0 (a : FVec Ideal S960x288 .fp8e4m3) (b c d : FVec Ideal S960x288 .f32) (r : Fin 960) (k : Fin 288) :
    catD a b c d (ix2 r ⟨k.val, by omega⟩) = a (ix2 r k) := by
  pointwise [catD]

theorem catD_1 (a : FVec Ideal S960x288 .fp8e4m3) (b c d : FVec Ideal S960x288 .f32) (r : Fin 960) (k : Fin 288) :
    catD a b c d (ix2 r ⟨288 + k.val, by omega⟩) = b (ix2 r k) := by
  pointwise [catD]

theorem catD_2 (a : FVec Ideal S960x288 .fp8e4m3) (b c d : FVec Ideal S960x288 .f32) (r : Fin 960) (k : Fin 288) :
    catD a b c d (ix2 r ⟨576 + k.val, by omega⟩) = c (ix2 r k) := by
  pointwise [catD]
  rw [dif_neg (by omega), dif_neg (by omega), dif_pos (by omega)]
  congr 2
  apply Fin.ext
  show 576 + k.val - 288 - 288 = k.val
  omega

theorem catD_3 (a : FVec Ideal S960x288 .fp8e4m3) (b c d : FVec Ideal S960x288 .f32) (r : Fin 960) (k : Fin 288) :
    catD a b c d (ix2 r ⟨864 + k.val, by omega⟩) = d (ix2 r k) := by
  pointwise [catD]
  rw [dif_neg (by omega), dif_neg (by omega), dif_neg (by omega)]
  congr 2
  apply Fin.ext
  show 864 + k.val - 288 - 288 - 288 = k.val
  omega

/-- Four blocks of weights below each other. -/
def wD (w : Vec Ideal S4x288x576 .fp8e4m3) : FVec Ideal S1152x576 .fp8e4m3 :=
  shapeCast S1152x576 w shapeCasts_S4x288x576_S1152x576

theorem wD_0 (w : Vec Ideal S4x288x576 .fp8e4m3) (k : Fin 288) (c : Fin 576) :
    wD w (ix2 ⟨k.val, by omega⟩ c) = w (ix3 0 k c) := by
  pointwise [wD]
  congr 2 <;> (apply Fin.ext; simp <;> omega)

theorem wD_1 (w : Vec Ideal S4x288x576 .fp8e4m3) (k : Fin 288) (c : Fin 576) :
    wD w (ix2 ⟨288 + k.val, by omega⟩ c) = w (ix3 1 k c) := by
  pointwise [wD]
  congr 2 <;> (apply Fin.ext; simp <;> omega)

theorem wD_2 (w : Vec Ideal S4x288x576 .fp8e4m3) (k : Fin 288) (c : Fin 576) :
    wD w (ix2 ⟨576 + k.val, by omega⟩ c) = w (ix3 2 k c) := by
  pointwise [wD]
  congr 2 <;> (apply Fin.ext; simp <;> omega)

theorem wD_3 (w : Vec Ideal S4x288x576 .fp8e4m3) (k : Fin 288) (c : Fin 576) :
    wD w (ix2 ⟨864 + k.val, by omega⟩ c) = w (ix3 3 k c) := by
  pointwise [wD]
  congr 2 <;> (apply Fin.ext; simp <;> omega)

/-- The image and a block of the first layer's weights. -/
def xA (x : Vec Ideal S1x960x576 .fp8e4m3) : FVec Ideal S960x576 .fp8e4m3 :=
  shapeCast S960x576 x shapeCasts_S1x960x576_S960x576

@[inherit_doc xA]
def wA (w : Vec Ideal S1x576x288 .fp8e4m3) : FVec Ideal S576x288 .fp8e4m3 :=
  shapeCast S576x288 w shapeCasts_S1x576x288_S576x288

theorem xA_apply (x : Vec Ideal S1x960x576 .fp8e4m3) (r : Fin 960) (k : Fin 576) : xA x (ix2 r k) = x (ix3 0 r k) := by
  pointwise [xA]

theorem wA_apply (w : Vec Ideal S1x576x288 .fp8e4m3) (k : Fin 576) (c : Fin 288) : wA w (ix2 k c) = w (ix3 0 k c) := by
  pointwise [wA]

/-- The first half of the first layer. -/
theorem c10_eq (s : Ideal .f32) (x : Vec Ideal S1x960x576 .fp8e4m3) (w : Vec Ideal S1x576x288 .fp8e4m3) (g b : Vec Ideal S1x288 .f32) :
    k0_pay7 s (k0_pay4 w) (k0_pay5 x w) (k0_pay6 x) g b = quantK (siluK (linK (mmA (xA x) (wA w)) g b)) s := by
  simp only [k0_pay7, k0_pay4, k0_pay5, k0_pay6, k0_pay3, quantK, siluK, linK, mmA, xA, wA, shapeCast_self]

/-- The second half of the first layer. -/
theorem c11_eq (s : Ideal .f32) (x : Vec Ideal S1x960x576 .fp8e4m3) (w : Vec Ideal S1x576x288 .fp8e4m3) (g b : Vec Ideal S1x288 .f32) :
    k0_pay13 s (k0_pay10 (k0_pay3 x) w) (k0_pay11 (k0_pay3 x)) (k0_pay12 w) (constant S960x288 .f32 0x00000000#32) g b
      = quantK (siluK (linK (mmA (xA x) (wA w)) g b)) s := by
  simp only [k0_pay13, k0_pay10, k0_pay3, k0_pay11, k0_pay12, k0_pay9, quantK, siluK, linK, mmA, xA, wA, shapeCast_self]

/-- The joining layer. -/
theorem c2f_eq (s0 s6 s7 s1 : Ideal .f32) (a b o0 o1 : FVec Ideal S960x288 .fp8e4m3) (w : Vec Ideal S2x288x576 .fp8e4m3)
    (w2 w3 : Vec Ideal S1x288x576 .fp8e4m3) (g bb : Vec Ideal S1x576 .f32) :
    k0_pay100 s1
      (k0_pay98 s0 s6 s7 o0 o1 (k0_pay93 a b) (k0_pay94 w) (k0_pay95 a b w) (k0_pay96 a b) (k0_pay97 w) w2 w3 g bb)
      (k0_pay99 s0 s6 s7 o0 o1 (k0_pay93 a b) (k0_pay94 w) (k0_pay95 a b w) (k0_pay96 a b) (k0_pay97 w) w2 w3 g bb)
    = quantW (siluW (linW (addf (addf (mulf (broadcast S960x576 s0) (mmB (catA a b) (wB w)))
        (mulf (broadcast S960x576 s6) (mmC o0 w2))) (mulf (broadcast S960x576 s7) (mmC o1 w3))) g bb)) s1 := by
  simp only [k0_pay100, k0_pay98, k0_pay99, k0_pay93, k0_pay94, k0_pay95, k0_pay96, k0_pay97, quantW, siluW, linW, mmB, mmC, wC, catA, wB]

/-- The layer before the pools. -/
theorem p0_eq (s1 s2 : Ideal .f32) (z e : FVec Ideal S960x576 .f32) (w : Vec Ideal S576x288 .fp8e4m3) (g b : Vec Ideal S1x288 .f32) :
    k0_pay104 s2 (k0_pay102 s1 z e w g b) (k0_pay103 s1 z e w g b) (FloatOps.ofBits .f32 0x3F800000#32)
    = quantK (siluK (linK (mmA (k0_pay100 s1 z e) w) g b)) s2 := by
  simp only [k0_pay104, k0_pay102, k0_pay103, quantK, siluK, linK, mmA]

/-- The last layer. -/
theorem sppf_eq (v24 : IVec S960x288 32) (s2 s3 : Ideal .f32) (p0 : FVec Ideal S960x288 .fp8e4m3) (p1 p2 : FVec Ideal S960x288 .f32)
    (u : FVec Ideal S960x288 .f32) (ta tb : Vec Ideal S960x288 .f32) (q1 : IVec S960x288 1) (q2 : IVec S960x288 32)
    (w : Vec Ideal S4x288x576 .fp8e4m3) (g b : Vec Ideal S1x576 .f32) :
    k0_pay1 s3
      (k0_pay150 s2 (k0_pay145 v24 p0 p1 p2 u ta q1 q2 tb) (k0_pay146 w) (k0_pay147 v24 p0 p1 p2 u ta q1 q2 tb w)
        (k0_pay148 v24 p0 p1 p2 u ta q1 q2 tb) (k0_pay149 w) g b)
      (k0_pay151 s2 (k0_pay145 v24 p0 p1 p2 u ta q1 q2 tb) (k0_pay146 w) (k0_pay147 v24 p0 p1 p2 u ta q1 q2 tb w)
        (k0_pay148 v24 p0 p1 p2 u ta q1 q2 tb) (k0_pay149 w) g b)
    = shapeCast S1x960x576 (quantW (siluW (linW (mulf (broadcast S960x576 s2)
        (mmD (catD p0 p1 p2 (k0_pay143 v24 u ta q1 q2 tb)) (wD w))) g b)) s3) shapeCasts_S960x576_S1x960x576 := by
  simp only [k0_pay1, k0_pay150, k0_pay145, k0_pay146, k0_pay147, k0_pay148, k0_pay149, k0_pay151, quantW, siluW, linW, mmD, catD, wD]

end C2f
-- ==== Proof.KRead.lean ====
/-
  The kernel's loads of parts of its input blocks, read at an index.
-/
module

public import proofs.«01_k».proof.Proof.Gen.KernelIdeal.Skeleton
public import Idealize.ShloMosaic.Lib.Pointwise
public import Idealize.ShloMosaic.Lib.Pipeline.FrameBody

@[expose] public section

set_option maxRecDepth 16384

noncomputable section

namespace C2f

open Cert.KernelIdeal.Gen Idealize.ShloMosaic Cert.KernelIdeal

/-- A load through a rectangle reads the contents at the rectangle's index. -/
theorem rd_idx {s : Shape} {sp : Space} {e : EltTy} (arg : Memref sig .tc sp s e) (h : arg.IsWhole) (x : Vec Ideal s e)
    (r : Rect s) (y : r.shape.Idx) : View.readAt (Elt Ideal) arg.view r.toLoadRect (h.unread x) y = x (r.idx y) := by
  show View.ld (arg.view.read (Elt Ideal) (h.unread x)) r y = _
  rw [h.read_unread]

/-- The image. -/
theorem rd_x0 (arg : Memref sig .tc .vmem S1x960x576 .fp8e4m3) (h : arg.IsWhole) (x : Vec Ideal S1x960x576 .fp8e4m3)
    (inb : ∀ a, (![0, 0, 0] : Fin 3 → ℕ) a + S1x960x576.size a ≤ S1x960x576.size a) (r : Fin 960) (k : Fin 576) :
    View.readAt (Elt Ideal) arg.view (Rect.unit (s := S1x960x576) ![0, 0, 0] S1x960x576.size inb).toLoadRect (h.unread x)
      (ix3 0 r k) = x (ix3 0 r k) := by
  rw [rd_idx]
  congr 1
  funext a
  apply Fin.ext
  match a with
  | 0 => simp
  | 1 => simp
  | 2 => simp

/-- A half of the first layer's weights. -/
theorem rd_x1 (arg : Memref sig .tc .vmem S2x576x288 .fp8e4m3) (h : arg.IsWhole) (x : Vec Ideal S2x576x288 .fp8e4m3) (p : ℕ)
    (inb : ∀ a, (![p, 0, 0] : Fin 3 → ℕ) a + S1x576x288.size a ≤ S2x576x288.size a) (k : Fin 576) (c : Fin 288) :
    View.readAt (Elt Ideal) arg.view (Rect.unit (s := S2x576x288) ![p, 0, 0] S1x576x288.size inb).toLoadRect (h.unread x)
      (ix3 0 k c) = x (ix3 ⟨p, by have h0 : p + 1 ≤ 2 := inb 0; omega⟩ k c) := by
  rw [rd_idx]
  congr 1
  funext a
  apply Fin.ext
  match a with
  | 0 => simp
  | 1 => simp
  | 2 => simp

/-- One tap's block of a convolution's weights. -/
theorem rd_x2 (arg : Memref sig .tc .vmem S2x2592x288 .fp8e4m3) (h : arg.IsWhole) (x : Vec Ideal S2x2592x288 .fp8e4m3) (p o : ℕ)
    (inb : ∀ a, (![p, o, 0] : Fin 3 → ℕ) a + S1x288x288.size a ≤ S2x2592x288.size a) (k c : Fin 288) :
    View.readAt (Elt Ideal) arg.view (Rect.unit (s := S2x2592x288) ![p, o, 0] S1x288x288.size inb).toLoadRect (h.unread x)
      (ix3 0 k c) = x (ix3 ⟨p, by have h0 : p + 1 ≤ 2 := inb 0; omega⟩ ⟨o + k.val, by have h1 : o + 288 ≤ 2592 := inb 1; omega⟩ c) := by
  rw [rd_idx]
  congr 1
  funext a
  apply Fin.ext
  match a with
  | 0 => simp
  | 1 => simp
  | 2 => simp

/-- One block of the joining layer's weights. -/
theorem rd_x4 (arg : Memref sig .tc .vmem S4x288x576 .fp8e4m3) (h : arg.IsWhole) (x : Vec Ideal S4x288x576 .fp8e4m3) (p : ℕ)
    (inb : ∀ a, (![p, 0, 0] : Fin 3 → ℕ) a + S1x288x576.size a ≤ S4x288x576.size a) (k : Fin 288) (c : Fin 576) :
    View.readAt (Elt Ideal) arg.view (Rect.unit (s := S4x288x576) ![p, 0, 0] S1x288x576.size inb).toLoadRect (h.unread x)
      (ix3 0 k c) = x (ix3 ⟨p, by have h0 : p + 1 ≤ 4 := inb 0; omega⟩ k c) := by
  rw [rd_idx]
  congr 1
  funext a
  apply Fin.ext
  match a with
  | 0 => simp
  | 1 => simp
  | 2 => simp

/-- Two blocks of the joining layer's weights. -/
theorem rd_x4p (arg : Memref sig .tc .vmem S4x288x576 .fp8e4m3) (h : arg.IsWhole) (x : Vec Ideal S4x288x576 .fp8e4m3)
    (inb : ∀ a, (![0, 0, 0] : Fin 3 → ℕ) a + S2x288x576.size a ≤ S4x288x576.size a) (q : Fin 2) (k : Fin 288) (c : Fin 576) :
    View.readAt (Elt Ideal) arg.view (Rect.unit (s := S4x288x576) ![0, 0, 0] S2x288x576.size inb).toLoadRect (h.unread x)
      (ix3 q k c) = x (ix3 ⟨q.val, by omega⟩ k c) := by
  rw [rd_idx]
  congr 1
  funext a
  apply Fin.ext
  match a with
  | 0 => simp
  | 1 => simp
  | 2 => simp

/-- The four blocks of the last layer's weights. -/
theorem rd_x6 (arg : Memref sig .tc .vmem S4x288x576 .fp8e4m3) (h : arg.IsWhole) (x : Vec Ideal S4x288x576 .fp8e4m3)
    (inb : ∀ a, (![0, 0, 0] : Fin 3 → ℕ) a + S4x288x576.size a ≤ S4x288x576.size a) (q : Fin 4) (k : Fin 288) (c : Fin 576) :
    View.readAt (Elt Ideal) arg.view (Rect.unit (s := S4x288x576) ![0, 0, 0] S4x288x576.size inb).toLoadRect (h.unread x)
      (ix3 q k c) = x (ix3 q k c) := by
  rw [rd_idx]
  congr 1
  funext a
  apply Fin.ext
  match a with
  | 0 => simp
  | 1 => simp
  | 2 => simp

/-- The weights before the pools. -/
theorem rd_x5 (arg : Memref sig .tc .vmem S576x288 .fp8e4m3) (h : arg.IsWhole) (x : Vec Ideal S576x288 .fp8e4m3)
    (inb : ∀ a, (![0, 0] : Fin 2 → ℕ) a + S576x288.size a ≤ S576x288.size a) (k : Fin 576) (c : Fin 288) :
    View.readAt (Elt Ideal) arg.view (Rect.unit (s := S576x288) ![0, 0] S576x288.size inb).toLoadRect (h.unread x)
      (ix2 k c) = x (ix2 k c) := by
  rw [rd_idx]
  congr 1
  funext a
  apply Fin.ext
  match a with
  | 0 => simp
  | 1 => simp

/-- A row of the first layer's factors or biases. -/
theorem rd_x7 (arg : Memref sig .tc .vmem S2x288 .f32) (h : arg.IsWhole) (x : Vec Ideal S2x288 .f32) (p : ℕ)
    (inb : ∀ a, (![p, 0] : Fin 2 → ℕ) a + S1x288.size a ≤ S2x288.size a) (c : Fin 288) :
    View.readAt (Elt Ideal) arg.view (Rect.unit (s := S2x288) ![p, 0] S1x288.size inb).toLoadRect (h.unread x)
      (ix2 0 c) = x (ix2 ⟨p, by have h0 : p + 1 ≤ 2 := inb 0; omega⟩ c) := by
  rw [rd_idx]
  congr 1
  funext a
  apply Fin.ext
  match a with
  | 0 => simp
  | 1 => simp

/-- A row of the convolutions' factors or biases. -/
theorem rd_x9 (arg : Memref sig .tc .vmem S4x288 .f32) (h : arg.IsWhole) (x : Vec Ideal S4x288 .f32) (p : ℕ)
    (inb : ∀ a, (![p, 0] : Fin 2 → ℕ) a + S1x288.size a ≤ S4x288.size a) (c : Fin 288) :
    View.readAt (Elt Ideal) arg.view (Rect.unit (s := S4x288) ![p, 0] S1x288.size inb).toLoadRect (h.unread x)
      (ix2 0 c) = x (ix2 ⟨p, by have h0 : p + 1 ≤ 4 := inb 0; omega⟩ c) := by
  rw [rd_idx]
  congr 1
  funext a
  apply Fin.ext
  match a with
  | 0 => simp
  | 1 => simp

/-- A row of 576 factors or biases. -/
theorem rd_x11 (arg : Memref sig .tc .vmem S1x576 .f32) (h : arg.IsWhole) (x : Vec Ideal S1x576 .f32)
    (inb : ∀ a, (![0, 0] : Fin 2 → ℕ) a + S1x576.size a ≤ S1x576.size a) (c : Fin 576) :
    View.readAt (Elt Ideal) arg.view (Rect.unit (s := S1x576) ![0, 0] S1x576.size inb).toLoadRect (h.unread x)
      (ix2 0 c) = x (ix2 0 c) := by
  rw [rd_idx]
  congr 1
  funext a
  apply Fin.ext
  match a with
  | 0 => simp
  | 1 => simp

/-- A row of 288 factors or biases. -/
theorem rd_x13 (arg : Memref sig .tc .vmem S1x288 .f32) (h : arg.IsWhole) (x : Vec Ideal S1x288 .f32)
    (inb : ∀ a, (![0, 0] : Fin 2 → ℕ) a + S1x288.size a ≤ S1x288.size a) (c : Fin 288) :
    View.readAt (Elt Ideal) arg.view (Rect.unit (s := S1x288) ![0, 0] S1x288.size inb).toLoadRect (h.unread x)
      (ix2 0 c) = x (ix2 0 c) := by
  rw [rd_idx]
  congr 1
  funext a
  apply Fin.ext
  match a with
  | 0 => simp
  | 1 => simp

/-- One of the scales. -/
theorem rd_x17 (arg : Memref sig .tc .smem S8 .f32) (h : arg.IsWhole) (x : Vec Ideal S8 .f32) (p : ℕ)
    (inb : ∀ a, (![p] : Fin 1 → ℕ) a + S1.size a ≤ S8.size a) (y : S1.Idx) :
    View.readAt (Elt Ideal) arg.view (Rect.unit (s := S8) ![p] S1.size inb).toLoadRect (h.unread x) y
      = x (ix1 ⟨p, by have h0 : p + 1 ≤ 8 := inb 0; omega⟩) := by
  rw [rd_idx]
  congr 1
  funext a
  apply Fin.ext
  match a with
  | 0 => have h1 : (y 0).val < 1 := (y 0).isLt
         simp
         omega

end C2f
-- ==== Proof.KRun.lean ====
/-
  The kernel's run for one image, stage by stage: each value the run names is the model's layer of the same inputs.
-/
module

public import proofs.«01_k».proof.Proof.KI.RunA
public import proofs.«01_k».proof.Proof.KConv
public import proofs.«01_k».proof.Proof.KPool
public import proofs.«01_k».proof.Proof.KTail
public import proofs.«01_k».proof.Proof.KRead

@[expose] public section

set_option maxRecDepth 16384

noncomputable section

namespace C2f

open Cert.KernelIdeal.Gen Idealize.ShloMosaic Cert.KernelIdeal

/-- The model's inputs, out of the kernel's input blocks. -/
def kI (x0 : Vec Ideal S1x960x576 .fp8e4m3) (x1 : Vec Ideal S2x576x288 .fp8e4m3) (x2 : Vec Ideal S2x2592x288 .fp8e4m3) (x3 : Vec Ideal S2x2592x288 .fp8e4m3) (x4 : Vec Ideal S4x288x576 .fp8e4m3) (x5 : Vec Ideal S576x288 .fp8e4m3) (x6 : Vec Ideal S4x288x576 .fp8e4m3) (x7 : Vec Ideal S2x288 .f32) (x8 : Vec Ideal S2x288 .f32) (x9 : Vec Ideal S4x288 .f32) (x10 : Vec Ideal S4x288 .f32) (x11 : Vec Ideal S1x576 .f32) (x12 : Vec Ideal S1x576 .f32) (x13 : Vec Ideal S1x288 .f32) (x14 : Vec Ideal S1x288 .f32) (x15 : Vec Ideal S1x576 .f32) (x16 : Vec Ideal S1x576 .f32) (x17 : Vec Ideal S8 .f32) : Inp where
  x r k := x0 (ix3 0 r k)
  wc1 p k c := x1 (ix3 p k c)
  gc1 p c := x7 (ix2 p c)
  bc1 p c := x8 (ix2 p c)
  w1 p k c := x2 (ix3 p k c)
  w2 p k c := x3 (ix3 p k c)
  g p c := x9 (ix2 p c)
  b p c := x10 (ix2 p c)
  wc2 p k c := x4 (ix3 p k c)
  gc2 c := x11 (ix2 0 c)
  bc2 c := x12 (ix2 0 c)
  ws1 k c := x5 (ix2 k c)
  gs1 c := x13 (ix2 0 c)
  bs1 c := x14 (ix2 0 c)
  ws2 p k c := x6 (ix3 p k c)
  gs2 c := x15 (ix2 0 c)
  bs2 c := x16 (ix2 0 c)
  s i := x17 (ix1 i)

variable {c : Dev nD}
variable {arg1 : Memref sig .tc .vmem S1x960x576 .fp8e4m3} {harg1 : arg1.IsWhole}
variable {arg2 : Memref sig .tc .vmem S2x576x288 .fp8e4m3} {harg2 : arg2.IsWhole}
variable {arg3 : Memref sig .tc .vmem S2x2592x288 .fp8e4m3} {harg3 : arg3.IsWhole}
variable {arg4 : Memref sig .tc .vmem S2x2592x288 .fp8e4m3} {harg4 : arg4.IsWhole}
variable {arg5 : Memref sig .tc .vmem S4x288x576 .fp8e4m3} {harg5 : arg5.IsWhole}
variable {arg6 : Memref sig .tc .vmem S576x288 .fp8e4m3} {harg6 : arg6.IsWhole}
variable {arg7 : Memref sig .tc .vmem S4x288x576 .fp8e4m3} {harg7 : arg7.IsWhole}
variable {arg8 : Memref sig .tc .vmem S2x288 .f32} {harg8 : arg8.IsWhole}
variable {arg9 : Memref sig .tc .vmem S2x288 .f32} {harg9 : arg9.IsWhole}
variable {arg10 : Memref sig .tc .vmem S4x288 .f32} {harg10 : arg10.IsWhole}
variable {arg11 : Memref sig .tc .vmem S4x288 .f32} {harg11 : arg11.IsWhole}
variable {arg12 : Memref sig .tc .vmem S1x576 .f32} {harg12 : arg12.IsWhole}
variable {arg13 : Memref sig .tc .vmem S1x576 .f32} {harg13 : arg13.IsWhole}
variable {arg14 : Memref sig .tc .vmem S1x288 .f32} {harg14 : arg14.IsWhole}
variable {arg15 : Memref sig .tc .vmem S1x288 .f32} {harg15 : arg15.IsWhole}
variable {arg16 : Memref sig .tc .vmem S1x576 .f32} {harg16 : arg16.IsWhole}
variable {arg17 : Memref sig .tc .vmem S1x576 .f32} {harg17 : arg17.IsWhole}
variable {arg18 : Memref sig .tc .smem S8 .f32} {harg18 : arg18.IsWhole}
variable {arg19 : Memref sig .tc .vmem S1x960x576 .fp8e4m3} {harg19 : arg19.IsWhole}
variable {arg20 : Memref sig .tc .vmem S1x960x576 .fp8e4m3} {harg20 : arg20.IsWhole}
variable {arg21 : Memref sig .tc .vmem S1x2x960x288 .fp8e4m3} {harg21 : arg21.IsWhole}
variable {arg22 : Memref sig .tc .vmem S2x1x960x288 .fp8e4m3} {harg22 : arg22.IsWhole}
variable {arg23 : Memref sig .tc .vmem S2x1x960x288 .fp8e4m3} {harg23 : arg23.IsWhole}
variable {arg24 : Memref sig .tc .vmem S1x960x288 .fp8e4m3} {harg24 : arg24.IsWhole}
variable {arg25 : Memref sig .tc .vmem S1x960x288 .fp8e4m3} {harg25 : arg25.IsWhole}
variable {arg26 : Memref sig .tc .vmem S1x960x288 .fp8e4m3} {harg26 : arg26.IsWhole}
variable {arg27 : Memref sig .tc .vmem S1088x288 .f32} {harg27 : arg27.IsWhole}
variable {x0 : Vec Ideal S1x960x576 .fp8e4m3} {x1 : Vec Ideal S2x576x288 .fp8e4m3} {x2 : Vec Ideal S2x2592x288 .fp8e4m3} {x3 : Vec Ideal S2x2592x288 .fp8e4m3} {x4 : Vec Ideal S4x288x576 .fp8e4m3} {x5 : Vec Ideal S576x288 .fp8e4m3} {x6 : Vec Ideal S4x288x576 .fp8e4m3} {x7 : Vec Ideal S2x288 .f32} {x8 : Vec Ideal S2x288 .f32} {x9 : Vec Ideal S4x288 .f32} {x10 : Vec Ideal S4x288 .f32} {x11 : Vec Ideal S1x576 .f32} {x12 : Vec Ideal S1x576 .f32} {x13 : Vec Ideal S1x288 .f32} {x14 : Vec Ideal S1x288 .f32} {x15 : Vec Ideal S1x576 .f32} {x16 : Vec Ideal S1x576 .f32} {x17 : Vec Ideal S8 .f32}
variable {I : Inp} (hI : I = kI x0 x1 x2 x3 x4 x5 x6 x7 x8 x9 x10 x11 x12 x13 x14 x15 x16 x17)

include hI

theorem s0_at : (kernelRun0_A.sl.r (F := Ideal) c arg18 harg18 x17) = I.s 0 := by
  subst hI
  exact rd_x17 _ _ _ 0 _ _

theorem s1_at : (kernelRun0_A.sl.r_1 (F := Ideal) c arg18 harg18 x17) = I.s 1 := by
  subst hI
  exact rd_x17 _ _ _ 1 _ _

theorem s2_at : (kernelRun0_A.sl.r_2 (F := Ideal) c arg18 harg18 x17) = I.s 2 := by
  subst hI
  exact rd_x17 _ _ _ 2 _ _

theorem s3_at : (kernelRun0_A.sl.r_3 (F := Ideal) c arg18 harg18 x17) = I.s 3 := by
  subst hI
  exact rd_x17 _ _ _ 3 _ _

theorem s4_at : (kernelRun0_A.sl.r_4 (F := Ideal) c arg18 harg18 x17) = I.s 4 := by
  subst hI
  exact rd_x17 _ _ _ 4 _ _

theorem s5_at : (kernelRun0_A.sl.r_5 (F := Ideal) c arg18 harg18 x17) = I.s 5 := by
  subst hI
  exact rd_x17 _ _ _ 5 _ _

theorem s6_at : (kernelRun0_A.sl.r_6 (F := Ideal) c arg18 harg18 x17) = I.s 6 := by
  subst hI
  exact rd_x17 _ _ _ 6 _ _

theorem s7_at : (kernelRun0_A.sl.r_7 (F := Ideal) c arg18 harg18 x17) = I.s 7 := by
  subst hI
  exact rd_x17 _ _ _ 7 _ _

theorem c10_at (r : Fin 960) (k : Fin 288) :
    (kernelRun0_A.sl.r_12 (F := Ideal) c arg1 harg1 arg2 harg2 arg8 harg8 arg9 harg9 arg18 harg18 x0 x1 x7 x8 x17) (ix2 r k) = I.c1 0 r k := by
  refine (congrFun (c10_eq _ _ _ _ _) (ix2 r k)).trans ?_
  rw [quantK_apply, siluK_apply, linK_apply, mmA_apply, s0_at hI]
  subst hI
  refine congrArg₂ quant (congrArg silu (congrArg₂ (fun u v : EReal => u + v)
    (congrArg₂ (fun u v : EReal => u * v) (Finset.sum_congr rfl fun i _ => ?_) (rd_x7 _ _ _ 0 _ k))
    (rd_x7 _ _ _ 0 _ k))) rfl
  rw [xA_apply, wA_apply]
  exact congrArg₂ (fun u v : EReal => u * v) (rd_x0 _ _ _ _ r i) (rd_x1 _ _ _ 0 _ i k)

theorem c11_at (r : Fin 960) (k : Fin 288) :
    (kernelRun0_A.sl.r_16 (F := Ideal) c arg1 harg1 arg2 harg2 arg8 harg8 arg9 harg9 arg18 harg18 x0 x1 x7 x8 x17) (ix2 r k) = I.c1 1 r k := by
  refine (congrFun (c11_eq _ _ _ _ _) (ix2 r k)).trans ?_
  rw [quantK_apply, siluK_apply, linK_apply, mmA_apply, s0_at hI]
  subst hI
  refine congrArg₂ quant (congrArg silu (congrArg₂ (fun u v : EReal => u + v)
    (congrArg₂ (fun u v : EReal => u * v) (Finset.sum_congr rfl fun i _ => ?_) (rd_x7 _ _ _ 1 _ k))
    (rd_x7 _ _ _ 1 _ k))) rfl
  rw [xA_apply, wA_apply]
  exact congrArg₂ (fun u v : EReal => u * v) (rd_x0 _ _ _ _ r i) (rd_x1 _ _ _ 1 _ i k)

/-- The loads after that image was staged. -/
theorem hs3 (o : ℕ) (inb : ∀ a, (![o, 0] : Fin 2 → ℕ) a + S960x288.size a ≤ S1088x288.size a) (r : Fin 960)
    (k : Fin 288) : arg27.view.readCov (Val := Elt Ideal)
    (kernelRun0_A.sl.HS0_3 (F := Ideal) c arg1 harg1 arg2 harg2 arg8 harg8 arg9 harg9 arg18 harg18 x0 x1 x7 x8 x17)
      (Rect.unit (s := S1088x288) ![o, 0] S960x288.size inb).toLoadRect (ix2 r k) = stg o 0 (fun q => I.c1 1 q k) r := by
  refine (stage_read arg27.view _ _ _ 0 (fun y => ?_) (fun y => ?_) _ o _ _ _ inb r k).trans ?_
  · exact Ideal.ofBits_zero_f32
  · exact Ideal.ofBits_zero_f32
  · congr 1
    funext q
    refine Eq.trans ?_ (c11_at hI q k :
      (kernelRun0_A.sl.r_16 (F := Ideal) c arg1 harg1 arg2 harg2 arg8 harg8 arg9 harg9 arg18 harg18 x0 x1 x7 x8
        x17) (ix2 q k) = _)
    simp only [k0_pay18, shapeCast_self]
    rfl

/-- The inner activation of the first bottleneck. -/
theorem mid0_at (r : Fin 960) (k : Fin 288) :
    (k0_pay31 (kernelRun0_A.sl.r_27 (F := Ideal) c arg1 harg1 arg2 harg2 arg3 harg3 arg8 harg8 arg9 harg9 arg10
      harg10 arg11 harg11 arg18 harg18 arg27 x0 x1 x2 x7 x8 x9 x10 x17) k0_pay30) (ix2 r k) = I.mid0 r k := by
  refine (congrFun (conv0_eq k0_pay2 _ _ _ _ _ _ _ _ _ _ _ _ _ _ _ _ _ _ _ _ _ ) (ix2 r k)).trans ?_
  rw [quantK_apply, siluK_apply, linK_apply, convK_apply (g := I.c1 1) (W := I.w1 0), s4_at hI]
  · subst hI
    rw [rd_x9 _ _ _ 0, rd_x9 _ _ _ 0]
    rfl
  · exact fun r k => hs3 hI 39 _ r k
  · exact fun r k => hs3 hI 40 _ r k
  · exact fun r k => hs3 hI 41 _ r k
  · exact fun r k => hs3 hI 63 _ r k
  · exact fun r k => hs3 hI 64 _ r k
  · exact fun r k => hs3 hI 65 _ r k
  · exact fun r k => hs3 hI 87 _ r k
  · exact fun r k => hs3 hI 88 _ r k
  · exact fun r k => hs3 hI 89 _ r k
  all_goals
    subst hI
    intro k c
  · exact rd_x2 _ _ _ 0 0 _ k c
  · exact rd_x2 _ _ _ 0 288 _ k c
  · exact rd_x2 _ _ _ 0 576 _ k c
  · exact rd_x2 _ _ _ 0 864 _ k c
  · exact rd_x2 _ _ _ 0 1152 _ k c
  · exact rd_x2 _ _ _ 0 1440 _ k c
  · exact rd_x2 _ _ _ 0 1728 _ k c
  · exact rd_x2 _ _ _ 0 2016 _ k c
  · exact rd_x2 _ _ _ 0 2304 _ k c

/-- The loads after that image was staged. -/
theorem hs6 (o : ℕ) (inb : ∀ a, (![o, 0] : Fin 2 → ℕ) a + S960x288.size a ≤ S1088x288.size a) (r : Fin 960)
    (k : Fin 288) : arg27.view.readCov (Val := Elt Ideal)
    (kernelRun0_A.sl.HS0_6 (F := Ideal) c arg1 harg1 arg2 harg2 arg3 harg3 arg8 harg8 arg9 harg9 arg10 harg10 arg11
      harg11 arg18 harg18 arg27 x0 x1 x2 x7 x8 x9 x10 x17)
      (Rect.unit (s := S1088x288) ![o, 0] S960x288.size inb).toLoadRect (ix2 r k) = stg o 0 (fun q => I.mid0 q k) r := by
  refine (stage_read arg27.view _ _ _ 0 (fun y => ?_) (fun y => ?_) _ o _ _ _ inb r k).trans ?_
  · exact Ideal.ofBits_zero_f32
  · exact Ideal.ofBits_zero_f32
  · congr 1
    funext q
    refine Eq.trans ?_ (mid0_at hI q k :
      (k0_pay31 (kernelRun0_A.sl.r_27 (F := Ideal) c arg1 harg1 arg2 harg2 arg3 harg3 arg8 harg8 arg9 harg9 arg10
        harg10 arg11 harg11 arg18 harg18 arg27 x0 x1 x2 x7 x8 x9 x10 x17) k0_pay30) (ix2 q k) = _)
    simp only [k0_pay35, shapeCast_self]
    rfl

/-- The first bottleneck. -/
theorem out0_at (r : Fin 960) (k : Fin 288) :
    (kernelRun0_A.sl.r_40 (F := Ideal) c arg1 harg1 arg2 harg2 arg3 harg3 arg4 harg4 arg8 harg8 arg9 harg9 arg10
      harg10 arg11 harg11 arg18 harg18 arg27 x0 x1 x2 x3 x7 x8 x9 x10 x17) (ix2 r k) = I.out0 r k := by
  refine (congrFun (conv1_eq k0_pay2 _ _ _ _ _ _ _ _ _ _ _ _ _ _ _ _ _ _ _ _ _ _ _ ) (ix2 r k)).trans ?_
  rw [quantK_apply, resK_apply, siluK_apply, linK_apply, convK_apply (g := I.mid0) (W := I.w2 0), c11_at hI, s0_at hI, s6_at hI]
  · subst hI
    rw [rd_x9 _ _ _ 1, rd_x9 _ _ _ 1]
    rfl
  · exact fun r k => hs6 hI 39 _ r k
  · exact fun r k => hs6 hI 40 _ r k
  · exact fun r k => hs6 hI 41 _ r k
  · exact fun r k => hs6 hI 63 _ r k
  · exact fun r k => hs6 hI 64 _ r k
  · exact fun r k => hs6 hI 65 _ r k
  · exact fun r k => hs6 hI 87 _ r k
  · exact fun r k => hs6 hI 88 _ r k
  · exact fun r k => hs6 hI 89 _ r k
  all_goals
    subst hI
    intro k c
  · exact rd_x2 _ _ _ 0 0 _ k c
  · exact rd_x2 _ _ _ 0 288 _ k c
  · exact rd_x2 _ _ _ 0 576 _ k c
  · exact rd_x2 _ _ _ 0 864 _ k c
  · exact rd_x2 _ _ _ 0 1152 _ k c
  · exact rd_x2 _ _ _ 0 1440 _ k c
  · exact rd_x2 _ _ _ 0 1728 _ k c
  · exact rd_x2 _ _ _ 0 2016 _ k c
  · exact rd_x2 _ _ _ 0 2304 _ k c

/-- The loads after that image was staged. -/
theorem hs9 (o : ℕ) (inb : ∀ a, (![o, 0] : Fin 2 → ℕ) a + S960x288.size a ≤ S1088x288.size a) (r : Fin 960)
    (k : Fin 288) : arg27.view.readCov (Val := Elt Ideal)
    (kernelRun0_A.sl.HS0_9 (F := Ideal) c arg1 harg1 arg2 harg2 arg3 harg3 arg4 harg4 arg8 harg8 arg9 harg9 arg10
      harg10 arg11 harg11 arg18 harg18 arg27 x0 x1 x2 x3 x7 x8 x9 x10 x17)
      (Rect.unit (s := S1088x288) ![o, 0] S960x288.size inb).toLoadRect (ix2 r k) = stg o 0 (fun q => I.out0 q k) r := by
  refine (stage_read arg27.view _ _ _ 0 (fun y => ?_) (fun y => ?_) _ o _ _ _ inb r k).trans ?_
  · exact Ideal.ofBits_zero_f32
  · exact Ideal.ofBits_zero_f32
  · congr 1
    funext q
    refine Eq.trans ?_ (out0_at hI q k :
      (kernelRun0_A.sl.r_40 (F := Ideal) c arg1 harg1 arg2 harg2 arg3 harg3 arg4 harg4 arg8 harg8 arg9 harg9 arg10
        harg10 arg11 harg11 arg18 harg18 arg27 x0 x1 x2 x3 x7 x8 x9 x10 x17) (ix2 q k) = _)
    simp only [k0_pay55, shapeCast_self]
    rfl

/-- The inner activation of the second bottleneck. -/
theorem mid1_at (r : Fin 960) (k : Fin 288) :
    (k0_pay70 (kernelRun0_A.sl.r_52 (F := Ideal) c arg1 harg1 arg2 harg2 arg3 harg3 arg4 harg4 arg8 harg8 arg9
      harg9 arg10 harg10 arg11 harg11 arg18 harg18 arg27 x0 x1 x2 x3 x7 x8 x9 x10 x17) (kernelRun0_A.sl.cst_361 (F
      := Ideal)) k0_pay69) (ix2 r k) = I.mid1 r k := by
  refine (congrFun (conv2_eq k0_pay2 _ _ _ _ _ _ _ _ _ _ _ _ _ _ _ _ _ _ _ _ _ ) (ix2 r k)).trans ?_
  rw [quantK_apply, siluK_apply, linK_apply, convK_apply (g := I.out0) (W := I.w1 1), s5_at hI]
  · subst hI
    rw [rd_x9 _ _ _ 2, rd_x9 _ _ _ 2]
    rfl
  · exact fun r k => hs9 hI 39 _ r k
  · exact fun r k => hs9 hI 40 _ r k
  · exact fun r k => hs9 hI 41 _ r k
  · exact fun r k => hs9 hI 63 _ r k
  · exact fun r k => hs9 hI 64 _ r k
  · exact fun r k => hs9 hI 65 _ r k
  · exact fun r k => hs9 hI 87 _ r k
  · exact fun r k => hs9 hI 88 _ r k
  · exact fun r k => hs9 hI 89 _ r k
  all_goals
    subst hI
    intro k c
  · exact rd_x2 _ _ _ 1 0 _ k c
  · exact rd_x2 _ _ _ 1 288 _ k c
  · exact rd_x2 _ _ _ 1 576 _ k c
  · exact rd_x2 _ _ _ 1 864 _ k c
  · exact rd_x2 _ _ _ 1 1152 _ k c
  · exact rd_x2 _ _ _ 1 1440 _ k c
  · exact rd_x2 _ _ _ 1 1728 _ k c
  · exact rd_x2 _ _ _ 1 2016 _ k c
  · exact rd_x2 _ _ _ 1 2304 _ k c

/-- The loads after that image was staged. -/
theorem hs12 (o : ℕ) (inb : ∀ a, (![o, 0] : Fin 2 → ℕ) a + S960x288.size a ≤ S1088x288.size a) (r : Fin 960)
    (k : Fin 288) : arg27.view.readCov (Val := Elt Ideal)
    (kernelRun0_A.sl.HS0_12 (F := Ideal) c arg1 harg1 arg2 harg2 arg3 harg3 arg4 harg4 arg8 harg8 arg9 harg9 arg10
      harg10 arg11 harg11 arg18 harg18 arg27 x0 x1 x2 x3 x7 x8 x9 x10 x17)
      (Rect.unit (s := S1088x288) ![o, 0] S960x288.size inb).toLoadRect (ix2 r k) = stg o 0 (fun q => I.mid1 q k) r := by
  refine (stage_read arg27.view _ _ _ 0 (fun y => ?_) (fun y => ?_) _ o _ _ _ inb r k).trans ?_
  · exact Ideal.ofBits_zero_f32
  · exact Ideal.ofBits_zero_f32
  · congr 1
    funext q
    refine Eq.trans ?_ (mid1_at hI q k :
      (k0_pay70 (kernelRun0_A.sl.r_52 (F := Ideal) c arg1 harg1 arg2 harg2 arg3 harg3 arg4 harg4 arg8 harg8 arg9
        harg9 arg10 harg10 arg11 harg11 arg18 harg18 arg27 x0 x1 x2 x3 x7 x8 x9 x10 x17) (kernelRun0_A.sl.cst_361
        (F := Ideal)) k0_pay69) (ix2 q k) = _)
    simp only [k0_pay74, shapeCast_self]
    rfl

/-- The second bottleneck. -/
theorem out1_at (r : Fin 960) (k : Fin 288) :
    (kernelRun0_A.sl.r_67 (F := Ideal) c arg1 harg1 arg2 harg2 arg3 harg3 arg4 harg4 arg8 harg8 arg9 harg9 arg10
      harg10 arg11 harg11 arg18 harg18 arg27 x0 x1 x2 x3 x7 x8 x9 x10 x17) (ix2 r k) = I.out1 r k := by
  refine (congrFun (conv3_eq k0_pay2 _ _ _ _ _ _ _ _ _ _ _ _ _ _ _ _ _ _ _ _ _ _ _ ) (ix2 r k)).trans ?_
  rw [quantK_apply, resK_apply, siluK_apply, linK_apply, convK_apply (g := I.mid1) (W := I.w2 1), out0_at hI, s6_at hI, s7_at hI]
  · subst hI
    rw [rd_x9 _ _ _ 3, rd_x9 _ _ _ 3]
    rfl
  · exact fun r k => hs12 hI 39 _ r k
  · exact fun r k => hs12 hI 40 _ r k
  · exact fun r k => hs12 hI 41 _ r k
  · exact fun r k => hs12 hI 63 _ r k
  · exact fun r k => hs12 hI 64 _ r k
  · exact fun r k => hs12 hI 65 _ r k
  · exact fun r k => hs12 hI 87 _ r k
  · exact fun r k => hs12 hI 88 _ r k
  · exact fun r k => hs12 hI 89 _ r k
  all_goals
    subst hI
    intro k c
  · exact rd_x2 _ _ _ 1 0 _ k c
  · exact rd_x2 _ _ _ 1 288 _ k c
  · exact rd_x2 _ _ _ 1 576 _ k c
  · exact rd_x2 _ _ _ 1 864 _ k c
  · exact rd_x2 _ _ _ 1 1152 _ k c
  · exact rd_x2 _ _ _ 1 1440 _ k c
  · exact rd_x2 _ _ _ 1 1728 _ k c
  · exact rd_x2 _ _ _ 1 2016 _ k c
  · exact rd_x2 _ _ _ 1 2304 _ k c

end C2f
-- ==== Proof.KRunB.lean ====
/-
  The kernel's run for one image, continued: the layers after the bottlenecks.
-/
module

public import proofs.«01_k».proof.Proof.KRun

@[expose] public section

set_option maxRecDepth 16384

noncomputable section

namespace C2f

open Cert.KernelIdeal.Gen Idealize.ShloMosaic Cert.KernelIdeal

variable {c : Dev nD}
variable {arg1 : Memref sig .tc .vmem S1x960x576 .fp8e4m3} {harg1 : arg1.IsWhole}
variable {arg2 : Memref sig .tc .vmem S2x576x288 .fp8e4m3} {harg2 : arg2.IsWhole}
variable {arg3 : Memref sig .tc .vmem S2x2592x288 .fp8e4m3} {harg3 : arg3.IsWhole}
variable {arg4 : Memref sig .tc .vmem S2x2592x288 .fp8e4m3} {harg4 : arg4.IsWhole}
variable {arg5 : Memref sig .tc .vmem S4x288x576 .fp8e4m3} {harg5 : arg5.IsWhole}
variable {arg6 : Memref sig .tc .vmem S576x288 .fp8e4m3} {harg6 : arg6.IsWhole}
variable {arg7 : Memref sig .tc .vmem S4x288x576 .fp8e4m3} {harg7 : arg7.IsWhole}
variable {arg8 : Memref sig .tc .vmem S2x288 .f32} {harg8 : arg8.IsWhole}
variable {arg9 : Memref sig .tc .vmem S2x288 .f32} {harg9 : arg9.IsWhole}
variable {arg10 : Memref sig .tc .vmem S4x288 .f32} {harg10 : arg10.IsWhole}
variable {arg11 : Memref sig .tc .vmem S4x288 .f32} {harg11 : arg11.IsWhole}
variable {arg12 : Memref sig .tc .vmem S1x576 .f32} {harg12 : arg12.IsWhole}
variable {arg13 : Memref sig .tc .vmem S1x576 .f32} {harg13 : arg13.IsWhole}
variable {arg14 : Memref sig .tc .vmem S1x288 .f32} {harg14 : arg14.IsWhole}
variable {arg15 : Memref sig .tc .vmem S1x288 .f32} {harg15 : arg15.IsWhole}
variable {arg16 : Memref sig .tc .vmem S1x576 .f32} {harg16 : arg16.IsWhole}
variable {arg17 : Memref sig .tc .vmem S1x576 .f32} {harg17 : arg17.IsWhole}
variable {arg18 : Memref sig .tc .smem S8 .f32} {harg18 : arg18.IsWhole}
variable {arg19 : Memref sig .tc .vmem S1x960x576 .fp8e4m3} {harg19 : arg19.IsWhole}
variable {arg20 : Memref sig .tc .vmem S1x960x576 .fp8e4m3} {harg20 : arg20.IsWhole}
variable {arg21 : Memref sig .tc .vmem S1x2x960x288 .fp8e4m3} {harg21 : arg21.IsWhole}
variable {arg22 : Memref sig .tc .vmem S2x1x960x288 .fp8e4m3} {harg22 : arg22.IsWhole}
variable {arg23 : Memref sig .tc .vmem S2x1x960x288 .fp8e4m3} {harg23 : arg23.IsWhole}
variable {arg24 : Memref sig .tc .vmem S1x960x288 .fp8e4m3} {harg24 : arg24.IsWhole}
variable {arg25 : Memref sig .tc .vmem S1x960x288 .fp8e4m3} {harg25 : arg25.IsWhole}
variable {arg26 : Memref sig .tc .vmem S1x960x288 .fp8e4m3} {harg26 : arg26.IsWhole}
variable {arg27 : Memref sig .tc .vmem S1088x288 .f32} {harg27 : arg27.IsWhole}
variable {x0 : Vec Ideal S1x960x576 .fp8e4m3} {x1 : Vec Ideal S2x576x288 .fp8e4m3} {x2 : Vec Ideal S2x2592x288 .fp8e4m3} {x3 : Vec Ideal S2x2592x288 .fp8e4m3} {x4 : Vec Ideal S4x288x576 .fp8e4m3} {x5 : Vec Ideal S576x288 .fp8e4m3} {x6 : Vec Ideal S4x288x576 .fp8e4m3} {x7 : Vec Ideal S2x288 .f32} {x8 : Vec Ideal S2x288 .f32} {x9 : Vec Ideal S4x288 .f32} {x10 : Vec Ideal S4x288 .f32} {x11 : Vec Ideal S1x576 .f32} {x12 : Vec Ideal S1x576 .f32} {x13 : Vec Ideal S1x288 .f32} {x14 : Vec Ideal S1x288 .f32} {x15 : Vec Ideal S1x576 .f32} {x16 : Vec Ideal S1x576 .f32} {x17 : Vec Ideal S8 .f32}
variable {I : Inp} (hI : I = kI x0 x1 x2 x3 x4 x5 x6 x7 x8 x9 x10 x11 x12 x13 x14 x15 x16 x17)

include hI

/-- The joining layer. -/
theorem c2f_at (r : Fin 960) (k : Fin 576) :
    (k0_pay100 (kernelRun0_A.sl.r_1 (F := Ideal) c arg18 harg18 x17) (kernelRun0_A.sl.r_73 (F := Ideal) c arg1
      harg1 arg2 harg2 arg3 harg3 arg4 harg4 arg5 harg5 arg8 harg8 arg9 harg9 arg10 harg10 arg11 harg11 arg12
      harg12 arg13 harg13 arg18 harg18 arg27 x0 x1 x2 x3 x4 x7 x8 x9 x10 x11 x12 x17) (kernelRun0_A.sl.r_74 (F :=
      Ideal) c arg1 harg1 arg2 harg2 arg3 harg3 arg4 harg4 arg5 harg5 arg8 harg8 arg9 harg9 arg10 harg10 arg11
      harg11 arg12 harg12 arg13 harg13 arg18 harg18 arg27 x0 x1 x2 x3 x4 x7 x8 x9 x10 x11 x12 x17)) (ix2 r k) = I.c2f r k := by
  refine (congrFun (c2f_eq _ _ _ _ _ _ _ _ _ _ _ _ _) (ix2 r k)).trans ?_
  have ad : ∀ (a b : FVec Ideal S960x576 .f32) (i : S960x576.Idx), addf a b i = (a i + b i : EReal) := fun _ _ _ => rfl
  have mu : ∀ (s : Ideal .f32) (b : FVec Ideal S960x576 .f32) (i : S960x576.Idx),
      mulf (broadcast S960x576 s) b i = (s * b i : EReal) := fun _ _ _ => rfl
  rw [quantW_apply, siluW_apply, linW_apply, ad, ad, mu, mu, mu, mmB_apply, mmC_apply, mmC_apply, sum_halves]
  simp only [catA_lo, catA_hi, wB_lo, wB_hi]
  rw [s0_at hI, s6_at hI, s7_at hI, s1_at hI]
  refine congrArg₂ quant (congrArg silu (congrArg₂ (fun u v : EReal => u + v) (congrArg₂ (fun u v : EReal => u * v)
    (congrArg₂ (fun u v : EReal => u + v) (congrArg₂ (fun u v : EReal => u + v)
      (congrArg (fun u : EReal => I.s 0 * u) (congrArg₂ (fun u v : EReal => u + v)
        (?_ : _ = mm (I.c1 0) (I.wc2 0) r k) (?_ : _ = mm (I.c1 1) (I.wc2 1) r k)))
      (congrArg (fun u : EReal => I.s 6 * u) (?_ : _ = mm I.out0 (I.wc2 2) r k)))
      (congrArg (fun u : EReal => I.s 7 * u) (?_ : _ = mm I.out1 (I.wc2 3) r k)))
    (?_ : _ = I.gc2 k)) (?_ : _ = I.bc2 k))) rfl
  · refine Finset.sum_congr rfl fun i _ => congrArg₂ (fun u v : EReal => u * v) (c10_at hI r i) ?_
    subst hI
    exact rd_x4p _ _ _ _ 0 i k
  · refine Finset.sum_congr rfl fun i _ => congrArg₂ (fun u v : EReal => u * v) (c11_at hI r i) ?_
    subst hI
    exact rd_x4p _ _ _ _ 1 i k
  · refine Finset.sum_congr rfl fun i _ => congrArg₂ (fun u v : EReal => u * v) (out0_at hI r i) ?_
    subst hI
    exact rd_x4 _ _ _ 2 _ i k
  · refine Finset.sum_congr rfl fun i _ => congrArg₂ (fun u v : EReal => u * v) (out1_at hI r i) ?_
    subst hI
    exact rd_x4 _ _ _ 3 _ i k
  · subst hI
    exact rd_x11 _ _ _ _ k
  · subst hI
    exact rd_x11 _ _ _ _ k

/-- The image that is pooled. -/
theorem p0_at (r : Fin 960) (k : Fin 288) :
    (kernelRun0_A.sl.r_77 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17) (ix2 r k) = I.p0 r k := by
  refine (congrFun (p0_eq _ _ _ _ _ _ _) (ix2 r k)).trans ?_
  rw [quantK_apply, siluK_apply, linK_apply, mmA_apply, s2_at hI]
  refine congrArg₂ quant (congrArg silu (congrArg₂ (fun u v : EReal => u + v) (congrArg₂ (fun u v : EReal => u * v)
    (?_ : _ = mm I.c2f I.ws1 r k) (?_ : _ = I.gs1 k)) (?_ : _ = I.bs1 k))) rfl
  · refine Finset.sum_congr rfl fun i _ => congrArg₂ (fun u v : EReal => u * v) (c2f_at hI r i) ?_
    subst hI
    exact rd_x5 _ _ _ _ i k
  · subst hI
    exact rd_x13 _ _ _ _ k
  · subst hI
    exact rd_x13 _ _ _ _ k

/-- The loads after that image was staged. -/
theorem hs15 (o : ℕ) (inb : ∀ a, (![o, 0] : Fin 2 → ℕ) a + S960x288.size a ≤ S1088x288.size a) (r : Fin 960)
    (k : Fin 288) : arg27.view.readCov (Val := Elt Ideal)
    (kernelRun0_A.sl.HS0_15 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17)
      (Rect.unit (s := S1088x288) ![o, 0] S960x288.size inb).toLoadRect (ix2 r k) = stg o low (fun q => I.p0 q k) r := by
  refine (stage_read arg27.view _ _ _ low (fun y => ?_) (fun y => ?_) _ o _ _ _ inb r k).trans ?_
  · rfl
  · rfl
  · congr 1
    funext q
    refine Eq.trans ?_ (p0_at hI q k :
      (kernelRun0_A.sl.r_77 (F := Ideal) c arg1 harg1 arg2 harg2 arg3 harg3 arg4 harg4 arg5 harg5 arg6 harg6 arg8
        harg8 arg9 harg9 arg10 harg10 arg11 harg11 arg12 harg12 arg13 harg13 arg14 harg14 arg15 harg15 arg18 harg18
        arg27 x0 x1 x2 x3 x4 x5 x7 x8 x9 x10 x11 x12 x13 x14 x17) (ix2 q k) = _)
    simp only [k0_pay109, k0_pay106, shapeCast_self]
    rfl

theorem v1_at (r : Fin 960) (k : Fin 288) :
    (kernelRun0_A.sl.r_78 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17) (ix2 r k) = I.v1 r k := by
  refine (congrFun (vert1_eq _ _ _ _ _ _ _ _) (ix2 r k)).trans ?_
  rw [vertK_apply (g := I.p0)]
  · rfl
  · exact fun r k => p0_at hI r k
  · exact fun r k => hs15 hI 16 _ r k
  · exact fun r k => hs15 hI 40 _ r k
  · exact fun r k => hs15 hI 88 _ r k
  · exact fun r k => hs15 hI 112 _ r k

/-- The loads after that image was staged. -/
theorem hs18 (o : ℕ) (inb : ∀ a, (![o, 0] : Fin 2 → ℕ) a + S960x288.size a ≤ S1088x288.size a) (r : Fin 960)
    (k : Fin 288) : arg27.view.readCov (Val := Elt Ideal)
    (kernelRun0_A.sl.HS0_18 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17)
      (Rect.unit (s := S1088x288) ![o, 0] S960x288.size inb).toLoadRect (ix2 r k) = stg o low (fun q => I.v1 q k) r := by
  refine (stage_read arg27.view _ _ _ low (fun y => ?_) (fun y => ?_) _ o _ _ _ inb r k).trans ?_
  · rfl
  · rfl
  · congr 1
    funext q
    refine Eq.trans ?_ (v1_at hI q k :
      (kernelRun0_A.sl.r_78 (F := Ideal) c arg1 harg1 arg2 harg2 arg3 harg3 arg4 harg4 arg5 harg5 arg6 harg6 arg8
        harg8 arg9 harg9 arg10 harg10 arg11 harg11 arg12 harg12 arg13 harg13 arg14 harg14 arg15 harg15 arg18 harg18
        arg27 x0 x1 x2 x3 x4 x5 x7 x8 x9 x10 x11 x12 x13 x14 x17) (ix2 q k) = _)
    simp only [k0_pay114, shapeCast_self]

theorem p1_at (r : Fin 960) (k : Fin 288) :
    (kernelRun0_A.sl.r_80 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17) (ix2 r k) = I.p1 r k := by
  refine (congrFun (horz1_eq k0_pay2 _ _ _ _ _) (ix2 r k)).trans ?_
  rw [horzK_apply (g := I.v1)]
  · rfl
  · exact fun r k => v1_at hI r k
  · exact fun r k => hs18 hI 62 _ r k
  · exact fun r k => hs18 hI 63 _ r k
  · exact fun r k => hs18 hI 65 _ r k
  · exact fun r k => hs18 hI 66 _ r k

/-- The loads after that image was staged. -/
theorem hs21 (o : ℕ) (inb : ∀ a, (![o, 0] : Fin 2 → ℕ) a + S960x288.size a ≤ S1088x288.size a) (r : Fin 960)
    (k : Fin 288) : arg27.view.readCov (Val := Elt Ideal)
    (kernelRun0_A.sl.HS0_21 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17)
      (Rect.unit (s := S1088x288) ![o, 0] S960x288.size inb).toLoadRect (ix2 r k) = stg o low (fun q => I.p1 q k) r := by
  refine (stage_read arg27.view _ _ _ low (fun y => ?_) (fun y => ?_) _ o _ _ _ inb r k).trans ?_
  · rfl
  · rfl
  · congr 1
    funext q
    refine Eq.trans ?_ (p1_at hI q k :
      (kernelRun0_A.sl.r_80 (F := Ideal) c arg1 harg1 arg2 harg2 arg3 harg3 arg4 harg4 arg5 harg5 arg6 harg6 arg8
        harg8 arg9 harg9 arg10 harg10 arg11 harg11 arg12 harg12 arg13 harg13 arg14 harg14 arg15 harg15 arg18 harg18
        arg27 x0 x1 x2 x3 x4 x5 x7 x8 x9 x10 x11 x12 x13 x14 x17) (ix2 q k) = _)
    simp only [k0_pay121, shapeCast_self]

theorem v2_at (r : Fin 960) (k : Fin 288) :
    (kernelRun0_A.sl.r_81 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17) (ix2 r k) = I.v2 r k := by
  refine (congrFun (vert2_eq _ _ _ _ _) (ix2 r k)).trans ?_
  rw [vertK_apply (g := I.p1)]
  · rfl
  · exact fun r k => p1_at hI r k
  · exact fun r k => hs21 hI 16 _ r k
  · exact fun r k => hs21 hI 40 _ r k
  · exact fun r k => hs21 hI 88 _ r k
  · exact fun r k => hs21 hI 112 _ r k

/-- The loads after that image was staged. -/
theorem hs24 (o : ℕ) (inb : ∀ a, (![o, 0] : Fin 2 → ℕ) a + S960x288.size a ≤ S1088x288.size a) (r : Fin 960)
    (k : Fin 288) : arg27.view.readCov (Val := Elt Ideal)
    (kernelRun0_A.sl.HS0_24 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17)
      (Rect.unit (s := S1088x288) ![o, 0] S960x288.size inb).toLoadRect (ix2 r k) = stg o low (fun q => I.v2 q k) r := by
  refine (stage_read arg27.view _ _ _ low (fun y => ?_) (fun y => ?_) _ o _ _ _ inb r k).trans ?_
  · rfl
  · rfl
  · congr 1
    funext q
    refine Eq.trans ?_ (v2_at hI q k :
      (kernelRun0_A.sl.r_81 (F := Ideal) c arg1 harg1 arg2 harg2 arg3 harg3 arg4 harg4 arg5 harg5 arg6 harg6 arg8
        harg8 arg9 harg9 arg10 harg10 arg11 harg11 arg12 harg12 arg13 harg13 arg14 harg14 arg15 harg15 arg18 harg18
        arg27 x0 x1 x2 x3 x4 x5 x7 x8 x9 x10 x11 x12 x13 x14 x17) (ix2 q k) = _)
    simp only [k0_pay125, shapeCast_self]
    rfl

theorem p2_at (r : Fin 960) (k : Fin 288) :
    (k0_pay131 (kernelRun0_A.sl.r_82 (F := Ideal) c arg1 harg1 arg2 harg2 arg3 harg3 arg4 harg4 arg5 harg5 arg6
      harg6 arg8 harg8 arg9 harg9 arg10 harg10 arg11 harg11 arg12 harg12 arg13 harg13 arg14 harg14 arg15 harg15
      arg18 harg18 arg27 x0 x1 x2 x3 x4 x5 x7 x8 x9 x10 x11 x12 x13 x14 x17) (kernelRun0_A.sl.v1218 (F := Ideal) c
      arg1 harg1 arg2 harg2 arg3 harg3 arg4 harg4 arg5 harg5 arg6 harg6 arg8 harg8 arg9 harg9 arg10 harg10 arg11
      harg11 arg12 harg12 arg13 harg13 arg14 harg14 arg15 harg15 arg18 harg18 arg27 x0 x1 x2 x3 x4 x5 x7 x8 x9 x10
      x11 x12 x13 x14 x17) (k0_pay129 k0_pay2) (k0_pay130 k0_pay2)) (ix2 r k) = I.p2 r k := by
  refine (congrFun (horz2_eq k0_pay2 _ _ _ _ _) (ix2 r k)).trans ?_
  rw [horzK_apply (g := I.v2)]
  · rfl
  · exact fun r k => v2_at hI r k
  · exact fun r k => hs24 hI 62 _ r k
  · exact fun r k => hs24 hI 63 _ r k
  · exact fun r k => hs24 hI 65 _ r k
  · exact fun r k => hs24 hI 66 _ r k

/-- The loads after that image was staged. -/
theorem hs27 (o : ℕ) (inb : ∀ a, (![o, 0] : Fin 2 → ℕ) a + S960x288.size a ≤ S1088x288.size a) (r : Fin 960)
    (k : Fin 288) : arg27.view.readCov (Val := Elt Ideal)
    (kernelRun0_A.sl.HS0_27 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17)
      (Rect.unit (s := S1088x288) ![o, 0] S960x288.size inb).toLoadRect (ix2 r k) = stg o low (fun q => I.p2 q k) r := by
  refine (stage_read arg27.view _ _ _ low (fun y => ?_) (fun y => ?_) _ o _ _ _ inb r k).trans ?_
  · rfl
  · rfl
  · congr 1
    funext q
    refine Eq.trans ?_ (p2_at hI q k :
      (k0_pay131 (kernelRun0_A.sl.r_82 (F := Ideal) c arg1 harg1 arg2 harg2 arg3 harg3 arg4 harg4 arg5 harg5 arg6
        harg6 arg8 harg8 arg9 harg9 arg10 harg10 arg11 harg11 arg12 harg12 arg13 harg13 arg14 harg14 arg15 harg15
        arg18 harg18 arg27 x0 x1 x2 x3 x4 x5 x7 x8 x9 x10 x11 x12 x13 x14 x17) (kernelRun0_A.sl.v1218 (F := Ideal)
        c arg1 harg1 arg2 harg2 arg3 harg3 arg4 harg4 arg5 harg5 arg6 harg6 arg8 harg8 arg9 harg9 arg10 harg10
        arg11 harg11 arg12 harg12 arg13 harg13 arg14 harg14 arg15 harg15 arg18 harg18 arg27 x0 x1 x2 x3 x4 x5 x7 x8
        x9 x10 x11 x12 x13 x14 x17) (k0_pay129 k0_pay2) (k0_pay130 k0_pay2)) (ix2 q k) = _)
    simp only [k0_pay134, shapeCast_self]

theorem v3_at (r : Fin 960) (k : Fin 288) :
    (kernelRun0_A.sl.r_84 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17) (ix2 r k) = I.v3 r k := by
  refine (congrFun (vert3_eq k0_pay2 _ _ _ _ _ _) (ix2 r k)).trans ?_
  rw [vertK_apply (g := I.p2)]
  · rfl
  · exact fun r k => p2_at hI r k
  · exact fun r k => hs27 hI 16 _ r k
  · exact fun r k => hs27 hI 40 _ r k
  · exact fun r k => hs27 hI 88 _ r k
  · exact fun r k => hs27 hI 112 _ r k

/-- The loads after that image was staged. -/
theorem hs30 (o : ℕ) (inb : ∀ a, (![o, 0] : Fin 2 → ℕ) a + S960x288.size a ≤ S1088x288.size a) (r : Fin 960)
    (k : Fin 288) : arg27.view.readCov (Val := Elt Ideal)
    (kernelRun0_A.sl.HS0_30 (F := Ideal) c arg1 harg1 arg2 harg2 arg3 harg3 arg4 harg4 arg5 harg5 arg6 harg6 arg8
      harg8 arg9 harg9 arg10 harg10 arg11 harg11 arg12 harg12 arg13 harg13 arg14 harg14 arg15 harg15 arg18 harg18
      arg27 x0 x1 x2 x3 x4 x5 x7 x8 x9 x10 x11 x12 x13 x14 x17)
      (Rect.unit (s := S1088x288) ![o, 0] S960x288.size inb).toLoadRect (ix2 r k) = stg o low (fun q => I.v3 q k) r := by
  refine (stage_read arg27.view _ _ _ low (fun y => ?_) (fun y => ?_) _ o _ _ _ inb r k).trans ?_
  · rfl
  · rfl
  · congr 1
    funext q
    refine Eq.trans ?_ (v3_at hI q k :
      (kernelRun0_A.sl.r_84 (F := Ideal) c arg1 harg1 arg2 harg2 arg3 harg3 arg4 harg4 arg5 harg5 arg6 harg6 arg8
        harg8 arg9 harg9 arg10 harg10 arg11 harg11 arg12 harg12 arg13 harg13 arg14 harg14 arg15 harg15 arg18 harg18
        arg27 x0 x1 x2 x3 x4 x5 x7 x8 x9 x10 x11 x12 x13 x14 x17) (ix2 q k) = _)
    simp only [k0_pay139, shapeCast_self]

theorem p3_at (r : Fin 960) (k : Fin 288) :
    (k0_pay143 k0_pay2 (kernelRun0_A.sl.r_85 (F := Ideal) c arg1 harg1 arg2 harg2 arg3 harg3 arg4 harg4 arg5 harg5
      arg6 harg6 arg8 harg8 arg9 harg9 arg10 harg10 arg11 harg11 arg12 harg12 arg13 harg13 arg14 harg14 arg15
      harg15 arg18 harg18 arg27 x0 x1 x2 x3 x4 x5 x7 x8 x9 x10 x11 x12 x13 x14 x17) (kernelRun0_A.sl.v1287 (F :=
      Ideal) c arg1 harg1 arg2 harg2 arg3 harg3 arg4 harg4 arg5 harg5 arg6 harg6 arg8 harg8 arg9 harg9 arg10 harg10
      arg11 harg11 arg12 harg12 arg13 harg13 arg14 harg14 arg15 harg15 arg18 harg18 arg27 x0 x1 x2 x3 x4 x5 x7 x8
      x9 x10 x11 x12 x13 x14 x17) (k0_pay141 k0_pay2) (k0_pay142 k0_pay2) (kernelRun0_A.sl.v1300 (F := Ideal) c
      arg1 harg1 arg2 harg2 arg3 harg3 arg4 harg4 arg5 harg5 arg6 harg6 arg8 harg8 arg9 harg9 arg10 harg10 arg11
      harg11 arg12 harg12 arg13 harg13 arg14 harg14 arg15 harg15 arg18 harg18 arg27 x0 x1 x2 x3 x4 x5 x7 x8 x9 x10
      x11 x12 x13 x14 x17)) (ix2 r k) = I.p3 r k := by
  refine (congrFun (horz3_eq k0_pay2 _ _ _ _ _) (ix2 r k)).trans ?_
  rw [horzK_apply (g := I.v3)]
  · rfl
  · exact fun r k => v3_at hI r k
  · exact fun r k => hs30 hI 62 _ r k
  · exact fun r k => hs30 hI 63 _ r k
  · exact fun r k => hs30 hI 65 _ r k
  · exact fun r k => hs30 hI 66 _ r k

/-- The last layer. -/
theorem sppf_at (r : Fin 960) (k : Fin 576) :
    (k0_pay1 (kernelRun0_A.sl.r_3 (F := Ideal) c arg18 harg18 x17) (kernelRun0_A.sl.r_91 (F := Ideal) c arg1 harg1
      arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg27 x0 x1
      x2 x3 x4 x5 x6 x7 x8 x9 x10 x11 x12 x13 x14 x15 x16 x17) (kernelRun0_A.sl.r_92 (F := Ideal) c arg1 harg1 arg2
      harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg27 x0 x1 x2 x3
      x4 x5 x6 x7 x8 x9 x10 x11 x12 x13 x14 x15 x16 x17)) (ix3 0 r k) = I.sppf r k := by
  refine (congrFun (sppf_eq k0_pay2 _ _ _ _ _ _ _ _ _ _ _ _ _) (ix3 0 r k)).trans ?_
  have sc : ∀ (v : FVec Ideal S960x576 .fp8e4m3), shapeCast S1x960x576 v shapeCasts_S960x576_S1x960x576 (ix3 0 r k) = v (ix2 r k) := by
    intro v
    pointwise []
  have mu : ∀ (s : Ideal .f32) (b : FVec Ideal S960x576 .f32) (i : S960x576.Idx),
      mulf (broadcast S960x576 s) b i = (s * b i : EReal) := fun _ _ _ => rfl
  rw [sc, quantW_apply, siluW_apply, linW_apply, mu, mmD_apply, sum_quarters]
  simp only [catD_0, catD_1, catD_2, catD_3, wD_0, wD_1, wD_2, wD_3]
  rw [s2_at hI, s3_at hI]
  refine congrArg₂ quant (congrArg silu (congrArg₂ (fun u v : EReal => u + v) (congrArg₂ (fun u v : EReal => u * v)
    (congrArg (fun u : EReal => I.s 2 * u) (congrArg₂ (fun u v : EReal => u + v) (congrArg₂ (fun u v : EReal => u + v)
      (congrArg₂ (fun u v : EReal => u + v) (?_ : _ = mm I.p0 (I.ws2 0) r k) (?_ : _ = mm I.p1 (I.ws2 1) r k))
      (?_ : _ = mm I.p2 (I.ws2 2) r k)) (?_ : _ = mm I.p3 (I.ws2 3) r k)))
    (?_ : _ = I.gs2 k)) (?_ : _ = I.bs2 k))) rfl
  · refine Finset.sum_congr rfl fun i _ => congrArg₂ (fun u v : EReal => u * v) (p0_at hI r i) ?_
    subst hI
    exact rd_x6 _ _ _ _ 0 i k
  · refine Finset.sum_congr rfl fun i _ => congrArg₂ (fun u v : EReal => u * v) (p1_at hI r i) ?_
    subst hI
    exact rd_x6 _ _ _ _ 1 i k
  · refine Finset.sum_congr rfl fun i _ => congrArg₂ (fun u v : EReal => u * v) (p2_at hI r i) ?_
    subst hI
    exact rd_x6 _ _ _ _ 2 i k
  · refine Finset.sum_congr rfl fun i _ => congrArg₂ (fun u v : EReal => u * v) (p3_at hI r i) ?_
    subst hI
    exact rd_x6 _ _ _ _ 3 i k
  · subst hI
    exact rd_x11 _ _ _ _ k
  · subst hI
    exact rd_x11 _ _ _ _ k

end C2f
-- ==== Proof.KOut.lean ====
/-
  What the kernel leaves in its eight result arrays: image by image, the model's layers.
-/
module

public import proofs.«01_k».proof.Proof.KI.Value
public import proofs.«01_k».proof.Proof.KRunB

@[expose] public section

set_option maxRecDepth 16384

noncomputable section

namespace C2f

open Cert.KernelIdeal.Gen Idealize.ShloMosaic Cert.KernelIdeal

/-! ### Reading one image's block -/

/-- One store over the whole block leaves its payload. -/
theorem one_piece {S : Shape} (v : View sig .tc .vmem S .fp8e4m3) {off : Fin S.rank → Nat} (h : off = fun _ => 0)
    (inb : ∀ a, off a + S.size a ≤ S.size a) (w : S.Idx → Elt Ideal .fp8e4m3) :
    v.read (Elt Ideal) (v.writes (Elt Ideal) v.junk [⟨Rect.unit off S.size inb, w⟩]) = w := by
  rw [View.read_writes_junk_eq_canon, View.canon_unit_zero h]

theorem z3 : (![0, 0, 0] : Fin 3 → Nat) = fun _ => 0 := funext fun a => by fin_cases a <;> rfl

/-- Two stores, one per half along axis 1: each half reads back its own payload. -/
theorem two_pieces_axis1 (v : View sig .tc .vmem S1x2x960x288 .fp8e4m3)
    (i1 : ∀ a, (![0, 1, 0, 0] : Fin 4 → Nat) a + S1x1x960x288.size a ≤ S1x2x960x288.size a)
    (i0 : ∀ a, (![0, 0, 0, 0] : Fin 4 → Nat) a + S1x1x960x288.size a ≤ S1x2x960x288.size a)
    (w1 w0 : S1x1x960x288.Idx → Elt Ideal .fp8e4m3) (r : Fin 960) (k : Fin 288) :
    v.read (Elt Ideal) (v.writes (Elt Ideal) v.junk [⟨Rect.unit (s := S1x2x960x288) ![0, 1, 0, 0] S1x1x960x288.size i1, w1⟩,
      ⟨Rect.unit (s := S1x2x960x288) ![0, 0, 0, 0] S1x1x960x288.size i0, w0⟩]) (ix4 0 0 r k) = w0 (ix4 0 0 r k)
    ∧ v.read (Elt Ideal) (v.writes (Elt Ideal) v.junk [⟨Rect.unit (s := S1x2x960x288) ![0, 1, 0, 0] S1x1x960x288.size i1, w1⟩,
      ⟨Rect.unit (s := S1x2x960x288) ![0, 0, 0, 0] S1x1x960x288.size i0, w0⟩]) (ix4 0 1 r k) = w1 (ix4 0 0 r k) := by
  rw [View.read_writes_junk_eq_canon]
  constructor
  · rw [View.canon_cons_of_not_mem]
    · have e : (ix4 0 0 r k : S1x2x960x288.Idx) = (Rect.unit (s := S1x2x960x288) ![0, 0, 0, 0] S1x1x960x288.size i0).emb (ix4 0 0 r k) := by
        funext a
        apply Fin.ext
        match a with
        | 0 => simp
        | 1 => simp
        | 2 => simp
        | 3 => simp
      rw [e]
      exact View.canon_cons_emb _ _ _ _
    · intro hm
      have hm' : _ ∈ (Rect.unit (s := S1x2x960x288) ![0, 1, 0, 0] S1x1x960x288.size i1).set := hm
      have h0 : 1 ≤ 0 := ((Rect.mem_set_unit.mp hm') 1).1
      omega
  · have e : (ix4 0 1 r k : S1x2x960x288.Idx) = (Rect.unit (s := S1x2x960x288) ![0, 1, 0, 0] S1x1x960x288.size i1).emb (ix4 0 0 r k) := by
      funext a
      apply Fin.ext
      match a with
      | 0 => simp
      | 1 => simp
      | 2 => simp
      | 3 => simp
    rw [e]
    exact View.canon_cons_emb _ _ _ _

/-- Two stores, one per half along axis 0: each half reads back its own payload. -/
theorem two_pieces_axis0 (v : View sig .tc .vmem S2x1x960x288 .fp8e4m3)
    (i1 : ∀ a, (![1, 0, 0, 0] : Fin 4 → Nat) a + S1x1x960x288.size a ≤ S2x1x960x288.size a)
    (i0 : ∀ a, (![0, 0, 0, 0] : Fin 4 → Nat) a + S1x1x960x288.size a ≤ S2x1x960x288.size a)
    (w1 w0 : S1x1x960x288.Idx → Elt Ideal .fp8e4m3) (r : Fin 960) (k : Fin 288) :
    v.read (Elt Ideal) (v.writes (Elt Ideal) v.junk [⟨Rect.unit (s := S2x1x960x288) ![1, 0, 0, 0] S1x1x960x288.size i1, w1⟩,
      ⟨Rect.unit (s := S2x1x960x288) ![0, 0, 0, 0] S1x1x960x288.size i0, w0⟩]) (ix4 0 0 r k) = w0 (ix4 0 0 r k)
    ∧ v.read (Elt Ideal) (v.writes (Elt Ideal) v.junk [⟨Rect.unit (s := S2x1x960x288) ![1, 0, 0, 0] S1x1x960x288.size i1, w1⟩,
      ⟨Rect.unit (s := S2x1x960x288) ![0, 0, 0, 0] S1x1x960x288.size i0, w0⟩]) (ix4 1 0 r k) = w1 (ix4 0 0 r k) := by
  rw [View.read_writes_junk_eq_canon]
  constructor
  · rw [View.canon_cons_of_not_mem]
    · have e : (ix4 0 0 r k : S2x1x960x288.Idx) = (Rect.unit (s := S2x1x960x288) ![0, 0, 0, 0] S1x1x960x288.size i0).emb (ix4 0 0 r k) := by
        funext a
        apply Fin.ext
        match a with
        | 0 => simp
        | 1 => simp
        | 2 => simp
        | 3 => simp
      rw [e]
      exact View.canon_cons_emb _ _ _ _
    · intro hm
      have hm' : _ ∈ (Rect.unit (s := S2x1x960x288) ![1, 0, 0, 0] S1x1x960x288.size i1).set := hm
      have h0 : 1 ≤ 0 := ((Rect.mem_set_unit.mp hm') 0).1
      omega
  · have e : (ix4 1 0 r k : S2x1x960x288.Idx) = (Rect.unit (s := S2x1x960x288) ![1, 0, 0, 0] S1x1x960x288.size i1).emb (ix4 0 0 r k) := by
      funext a
      apply Fin.ext
      match a with
      | 0 => simp
      | 1 => simp
      | 2 => simp
      | 3 => simp
    rw [e]
    exact View.canon_cons_emb _ _ _ _

/-- A layer of 576 channels stored as the one image of a block. -/
theorem up3_576 (v : FVec Ideal S960x576 .fp8e4m3) (r : Fin 960) (k : Fin 576) :
    shapeCast S1x960x576 v shapeCasts_S960x576_S1x960x576 (ix3 0 r k) = v (ix2 r k) := by
  pointwise []

/-- A layer of 288 channels stored as the one image of a block. -/
theorem up3_288 (v : FVec Ideal S960x288 .fp8e4m3) (r : Fin 960) (k : Fin 288) :
    shapeCast S1x960x288 v shapeCasts_S960x288_S1x960x288 (ix3 0 r k) = v (ix2 r k) := by
  pointwise []

/-- A layer stored as one half of the one image of a block. -/
theorem up4 (v : FVec Ideal S960x288 .fp8e4m3) (r : Fin 960) (k : Fin 288) :
    shapeCast S1x1x960x288 v shapeCasts_S960x288_S1x1x960x288 (ix4 0 0 r k) = v (ix2 r k) := by
  pointwise []

section
variable {c : Dev nD}
variable {arg1 : Memref sig .tc .vmem S1x960x576 .fp8e4m3} {harg1 : arg1.IsWhole}
variable {arg2 : Memref sig .tc .vmem S2x576x288 .fp8e4m3} {harg2 : arg2.IsWhole}
variable {arg3 : Memref sig .tc .vmem S2x2592x288 .fp8e4m3} {harg3 : arg3.IsWhole}
variable {arg4 : Memref sig .tc .vmem S2x2592x288 .fp8e4m3} {harg4 : arg4.IsWhole}
variable {arg5 : Memref sig .tc .vmem S4x288x576 .fp8e4m3} {harg5 : arg5.IsWhole}
variable {arg6 : Memref sig .tc .vmem S576x288 .fp8e4m3} {harg6 : arg6.IsWhole}
variable {arg7 : Memref sig .tc .vmem S4x288x576 .fp8e4m3} {harg7 : arg7.IsWhole}
variable {arg8 : Memref sig .tc .vmem S2x288 .f32} {harg8 : arg8.IsWhole}
variable {arg9 : Memref sig .tc .vmem S2x288 .f32} {harg9 : arg9.IsWhole}
variable {arg10 : Memref sig .tc .vmem S4x288 .f32} {harg10 : arg10.IsWhole}
variable {arg11 : Memref sig .tc .vmem S4x288 .f32} {harg11 : arg11.IsWhole}
variable {arg12 : Memref sig .tc .vmem S1x576 .f32} {harg12 : arg12.IsWhole}
variable {arg13 : Memref sig .tc .vmem S1x576 .f32} {harg13 : arg13.IsWhole}
variable {arg14 : Memref sig .tc .vmem S1x288 .f32} {harg14 : arg14.IsWhole}
variable {arg15 : Memref sig .tc .vmem S1x288 .f32} {harg15 : arg15.IsWhole}
variable {arg16 : Memref sig .tc .vmem S1x576 .f32} {harg16 : arg16.IsWhole}
variable {arg17 : Memref sig .tc .vmem S1x576 .f32} {harg17 : arg17.IsWhole}
variable {arg18 : Memref sig .tc .smem S8 .f32} {harg18 : arg18.IsWhole}
variable {arg19 : Memref sig .tc .vmem S1x960x576 .fp8e4m3} {harg19 : arg19.IsWhole}
variable {arg20 : Memref sig .tc .vmem S1x960x576 .fp8e4m3} {harg20 : arg20.IsWhole}
variable {arg21 : Memref sig .tc .vmem S1x2x960x288 .fp8e4m3} {harg21 : arg21.IsWhole}
variable {arg22 : Memref sig .tc .vmem S2x1x960x288 .fp8e4m3} {harg22 : arg22.IsWhole}
variable {arg23 : Memref sig .tc .vmem S2x1x960x288 .fp8e4m3} {harg23 : arg23.IsWhole}
variable {arg24 : Memref sig .tc .vmem S1x960x288 .fp8e4m3} {harg24 : arg24.IsWhole}
variable {arg25 : Memref sig .tc .vmem S1x960x288 .fp8e4m3} {harg25 : arg25.IsWhole}
variable {arg26 : Memref sig .tc .vmem S1x960x288 .fp8e4m3} {harg26 : arg26.IsWhole}
variable {arg27 : Memref sig .tc .vmem S1088x288 .f32} {harg27 : arg27.IsWhole}
variable {x0 : Vec Ideal S1x960x576 .fp8e4m3} {x1 : Vec Ideal S2x576x288 .fp8e4m3} {x2 : Vec Ideal S2x2592x288 .fp8e4m3} {x3 : Vec Ideal S2x2592x288 .fp8e4m3} {x4 : Vec Ideal S4x288x576 .fp8e4m3} {x5 : Vec Ideal S576x288 .fp8e4m3} {x6 : Vec Ideal S4x288x576 .fp8e4m3} {x7 : Vec Ideal S2x288 .f32} {x8 : Vec Ideal S2x288 .f32} {x9 : Vec Ideal S4x288 .f32} {x10 : Vec Ideal S4x288 .f32} {x11 : Vec Ideal S1x576 .f32} {x12 : Vec Ideal S1x576 .f32} {x13 : Vec Ideal S1x288 .f32} {x14 : Vec Ideal S1x288 .f32} {x15 : Vec Ideal S1x576 .f32} {x16 : Vec Ideal S1x576 .f32} {x17 : Vec Ideal S8 .f32}
variable {i : grid0.Coords}

theorem blk18_at (r : Fin 960) (k : Fin 576) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix3 0 r k)
      = (kI x0 x1 x2 x3 x4 x5 x6 x7 x8 x9 x10 x11 x12 x13 x14 x15 x16 x17).c2f r k := by
  unfold out0_A_18
  refine (congrFun (one_piece _ z3 _ _) (ix3 0 r k)).trans ?_
  unfold k0_pay101
  refine (up3_576 _ r k).trans ?_
  exact c2f_at (I := kI x0 x1 x2 x3 x4 x5 x6 x7 x8 x9 x10 x11 x12 x13 x14 x15 x16 x17) rfl r k

theorem blk19_at (r : Fin 960) (k : Fin 576) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix3 0 r k)
      = (kI x0 x1 x2 x3 x4 x5 x6 x7 x8 x9 x10 x11 x12 x13 x14 x15 x16 x17).sppf r k := by
  unfold out0_A_19
  refine (congrFun (one_piece _ z3 _ _) (ix3 0 r k)).trans ?_
  exact sppf_at (I := kI x0 x1 x2 x3 x4 x5 x6 x7 x8 x9 x10 x11 x12 x13 x14 x15 x16 x17) rfl r k

theorem blk23_at (r : Fin 960) (k : Fin 288) :
    out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix3 0 r k)
      = (kI x0 x1 x2 x3 x4 x5 x6 x7 x8 x9 x10 x11 x12 x13 x14 x15 x16 x17).p0 r k := by
  unfold out0_A_23
  refine (congrFun (one_piece _ z3 _ _) (ix3 0 r k)).trans ?_
  unfold k0_pay105
  refine (up3_288 _ r k).trans ?_
  exact p0_at (I := kI x0 x1 x2 x3 x4 x5 x6 x7 x8 x9 x10 x11 x12 x13 x14 x15 x16 x17) rfl r k

theorem blk24_at (r : Fin 960) (k : Fin 288) :
    out0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix3 0 r k)
      = (kI x0 x1 x2 x3 x4 x5 x6 x7 x8 x9 x10 x11 x12 x13 x14 x15 x16 x17).p1 r k := by
  unfold out0_A_24
  refine (congrFun (one_piece _ z3 _ _) (ix3 0 r k)).trans ?_
  unfold k0_pay117
  refine (up3_288 _ r k).trans ?_
  exact p1_at (I := kI x0 x1 x2 x3 x4 x5 x6 x7 x8 x9 x10 x11 x12 x13 x14 x15 x16 x17) rfl r k

theorem blk25_at (r : Fin 960) (k : Fin 288) :
    out0_A_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix3 0 r k)
      = (kI x0 x1 x2 x3 x4 x5 x6 x7 x8 x9 x10 x11 x12 x13 x14 x15 x16 x17).p3 r k := by
  unfold out0_A_25
  refine (congrFun (one_piece _ z3 _ _) (ix3 0 r k)).trans ?_
  unfold k0_pay144
  refine (up3_288 _ r k).trans ?_
  exact p3_at (I := kI x0 x1 x2 x3 x4 x5 x6 x7 x8 x9 x10 x11 x12 x13 x14 x15 x16 x17) rfl r k

theorem blk20_0_at (r : Fin 960) (k : Fin 288) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix4 0 0 r k)
      = (kI x0 x1 x2 x3 x4 x5 x6 x7 x8 x9 x10 x11 x12 x13 x14 x15 x16 x17).c1 0 r k := by
  unfold out0_A_20
  refine (two_pieces_axis1 _ _ _ _ _ r k).1.trans ?_
  unfold k0_pay8
  refine (up4 _ r k).trans ?_
  exact c10_at (I := kI x0 x1 x2 x3 x4 x5 x6 x7 x8 x9 x10 x11 x12 x13 x14 x15 x16 x17) rfl r k

theorem blk20_1_at (r : Fin 960) (k : Fin 288) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix4 0 1 r k)
      = (kI x0 x1 x2 x3 x4 x5 x6 x7 x8 x9 x10 x11 x12 x13 x14 x15 x16 x17).c1 1 r k := by
  unfold out0_A_20
  refine (two_pieces_axis1 _ _ _ _ _ r k).2.trans ?_
  unfold k0_pay14
  refine (up4 _ r k).trans ?_
  exact c11_at (I := kI x0 x1 x2 x3 x4 x5 x6 x7 x8 x9 x10 x11 x12 x13 x14 x15 x16 x17) rfl r k

theorem blk21_0_at (r : Fin 960) (k : Fin 288) :
    out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix4 0 0 r k)
      = (kI x0 x1 x2 x3 x4 x5 x6 x7 x8 x9 x10 x11 x12 x13 x14 x15 x16 x17).mid0 r k := by
  unfold out0_A_21
  refine (two_pieces_axis0 _ _ _ _ _ r k).1.trans ?_
  unfold k0_pay32
  refine (up4 _ r k).trans ?_
  exact mid0_at (I := kI x0 x1 x2 x3 x4 x5 x6 x7 x8 x9 x10 x11 x12 x13 x14 x15 x16 x17) rfl r k

theorem blk21_1_at (r : Fin 960) (k : Fin 288) :
    out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix4 1 0 r k)
      = (kI x0 x1 x2 x3 x4 x5 x6 x7 x8 x9 x10 x11 x12 x13 x14 x15 x16 x17).mid1 r k := by
  unfold out0_A_21
  refine (two_pieces_axis0 _ _ _ _ _ r k).2.trans ?_
  unfold k0_pay71
  refine (up4 _ r k).trans ?_
  exact mid1_at (I := kI x0 x1 x2 x3 x4 x5 x6 x7 x8 x9 x10 x11 x12 x13 x14 x15 x16 x17) rfl r k

theorem blk22_0_at (r : Fin 960) (k : Fin 288) :
    out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix4 0 0 r k)
      = (kI x0 x1 x2 x3 x4 x5 x6 x7 x8 x9 x10 x11 x12 x13 x14 x15 x16 x17).out0 r k := by
  unfold out0_A_22
  refine (two_pieces_axis0 _ _ _ _ _ r k).1.trans ?_
  unfold k0_pay51
  refine (up4 _ r k).trans ?_
  exact out0_at (I := kI x0 x1 x2 x3 x4 x5 x6 x7 x8 x9 x10 x11 x12 x13 x14 x15 x16 x17) rfl r k

theorem blk22_1_at (r : Fin 960) (k : Fin 288) :
    out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 (ix4 1 0 r k)
      = (kI x0 x1 x2 x3 x4 x5 x6 x7 x8 x9 x10 x11 x12 x13 x14 x15 x16 x17).out1 r k := by
  unfold out0_A_22
  refine (two_pieces_axis0 _ _ _ _ _ r k).2.trans ?_
  unfold k0_pay92
  refine (up4 _ r k).trans ?_
  exact out1_at (I := kI x0 x1 x2 x3 x4 x5 x6 x7 x8 x9 x10 x11 x12 x13 x14 x15 x16 x17) rfl r k

end

end C2f
-- ==== Proof.KArr.lean ====
/-
  What the kernel leaves in its eight result arrays, read at an index: the model's layers over what the kernel reads.
-/
module

public import proofs.«01_k».proof.Proof.KOut

@[expose] public section

set_option maxRecDepth 16384

noncomputable section

namespace C2f

open Cert.KernelIdeal.Gen Idealize.ShloMosaic Cert.KernelIdeal

/-! ### The whole arrays -/

variable (m : (ℓ : Loc nD τ sig) → Buf (Elt Ideal) ℓ) (c : Dev nD)

/-- The grid point of image `b`. -/
def pt (b : Fin 16) : Fin cfg0.N := ⟨b.val, by have h : cfg0.N = 16 := N_0; omega⟩

/-- What the kernel reads for image `b`. -/
def kIn (b : Fin 16) : Inp :=
  kI (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) (iblk m c 10 (pt b)) (iblk m c 11 (pt b)) (iblk m c 12 (pt b)) (iblk m c 13 (pt b)) (iblk m c 14 (pt b)) (iblk m c 15 (pt b)) (iblk m c 16 (pt b)) (iblk m c 17 (pt b))

theorem arr18_at (b : Fin 16) (r : Fin 960) (k : Fin 576) :
    (dats m 0 c).arrAt 18 cfg0.N (ix3 b r k) = (kIn m c b).c2f r k := by
  have h := congrFun (Value.blocks18 m c (pt b) (flush0_18 _)) (ix3 0 r k)
  have e : ((cfg0.win 18).blk (pt b)).view.emb (ix3 0 r k) = (ix3 b r k : S16x960x576.Idx) := by
    obtain ⟨e0, e1, e2⟩ := (by decide +kernel : ∀ t : Fin grid0.N, win0_18.index t (0 : Fin 3) = t.val ∧ win0_18.index t (1 : Fin 3) = 0 ∧ win0_18.index t (2 : Fin 3) = 0) (pt b)
    funext a; apply Fin.ext
    match a with
    | ⟨0, _⟩ => show win0_18.index (pt b) (0 : Fin 3) * 1 + 1 * 0 = b.val; rw [e0]; simp [pt]
    | ⟨1, _⟩ => show win0_18.index (pt b) (1 : Fin 3) * 960 + 1 * r.val = r.val; omega
    | ⟨2, _⟩ => show win0_18.index (pt b) (2 : Fin 3) * 576 + 1 * k.val = k.val; omega
  rw [Value.flushed18_A] at h
  exact ((congrArg ((dats m 0 c).arrAt 18 cfg0.N) e).symm.trans h).trans (blk18_at r k)

theorem arr19_at (b : Fin 16) (r : Fin 960) (k : Fin 576) :
    (dats m 0 c).arrAt 19 cfg0.N (ix3 b r k) = (kIn m c b).sppf r k := by
  have h := congrFun (Value.blocks19 m c (pt b) (flush0_19 _)) (ix3 0 r k)
  have e : ((cfg0.win 19).blk (pt b)).view.emb (ix3 0 r k) = (ix3 b r k : S16x960x576.Idx) := by
    obtain ⟨e0, e1, e2⟩ := (by decide +kernel : ∀ t : Fin grid0.N, win0_19.index t (0 : Fin 3) = t.val ∧ win0_19.index t (1 : Fin 3) = 0 ∧ win0_19.index t (2 : Fin 3) = 0) (pt b)
    funext a; apply Fin.ext
    match a with
    | ⟨0, _⟩ => show win0_19.index (pt b) (0 : Fin 3) * 1 + 1 * 0 = b.val; rw [e0]; simp [pt]
    | ⟨1, _⟩ => show win0_19.index (pt b) (1 : Fin 3) * 960 + 1 * r.val = r.val; omega
    | ⟨2, _⟩ => show win0_19.index (pt b) (2 : Fin 3) * 576 + 1 * k.val = k.val; omega
  rw [Value.flushed19_A] at h
  exact ((congrArg ((dats m 0 c).arrAt 19 cfg0.N) e).symm.trans h).trans (blk19_at r k)

theorem arr23_at (b : Fin 16) (r : Fin 960) (k : Fin 288) :
    (dats m 0 c).arrAt 23 cfg0.N (ix3 b r k) = (kIn m c b).p0 r k := by
  have h := congrFun (Value.blocks23 m c (pt b) (flush0_23 _)) (ix3 0 r k)
  have e : ((cfg0.win 23).blk (pt b)).view.emb (ix3 0 r k) = (ix3 b r k : S16x960x288.Idx) := by
    obtain ⟨e0, e1, e2⟩ := (by decide +kernel : ∀ t : Fin grid0.N, win0_23.index t (0 : Fin 3) = t.val ∧ win0_23.index t (1 : Fin 3) = 0 ∧ win0_23.index t (2 : Fin 3) = 0) (pt b)
    funext a; apply Fin.ext
    match a with
    | ⟨0, _⟩ => show win0_23.index (pt b) (0 : Fin 3) * 1 + 1 * 0 = b.val; rw [e0]; simp [pt]
    | ⟨1, _⟩ => show win0_23.index (pt b) (1 : Fin 3) * 960 + 1 * r.val = r.val; omega
    | ⟨2, _⟩ => show win0_23.index (pt b) (2 : Fin 3) * 288 + 1 * k.val = k.val; omega
  rw [Value.flushed23_A] at h
  exact ((congrArg ((dats m 0 c).arrAt 23 cfg0.N) e).symm.trans h).trans (blk23_at r k)

theorem arr24_at (b : Fin 16) (r : Fin 960) (k : Fin 288) :
    (dats m 0 c).arrAt 24 cfg0.N (ix3 b r k) = (kIn m c b).p1 r k := by
  have h := congrFun (Value.blocks24 m c (pt b) (flush0_24 _)) (ix3 0 r k)
  have e : ((cfg0.win 24).blk (pt b)).view.emb (ix3 0 r k) = (ix3 b r k : S16x960x288.Idx) := by
    obtain ⟨e0, e1, e2⟩ := (by decide +kernel : ∀ t : Fin grid0.N, win0_24.index t (0 : Fin 3) = t.val ∧ win0_24.index t (1 : Fin 3) = 0 ∧ win0_24.index t (2 : Fin 3) = 0) (pt b)
    funext a; apply Fin.ext
    match a with
    | ⟨0, _⟩ => show win0_24.index (pt b) (0 : Fin 3) * 1 + 1 * 0 = b.val; rw [e0]; simp [pt]
    | ⟨1, _⟩ => show win0_24.index (pt b) (1 : Fin 3) * 960 + 1 * r.val = r.val; omega
    | ⟨2, _⟩ => show win0_24.index (pt b) (2 : Fin 3) * 288 + 1 * k.val = k.val; omega
  rw [Value.flushed24_A] at h
  exact ((congrArg ((dats m 0 c).arrAt 24 cfg0.N) e).symm.trans h).trans (blk24_at r k)

theorem arr25_at (b : Fin 16) (r : Fin 960) (k : Fin 288) :
    (dats m 0 c).arrAt 25 cfg0.N (ix3 b r k) = (kIn m c b).p3 r k := by
  have h := congrFun (Value.blocks25 m c (pt b) (flush0_25 _)) (ix3 0 r k)
  have e : ((cfg0.win 25).blk (pt b)).view.emb (ix3 0 r k) = (ix3 b r k : S16x960x288.Idx) := by
    obtain ⟨e0, e1, e2⟩ := (by decide +kernel : ∀ t : Fin grid0.N, win0_25.index t (0 : Fin 3) = t.val ∧ win0_25.index t (1 : Fin 3) = 0 ∧ win0_25.index t (2 : Fin 3) = 0) (pt b)
    funext a; apply Fin.ext
    match a with
    | ⟨0, _⟩ => show win0_25.index (pt b) (0 : Fin 3) * 1 + 1 * 0 = b.val; rw [e0]; simp [pt]
    | ⟨1, _⟩ => show win0_25.index (pt b) (1 : Fin 3) * 960 + 1 * r.val = r.val; omega
    | ⟨2, _⟩ => show win0_25.index (pt b) (2 : Fin 3) * 288 + 1 * k.val = k.val; omega
  rw [Value.flushed25_A] at h
  exact ((congrArg ((dats m 0 c).arrAt 25 cfg0.N) e).symm.trans h).trans (blk25_at r k)

theorem arr20_0_at (b : Fin 16) (r : Fin 960) (k : Fin 288) :
    (dats m 0 c).arrAt 20 cfg0.N (ix4 b 0 r k) = (kIn m c b).c1 0 r k := by
  have h := congrFun (Value.blocks20 m c (pt b) (flush0_20 _)) (ix4 0 0 r k)
  have e : ((cfg0.win 20).blk (pt b)).view.emb (ix4 0 0 r k) = (ix4 b 0 r k : S16x2x960x288.Idx) := by
    obtain ⟨e0, e1, e2, e3⟩ := (by decide +kernel : ∀ t : Fin grid0.N, win0_20.index t (0 : Fin 4) = t.val ∧ win0_20.index t (1 : Fin 4) = 0 ∧ win0_20.index t (2 : Fin 4) = 0 ∧ win0_20.index t (3 : Fin 4) = 0) (pt b)
    funext a; apply Fin.ext
    match a with
    | ⟨0, _⟩ => show win0_20.index (pt b) (0 : Fin 4) * 1 + 1 * 0 = b.val; rw [e0]; simp [pt]
    | ⟨1, _⟩ => show win0_20.index (pt b) (1 : Fin 4) * 2 + 1 * 0 = 0; omega
    | ⟨2, _⟩ => show win0_20.index (pt b) (2 : Fin 4) * 960 + 1 * r.val = r.val; omega
    | ⟨3, _⟩ => show win0_20.index (pt b) (3 : Fin 4) * 288 + 1 * k.val = k.val; omega
  rw [Value.flushed20_A] at h
  exact ((congrArg ((dats m 0 c).arrAt 20 cfg0.N) e).symm.trans h).trans (blk20_0_at r k)

theorem arr20_1_at (b : Fin 16) (r : Fin 960) (k : Fin 288) :
    (dats m 0 c).arrAt 20 cfg0.N (ix4 b 1 r k) = (kIn m c b).c1 1 r k := by
  have h := congrFun (Value.blocks20 m c (pt b) (flush0_20 _)) (ix4 0 1 r k)
  have e : ((cfg0.win 20).blk (pt b)).view.emb (ix4 0 1 r k) = (ix4 b 1 r k : S16x2x960x288.Idx) := by
    obtain ⟨e0, e1, e2, e3⟩ := (by decide +kernel : ∀ t : Fin grid0.N, win0_20.index t (0 : Fin 4) = t.val ∧ win0_20.index t (1 : Fin 4) = 0 ∧ win0_20.index t (2 : Fin 4) = 0 ∧ win0_20.index t (3 : Fin 4) = 0) (pt b)
    funext a; apply Fin.ext
    match a with
    | ⟨0, _⟩ => show win0_20.index (pt b) (0 : Fin 4) * 1 + 1 * 0 = b.val; rw [e0]; simp [pt]
    | ⟨1, _⟩ => show win0_20.index (pt b) (1 : Fin 4) * 2 + 1 * 1 = 1; omega
    | ⟨2, _⟩ => show win0_20.index (pt b) (2 : Fin 4) * 960 + 1 * r.val = r.val; omega
    | ⟨3, _⟩ => show win0_20.index (pt b) (3 : Fin 4) * 288 + 1 * k.val = k.val; omega
  rw [Value.flushed20_A] at h
  exact ((congrArg ((dats m 0 c).arrAt 20 cfg0.N) e).symm.trans h).trans (blk20_1_at r k)

theorem arr21_0_at (b : Fin 16) (r : Fin 960) (k : Fin 288) :
    (dats m 0 c).arrAt 21 cfg0.N (ix4 0 b r k) = (kIn m c b).mid0 r k := by
  have h := congrFun (Value.blocks21 m c (pt b) (flush0_21 _)) (ix4 0 0 r k)
  have e : ((cfg0.win 21).blk (pt b)).view.emb (ix4 0 0 r k) = (ix4 0 b r k : S2x16x960x288.Idx) := by
    obtain ⟨e0, e1, e2, e3⟩ := (by decide +kernel : ∀ t : Fin grid0.N, win0_21.index t (1 : Fin 4) = t.val ∧ win0_21.index t (0 : Fin 4) = 0 ∧ win0_21.index t (2 : Fin 4) = 0 ∧ win0_21.index t (3 : Fin 4) = 0) (pt b)
    funext a; apply Fin.ext
    match a with
    | ⟨1, _⟩ => show win0_21.index (pt b) (1 : Fin 4) * 1 + 1 * 0 = b.val; rw [e0]; simp [pt]
    | ⟨0, _⟩ => show win0_21.index (pt b) (0 : Fin 4) * 2 + 1 * 0 = 0; omega
    | ⟨2, _⟩ => show win0_21.index (pt b) (2 : Fin 4) * 960 + 1 * r.val = r.val; omega
    | ⟨3, _⟩ => show win0_21.index (pt b) (3 : Fin 4) * 288 + 1 * k.val = k.val; omega
  rw [Value.flushed21_A] at h
  exact ((congrArg ((dats m 0 c).arrAt 21 cfg0.N) e).symm.trans h).trans (blk21_0_at r k)

theorem arr21_1_at (b : Fin 16) (r : Fin 960) (k : Fin 288) :
    (dats m 0 c).arrAt 21 cfg0.N (ix4 1 b r k) = (kIn m c b).mid1 r k := by
  have h := Value.blocks21 m c (pt b) (flush0_21 _)
  have e : ((cfg0.win 21).blk (pt b)).view.emb (ix4 1 0 r k : S2x1x960x288.Idx) = (ix4 1 b r k : S2x16x960x288.Idx) := by
    obtain ⟨e0, e1, e2, e3⟩ := (by decide +kernel : ∀ t : Fin grid0.N, win0_21.index t (1 : Fin 4) = t.val ∧ win0_21.index t (0 : Fin 4) = 0 ∧ win0_21.index t (2 : Fin 4) = 0 ∧ win0_21.index t (3 : Fin 4) = 0) (pt b)
    funext a; apply Fin.ext
    match a with
    | ⟨1, _⟩ => show win0_21.index (pt b) (1 : Fin 4) * 1 + 1 * 0 = b.val; rw [e0]; simp [pt]
    | ⟨0, _⟩ => show win0_21.index (pt b) (0 : Fin 4) * 2 + 1 * 1 = 1; omega
    | ⟨2, _⟩ => show win0_21.index (pt b) (2 : Fin 4) * 960 + 1 * r.val = r.val; omega
    | ⟨3, _⟩ => show win0_21.index (pt b) (3 : Fin 4) * 288 + 1 * k.val = k.val; omega
  rw [Value.flushed21_A] at h
  have h' : ∀ j, (dats m 0 c).arrAt 21 cfg0.N (((cfg0.win 21).blk (pt b)).view.emb j) = _ := fun j => congrFun h j
  rw [← e, h']
  exact blk21_1_at r k

theorem arr22_0_at (b : Fin 16) (r : Fin 960) (k : Fin 288) :
    (dats m 0 c).arrAt 22 cfg0.N (ix4 0 b r k) = (kIn m c b).out0 r k := by
  have h := congrFun (Value.blocks22 m c (pt b) (flush0_22 _)) (ix4 0 0 r k)
  have e : ((cfg0.win 22).blk (pt b)).view.emb (ix4 0 0 r k) = (ix4 0 b r k : S2x16x960x288.Idx) := by
    obtain ⟨e0, e1, e2, e3⟩ := (by decide +kernel : ∀ t : Fin grid0.N, win0_22.index t (1 : Fin 4) = t.val ∧ win0_22.index t (0 : Fin 4) = 0 ∧ win0_22.index t (2 : Fin 4) = 0 ∧ win0_22.index t (3 : Fin 4) = 0) (pt b)
    funext a; apply Fin.ext
    match a with
    | ⟨1, _⟩ => show win0_22.index (pt b) (1 : Fin 4) * 1 + 1 * 0 = b.val; rw [e0]; simp [pt]
    | ⟨0, _⟩ => show win0_22.index (pt b) (0 : Fin 4) * 2 + 1 * 0 = 0; omega
    | ⟨2, _⟩ => show win0_22.index (pt b) (2 : Fin 4) * 960 + 1 * r.val = r.val; omega
    | ⟨3, _⟩ => show win0_22.index (pt b) (3 : Fin 4) * 288 + 1 * k.val = k.val; omega
  rw [Value.flushed22_A] at h
  exact ((congrArg ((dats m 0 c).arrAt 22 cfg0.N) e).symm.trans h).trans (blk22_0_at r k)

theorem arr22_1_at (b : Fin 16) (r : Fin 960) (k : Fin 288) :
    (dats m 0 c).arrAt 22 cfg0.N (ix4 1 b r k) = (kIn m c b).out1 r k := by
  have h := Value.blocks22 m c (pt b) (flush0_22 _)
  have e : ((cfg0.win 22).blk (pt b)).view.emb (ix4 1 0 r k : S2x1x960x288.Idx) = (ix4 1 b r k : S2x16x960x288.Idx) := by
    obtain ⟨e0, e1, e2, e3⟩ := (by decide +kernel : ∀ t : Fin grid0.N, win0_22.index t (1 : Fin 4) = t.val ∧ win0_22.index t (0 : Fin 4) = 0 ∧ win0_22.index t (2 : Fin 4) = 0 ∧ win0_22.index t (3 : Fin 4) = 0) (pt b)
    funext a; apply Fin.ext
    match a with
    | ⟨1, _⟩ => show win0_22.index (pt b) (1 : Fin 4) * 1 + 1 * 0 = b.val; rw [e0]; simp [pt]
    | ⟨0, _⟩ => show win0_22.index (pt b) (0 : Fin 4) * 2 + 1 * 1 = 1; omega
    | ⟨2, _⟩ => show win0_22.index (pt b) (2 : Fin 4) * 960 + 1 * r.val = r.val; omega
    | ⟨3, _⟩ => show win0_22.index (pt b) (3 : Fin 4) * 288 + 1 * k.val = k.val; omega
  rw [Value.flushed22_A] at h
  have h' : ∀ j, (dats m 0 c).arrAt 22 cfg0.N (((cfg0.win 22).blk (pt b)).view.emb j) = _ := fun j => congrFun h j
  rw [← e, h']
  exact blk22_1_at r k

end C2f
-- ==== Proof.RStage.lean ====
/-
  The vector expressions of the reference's body, read at a batch, a row `r = 24 * h + w` and a channel: products of
  reshaped rows, zero-padded convolutions, maximum pools, the affine map, the activation and the quantiser.
-/
module

public import proofs.«01_k».proof.Proof.Gen.ReferenceIdeal.Skeleton
public import proofs.«01_k».proof.Proof.Model

@[expose] public section

set_option maxRecDepth 16384

noncomputable section

namespace C2f.R

open Cert.ReferenceIdeal.Gen Idealize.ShloMosaic Cert.ReferenceIdeal

/-- The height of a row. -/
def hh (r : Fin 960) : Fin 40 := ⟨r.val / 24, by omega⟩
/-- The width of a row. -/
def ww (r : Fin 960) : Fin 24 := ⟨r.val % 24, by omega⟩

/-- Image `b` of a batch. -/
def im {n : ℕ} (v : (⟨4, ![16, 40, 24, n]⟩ : Shape).Idx → EReal) (b : Fin 16) (r : Fin 960) (c : Fin n) : EReal :=
  v (ix4 b (hh r) (ww r) c)

/-- A matrix as a function of its two coordinates. -/
def mat {k n : ℕ} (v : (⟨2, ![k, n]⟩ : Shape).Idx → EReal) (i : Fin k) (c : Fin n) : EReal := v (ix2 i c)

/-- The row of the flattened batch. -/
def fl (b : Fin 16) (r : Fin 960) : Fin 15360 := ⟨b.val * 960 + r.val, by omega⟩

theorem up_apply {n : ℕ} (y : (⟨2, ![15360, n]⟩ : Shape).Idx → EReal)
    (h : (⟨2, ![15360, n]⟩ : Shape).ShapeCasts ⟨4, ![16, 40, 24, n]⟩) (b : Fin 16) (r : Fin 960) (c : Fin n) :
    shapeCast ⟨4, ![16, 40, 24, n]⟩ y h (ix4 b (hh r) (ww r) c) = y (ix2 (fl b r) c) :=
  shapeCast_apply y h _ _ (by
    rw [Shape.rowMajor_val_two, Shape.rowMajor_val_four]
    show (b.val * 960 + r.val) * n + c.val = ((b.val * 40 + r.val / 24) * 24 + r.val % 24) * n + c.val
    have : b.val * 960 + r.val = (b.val * 40 + r.val / 24) * 24 + r.val % 24 := by omega
    rw [this])

theorem down_apply {n : ℕ} (y : (⟨4, ![16, 40, 24, n]⟩ : Shape).Idx → EReal)
    (h : (⟨4, ![16, 40, 24, n]⟩ : Shape).ShapeCasts ⟨2, ![15360, n]⟩) (b : Fin 16) (r : Fin 960) (c : Fin n) :
    shapeCast ⟨2, ![15360, n]⟩ y h (ix2 (fl b r) c) = im y b r c :=
  shapeCast_apply y h _ _ (by
    rw [Shape.rowMajor_val_two, Shape.rowMajor_val_four]
    show ((b.val * 40 + r.val / 24) * 24 + r.val % 24) * n + c.val = (b.val * 960 + r.val) * n + c.val
    have : b.val * 960 + r.val = (b.val * 40 + r.val / 24) * 24 + r.val % 24 := by omega
    rw [this])

theorem flat_apply {n : ℕ} (y : (⟨4, ![16, 40, 24, n]⟩ : Shape).Idx → EReal)
    (h : (⟨4, ![16, 40, 24, n]⟩ : Shape).ShapeCasts ⟨3, ![16, 960, n]⟩) (b : Fin 16) (r : Fin 960) (c : Fin n) :
    shapeCast ⟨3, ![16, 960, n]⟩ y h (ix3 b r c) = im y b r c :=
  shapeCast_apply y h _ _ (by
    rw [Shape.rowMajor_val_three, Shape.rowMajor_val_four]
    show ((b.val * 40 + r.val / 24) * 24 + r.val % 24) * n + c.val = (b.val * 960 + r.val) * n + c.val
    have : b.val * 960 + r.val = (b.val * 40 + r.val / 24) * 24 + r.val % 24 := by omega
    rw [this])

/-- The product of a batch of 288 channels with a 288 x 288 matrix. -/
def mmR (v : FVec Ideal S16x40x24x288 .fp8e4m3) (w : FVec Ideal S288x288 .fp8e4m3) : FVec Ideal S16x40x24x288 .f32 :=
  shapeCast S16x40x24x288 (matmul dot_S15360x288_S288x288_S15360x288_1_0_0_1_n_n none
    (shapeCast S15360x288 v shapeCasts_S16x40x24x288_S15360x288) w (constant S15360x288 .f32 0x00000000#32))
    shapeCasts_S15360x288_S16x40x24x288

/-- From 576 channels to 288. -/
def mmRd (v : FVec Ideal S16x40x24x576 .fp8e4m3) (w : FVec Ideal S576x288 .fp8e4m3) : FVec Ideal S16x40x24x288 .f32 :=
  shapeCast S16x40x24x288 (matmul dot_S15360x576_S576x288_S15360x288_1_0_0_1_n_n none
    (shapeCast S15360x576 v shapeCasts_S16x40x24x576_S15360x576) w (constant S15360x288 .f32 0x00000000#32))
    shapeCasts_S15360x288_S16x40x24x288

/-- From 288 channels to 576, the weights one member of a stack. -/
def mmRu (v : FVec Ideal S16x40x24x288 .fp8e4m3) (w : FVec Ideal S1x288x576 .fp8e4m3) : FVec Ideal S16x40x24x576 .f32 :=
  shapeCast S16x40x24x576 (matmul dot_S15360x288_S288x576_S15360x576_1_0_0_1_n_n none
    (shapeCast S15360x288 v shapeCasts_S16x40x24x288_S15360x288)
    (shapeCast S288x576 w shapeCasts_S1x288x576_S288x576) (constant S15360x576 .f32 0x00000000#32))
    shapeCasts_S15360x576_S16x40x24x576

theorem mat288_apply (a : FVec Ideal S15360x288 .fp8e4m3) (w : FVec Ideal S288x288 .fp8e4m3) (r : Fin 15360) (c : Fin 288) :
    matmul dot_S15360x288_S288x288_S15360x288_1_0_0_1_n_n none a w (constant S15360x288 .f32 0x00000000#32) (ix2 r c)
      = ∑ k : Fin 288, a (ix2 r k) * w (ix2 k c) := by
  pointwise

theorem mat576_apply (a : FVec Ideal S15360x576 .fp8e4m3) (w : FVec Ideal S576x288 .fp8e4m3) (r : Fin 15360) (c : Fin 288) :
    matmul dot_S15360x576_S576x288_S15360x288_1_0_0_1_n_n none a w (constant S15360x288 .f32 0x00000000#32) (ix2 r c)
      = ∑ k : Fin 576, a (ix2 r k) * w (ix2 k c) := by
  pointwise

theorem matUp_apply (a : FVec Ideal S15360x288 .fp8e4m3) (w : FVec Ideal S288x576 .fp8e4m3) (r : Fin 15360) (c : Fin 576) :
    matmul dot_S15360x288_S288x576_S15360x576_1_0_0_1_n_n none a w (constant S15360x576 .f32 0x00000000#32) (ix2 r c)
      = ∑ k : Fin 288, a (ix2 r k) * w (ix2 k c) := by
  pointwise

theorem mmR_im (v : FVec Ideal S16x40x24x288 .fp8e4m3) (w : FVec Ideal S288x288 .fp8e4m3) (b : Fin 16) (r : Fin 960)
    (c : Fin 288) : im (mmR v w) b r c = mm (im v b) (mat w) r c := by
  refine (up_apply _ _ b r c).trans ((mat288_apply _ _ _ _).trans (Finset.sum_congr rfl fun k _ => ?_))
  exact congrArg (· * w (ix2 k c)) (down_apply v _ b r k)

theorem mmRd_im (v : FVec Ideal S16x40x24x576 .fp8e4m3) (w : FVec Ideal S576x288 .fp8e4m3) (b : Fin 16) (r : Fin 960)
    (c : Fin 288) : im (mmRd v w) b r c = mm (im v b) (mat w) r c := by
  refine (up_apply _ _ b r c).trans ((mat576_apply _ _ _ _).trans (Finset.sum_congr rfl fun k _ => ?_))
  exact congrArg (· * w (ix2 k c)) (down_apply v _ b r k)

theorem mmRu_im (v : FVec Ideal S16x40x24x288 .fp8e4m3) (w : FVec Ideal S1x288x576 .fp8e4m3) (b : Fin 16) (r : Fin 960)
    (c : Fin 576) : im (mmRu v w) b r c = mm (im v b) (fun k c => w (ix3 0 k c)) r c := by
  have hw : ∀ (k : Fin 288), shapeCast S288x576 w shapeCasts_S1x288x576_S288x576 (ix2 k c) = w (ix3 0 k c) := by
    intro k
    pointwise
  refine (up_apply _ _ b r c).trans ((matUp_apply _ _ _ _).trans (Finset.sum_congr rfl fun k _ => ?_))
  exact congrArg₂ (fun u v : EReal => u * v) (down_apply v _ b r k) (hw k)

/-- The scalar `s` over a batch of 288 channels. -/
def scR (s : Vec Ideal S1 .f32) : FVec Ideal S16x40x24x288 .f32 :=
  broadcastTo S16x40x24x288 (shapeCast S1x1x1x1 s shapeCasts_S1_S1x1x1x1) broadcasts_S1x1x1x1_S16x40x24x288

/-- The scalar `s` over a batch of 576 channels. -/
def scRu (s : Vec Ideal S1 .f32) : FVec Ideal S16x40x24x576 .f32 :=
  broadcastTo S16x40x24x576 (shapeCast S1x1x1x1 s shapeCasts_S1_S1x1x1x1) broadcasts_S1x1x1x1_S16x40x24x576

/-- The row `g` over a batch. -/
def rowR (g : FVec Ideal S288 .f32) : FVec Ideal S16x40x24x288 .f32 :=
  broadcastTo S16x40x24x288 (shapeCast S1x1x1x288 g shapeCasts_S288_S1x1x1x288) broadcasts_S1x1x1x288_S16x40x24x288

/-- The row `g` over a batch of 576 channels. -/
def rowRu (g : FVec Ideal S576 .f32) : FVec Ideal S16x40x24x576 .f32 :=
  broadcastTo S16x40x24x576 (shapeCast S1x1x1x576 g shapeCasts_S576_S1x1x1x576) broadcasts_S1x1x1x576_S16x40x24x576

/-- The row `w` scaled by `s`. -/
def gR (s : Vec Ideal S1 .f32) (w : FVec Ideal S288 .f32) : FVec Ideal S288 .f32 :=
  mulf (broadcastTo S288 s broadcasts_S1_S288) w

/-- A one-row matrix as a row. -/
def dropR (w : Vec Ideal S1x288 .f32) : FVec Ideal S288 .f32 := shapeCast S288 w shapeCasts_S1x288_S288

theorem scR_im (s : Vec Ideal S1 .f32) (b : Fin 16) (r : Fin 960) (c : Fin 288) : im (scR s) b r c = s (ix1 0) := by
  pointwise [scR, im]

theorem scRu_im (s : Vec Ideal S1 .f32) (b : Fin 16) (r : Fin 960) (c : Fin 576) : im (scRu s) b r c = s (ix1 0) := by
  pointwise [scRu, im]

theorem rowR_im (g : FVec Ideal S288 .f32) (b : Fin 16) (r : Fin 960) (c : Fin 288) : im (rowR g) b r c = g (ix1 c) := by
  pointwise [rowR, im]

theorem rowRu_im (g : FVec Ideal S576 .f32) (b : Fin 16) (r : Fin 960) (c : Fin 576) : im (rowRu g) b r c = g (ix1 c) := by
  pointwise [rowRu, im]

theorem gR_apply (s : Vec Ideal S1 .f32) (w : FVec Ideal S288 .f32) (c : Fin 288) :
    gR s w (ix1 c) = s (ix1 0) * w (ix1 c) := by
  pointwise [gR]

theorem dropR_apply (w : Vec Ideal S1x288 .f32) (c : Fin 288) : dropR w (ix1 c) = w (ix2 0 c) := by
  pointwise [dropR]

/-- The affine map, the row of factors and the row of biases laid over the batch. -/
def linR (a : FVec Ideal S16x40x24x288 .f32) (g b : FVec Ideal S288 .f32) : FVec Ideal S16x40x24x288 .f32 :=
  addf (mulf a (rowR g)) (rowR b)

/-- The affine map over 576 channels. -/
def linRu (a : FVec Ideal S16x40x24x576 .f32) (g b : FVec Ideal S576 .f32) : FVec Ideal S16x40x24x576 .f32 :=
  addf (mulf a (rowRu g)) (rowRu b)

/-- The activation. -/
def siluR {t : Shape} (z : FVec Ideal t .f32) : FVec Ideal t .f32 := mulf z (logistic z)

/-- The quantiser, the scale laid out already. -/
def quantR {t : Shape} (v s : FVec Ideal t .f32) : FVec Ideal t .fp8e4m3 :=
  truncf .fp8e4m3 (minimumf (broadcast t (Scalar.ofBits .f32 0x43E00000#32))
    (maximumf (broadcast t (Scalar.ofBits .f32 0xC3E00000#32)) (divf v s))) bitsLt_fp8e4m3_f32

theorem addR_im {n : ℕ} (x y : FVec Ideal ⟨4, ![16, 40, 24, n]⟩ .f32) (b : Fin 16) (r : Fin 960) (c : Fin n) :
    im (addf x y) b r c = im x b r c + im y b r c := rfl

theorem mulR_im {n : ℕ} (x y : FVec Ideal ⟨4, ![16, 40, 24, n]⟩ .f32) (b : Fin 16) (r : Fin 960) (c : Fin n) :
    im (mulf x y) b r c = im x b r c * im y b r c := rfl

theorem extR_im {n : ℕ} (x : FVec Ideal ⟨4, ![16, 40, 24, n]⟩ .fp8e4m3) (b : Fin 16) (r : Fin 960) (c : Fin n) :
    im (extf .f32 x bitsLt_fp8e4m3_f32) b r c = im x b r c := rfl

theorem linR_im (a : FVec Ideal S16x40x24x288 .f32) (g d : FVec Ideal S288 .f32) (b : Fin 16) (r : Fin 960)
    (c : Fin 288) : im (linR a g d) b r c = im a b r c * g (ix1 c) + d (ix1 c) :=
  (addR_im _ _ b r c).trans (congrArg₂ (fun u v : EReal => u + v)
    ((mulR_im _ _ b r c).trans (congrArg (fun u : EReal => im a b r c * u) (rowR_im g b r c))) (rowR_im d b r c))

theorem linRu_im (a : FVec Ideal S16x40x24x576 .f32) (g d : FVec Ideal S576 .f32) (b : Fin 16) (r : Fin 960)
    (c : Fin 576) : im (linRu a g d) b r c = im a b r c * g (ix1 c) + d (ix1 c) :=
  (addR_im _ _ b r c).trans (congrArg₂ (fun u v : EReal => u + v)
    ((mulR_im _ _ b r c).trans (congrArg (fun u : EReal => im a b r c * u) (rowRu_im g b r c))) (rowRu_im d b r c))

theorem siluR_apply {t : Shape} (z : FVec Ideal t .f32) (i : t.Idx) : siluR z i = silu (z i) := by
  have e : (0 : EReal) - z i = -(z i) := by rw [sub_eq_add_neg, zero_add]
  show (z i : EReal) * Ideal.div 1 (1 + Ideal.exp (-(z i))) = silu (z i)
  rw [silu, e]

theorem siluR_im {n : ℕ} (z : FVec Ideal ⟨4, ![16, 40, 24, n]⟩ .f32) (b : Fin 16) (r : Fin 960) (c : Fin n) :
    im (siluR z) b r c = silu (im z b r c) := siluR_apply z _

theorem quantR_im {n : ℕ} (v s : FVec Ideal ⟨4, ![16, 40, 24, n]⟩ .f32) (b : Fin 16) (r : Fin 960) (c : Fin n) :
    im (quantR v s) b r c = quant (im v b r c) (im s b r c) := rfl

/-! ### Padding by one and the nine taps -/

/-- A batch with a border of `z` one wide. -/
def pad1 (z : Ideal .f32) (v : FVec Ideal S16x40x24x288 .fp8e4m3) : FVec Ideal S16x42x26x288 .fp8e4m3 :=
  truncf .fp8e4m3 (concatenate S16x42x26x288 2 [⟨S16x42x25x288, concatenate S16x42x25x288 2
    [⟨S16x42x1x288, broadcast S16x42x1x288 z⟩, ⟨S16x42x24x288, concatenate S16x42x24x288 1
      [⟨S16x41x24x288, concatenate S16x41x24x288 1 [⟨S16x1x24x288, broadcast S16x1x24x288 z⟩,
        ⟨S16x40x24x288, extf .f32 v bitsLt_fp8e4m3_f32⟩] concatenates_S16x1x24x288_S16x40x24x288_S16x41x24x288_d1⟩,
       ⟨S16x1x24x288, broadcast S16x1x24x288 z⟩] concatenates_S16x41x24x288_S16x1x24x288_S16x42x24x288_d1⟩]
    concatenates_S16x42x1x288_S16x42x24x288_S16x42x25x288_d2⟩, ⟨S16x42x1x288, broadcast S16x42x1x288 z⟩]
    concatenates_S16x42x25x288_S16x42x1x288_S16x42x26x288_d2) bitsLt_fp8e4m3_f32

theorem pad1_apply (z : Ideal .f32) (v : FVec Ideal S16x40x24x288 .fp8e4m3) (b : Fin 16) (y : Fin 42) (x : Fin 26)
    (c : Fin 288) : pad1 z v (ix4 b y x c) =
      if h : (1 ≤ y.val ∧ y.val < 41) ∧ 1 ≤ x.val ∧ x.val < 25 then
        v (ix4 b ⟨y.val - 1, by omega⟩ ⟨x.val - 1, by omega⟩ c) else z := by
  pointwise [pad1]
  by_cases h : (1 ≤ y.val ∧ y.val < 41) ∧ 1 ≤ x.val ∧ x.val < 25
  · rw [dif_pos h, dif_pos (by omega), dif_neg (by omega), dif_pos (by omega), dif_neg (by omega)]
  · rw [dif_neg h]
    by_cases h1 : x.val < 25
    · rw [dif_pos h1]
      by_cases h2 : x.val < 1
      · rw [dif_pos h2]
      · rw [dif_neg h2]
        by_cases h3 : y.val < 41
        · rw [dif_pos h3, dif_pos (by omega)]
        · rw [dif_neg h3]
    · rw [dif_neg h1]

/-- A slice of the padded batch is the image moved by one tap. -/
theorem tap1_im (ky kx : ℕ) (hy : ky < 3) (hx : kx < 3) (z : Ideal .f32) (v : FVec Ideal S16x40x24x288 .fp8e4m3)
    (h : S16x42x26x288.Slices ![0, ky, kx, 0] S16x40x24x288) (b : Fin 16) (r : Fin 960) (c : Fin 288) :
    im (extractStridedSlice S16x40x24x288 ![0, ky, kx, 0] (pad1 z v) h) b r c
      = tap 1 ky kx z (fun q => im v b q c) r := by
  refine (extractStridedSlice_apply _ _ h _ (ix4 b ⟨ky + r.val / 24, by omega⟩ ⟨kx + r.val % 24, by omega⟩ c)
    (fun a => ?_)).trans ((pad1_apply _ _ _ _ _ _).trans ?_)
  · match a with
    | ⟨0, _⟩ => exact (Nat.zero_add _).symm
    | ⟨1, _⟩ => rfl
    | ⟨2, _⟩ => rfl
    | ⟨3, _⟩ => exact (Nat.zero_add _).symm
  · unfold tap
    by_cases hc : (1 ≤ r.val / 24 + ky ∧ r.val / 24 + ky < 40 + 1) ∧ 1 ≤ r.val % 24 + kx ∧ r.val % 24 + kx < 24 + 1
    · rw [dif_pos hc, dif_pos (show (1 ≤ ky + r.val / 24 ∧ ky + r.val / 24 < 41) ∧ 1 ≤ kx + r.val % 24 ∧ kx + r.val % 24 < 25 by omega)]
      unfold im
      congr 2
      · apply Fin.ext
        show ky + r.val / 24 - 1 = ((r.val / 24 + ky - 1) * 24 + (r.val % 24 + kx - 1)) / 24
        omega
      · apply Fin.ext
        show kx + r.val % 24 - 1 = ((r.val / 24 + ky - 1) * 24 + (r.val % 24 + kx - 1)) % 24
        omega
    · rw [dif_neg hc, dif_neg (show ¬((1 ≤ ky + r.val / 24 ∧ ky + r.val / 24 < 41) ∧ 1 ≤ kx + r.val % 24 ∧ kx + r.val % 24 < 25) by omega)]

/-- The weights of one tap. -/
theorem wtap_mat (t : ℕ) (ht : t < 9) (W : FVec Ideal S2592x288 .fp8e4m3) (h : S2592x288.Slices ![t * 288, 0] S288x288)
    (k c : Fin 288) : mat (extractStridedSlice S288x288 ![t * 288, 0] W h) k c = mat W ⟨t * 288 + k.val, by omega⟩ c := by
  refine extractStridedSlice_apply _ _ h _ (ix2 ⟨t * 288 + k.val, by omega⟩ c) (fun a => ?_)
  match a with
  | ⟨0, _⟩ => rfl
  | ⟨1, _⟩ => exact (Nat.zero_add _).symm

/-- One tap's product. -/
theorem tapR_im (ky kx t : ℕ) (hy : ky < 3) (hx : kx < 3) (ht : t < 9) (o : ℕ) (ho : o = t * 288) (z : Ideal .f32) (hz : z = (0 : EReal))
    (v : FVec Ideal S16x40x24x288 .fp8e4m3) (W : FVec Ideal S2592x288 .fp8e4m3)
    (h : S16x42x26x288.Slices ![0, ky, kx, 0] S16x40x24x288) (h' : S2592x288.Slices ![o, 0] S288x288)
    (b : Fin 16) (r : Fin 960) (c : Fin 288) :
    im (mmR (extractStridedSlice S16x40x24x288 ![0, ky, kx, 0] (pad1 z v) h) (extractStridedSlice S288x288 ![o, 0] W h')) b r c
      = convTap ky kx t ht (im v b) (mat W) r c := by
  subst ho hz
  refine (mmR_im _ _ b r c).trans (Finset.sum_congr rfl fun k _ => ?_)
  exact congrArg₂ (fun u v : EReal => u * v) (tap1_im ky kx hy hx _ v h b r k) (wtap_mat t ht W h' k c)

/-- The nine taps of a padded batch, added in order. -/
def convR (p : FVec Ideal S16x42x26x288 .fp8e4m3) (W : FVec Ideal S2592x288 .fp8e4m3) : FVec Ideal S16x40x24x288 .f32 :=
  addf (addf (addf (addf (addf (addf (addf (addf
    (mmR (extractStridedSlice S16x40x24x288 ![0, 0, 0, 0] p slices_S16x42x26x288_o0_0_0_0_S16x40x24x288)
      (extractStridedSlice S288x288 ![0, 0] W slices_S2592x288_o0_0_S288x288))
    (mmR (extractStridedSlice S16x40x24x288 ![0, 0, 1, 0] p slices_S16x42x26x288_o0_0_1_0_S16x40x24x288)
      (extractStridedSlice S288x288 ![288, 0] W slices_S2592x288_o288_0_S288x288)))
    (mmR (extractStridedSlice S16x40x24x288 ![0, 0, 2, 0] p slices_S16x42x26x288_o0_0_2_0_S16x40x24x288)
      (extractStridedSlice S288x288 ![576, 0] W slices_S2592x288_o576_0_S288x288)))
    (mmR (extractStridedSlice S16x40x24x288 ![0, 1, 0, 0] p slices_S16x42x26x288_o0_1_0_0_S16x40x24x288)
      (extractStridedSlice S288x288 ![864, 0] W slices_S2592x288_o864_0_S288x288)))
    (mmR (extractStridedSlice S16x40x24x288 ![0, 1, 1, 0] p slices_S16x42x26x288_o0_1_1_0_S16x40x24x288)
      (extractStridedSlice S288x288 ![1152, 0] W slices_S2592x288_o1152_0_S288x288)))
    (mmR (extractStridedSlice S16x40x24x288 ![0, 1, 2, 0] p slices_S16x42x26x288_o0_1_2_0_S16x40x24x288)
      (extractStridedSlice S288x288 ![1440, 0] W slices_S2592x288_o1440_0_S288x288)))
    (mmR (extractStridedSlice S16x40x24x288 ![0, 2, 0, 0] p slices_S16x42x26x288_o0_2_0_0_S16x40x24x288)
      (extractStridedSlice S288x288 ![1728, 0] W slices_S2592x288_o1728_0_S288x288)))
    (mmR (extractStridedSlice S16x40x24x288 ![0, 2, 1, 0] p slices_S16x42x26x288_o0_2_1_0_S16x40x24x288)
      (extractStridedSlice S288x288 ![2016, 0] W slices_S2592x288_o2016_0_S288x288)))
    (mmR (extractStridedSlice S16x40x24x288 ![0, 2, 2, 0] p slices_S16x42x26x288_o0_2_2_0_S16x40x24x288)
      (extractStridedSlice S288x288 ![2304, 0] W slices_S2592x288_o2304_0_S288x288))

theorem convR_im (z : Ideal .f32) (hz : z = (0 : EReal)) (v : FVec Ideal S16x40x24x288 .fp8e4m3)
    (W : FVec Ideal S2592x288 .fp8e4m3) (b : Fin 16) (r : Fin 960) (c : Fin 288) :
    im (convR (pad1 z v) W) b r c = conv (im v b) (mat W) r c := by
  unfold convR conv
  rw [addR_im, addR_im, addR_im, addR_im, addR_im, addR_im, addR_im, addR_im,
    tapR_im 0 0 0 (by omega) (by omega) (by omega) 0 rfl z hz, tapR_im 0 1 1 (by omega) (by omega) (by omega) 288 rfl z hz,
    tapR_im 0 2 2 (by omega) (by omega) (by omega) 576 rfl z hz, tapR_im 1 0 3 (by omega) (by omega) (by omega) 864 rfl z hz,
    tapR_im 1 1 4 (by omega) (by omega) (by omega) 1152 rfl z hz, tapR_im 1 2 5 (by omega) (by omega) (by omega) 1440 rfl z hz,
    tapR_im 2 0 6 (by omega) (by omega) (by omega) 1728 rfl z hz, tapR_im 2 1 7 (by omega) (by omega) (by omega) 2016 rfl z hz,
    tapR_im 2 2 8 (by omega) (by omega) (by omega) 2304 rfl z hz]

/-! ### Padding by two and the pools -/

/-- A batch with a border of `z` two wide above and below. -/
def pad2v (z : Ideal .f32) (v : FVec Ideal S16x40x24x288 .fp8e4m3) : FVec Ideal S16x44x24x288 .f32 :=
  concatenate S16x44x24x288 1 [⟨S16x42x24x288, concatenate S16x42x24x288 1
    [⟨S16x2x24x288, broadcast S16x2x24x288 z⟩, ⟨S16x40x24x288, extf .f32 v bitsLt_fp8e4m3_f32⟩]
      concatenates_S16x2x24x288_S16x40x24x288_S16x42x24x288_d1⟩, ⟨S16x2x24x288, broadcast S16x2x24x288 z⟩]
    concatenates_S16x42x24x288_S16x2x24x288_S16x44x24x288_d1

/-- A border of `z` two wide left and right. -/
def pad2h (z : Ideal .f32) (p : FVec Ideal S16x44x24x288 .f32) : FVec Ideal S16x44x28x288 .f32 :=
  concatenate S16x44x28x288 2 [⟨S16x44x26x288, concatenate S16x44x26x288 2
    [⟨S16x44x2x288, broadcast S16x44x2x288 z⟩, ⟨S16x44x24x288, p⟩]
      concatenates_S16x44x2x288_S16x44x24x288_S16x44x26x288_d2⟩, ⟨S16x44x2x288, broadcast S16x44x2x288 z⟩]
    concatenates_S16x44x26x288_S16x44x2x288_S16x44x28x288_d2

theorem pad2_apply (z : Ideal .f32) (v : FVec Ideal S16x40x24x288 .fp8e4m3) (b : Fin 16) (y : Fin 44) (x : Fin 28)
    (c : Fin 288) : pad2h z (pad2v z v) (ix4 b y x c) =
      if h : (2 ≤ y.val ∧ y.val < 42) ∧ 2 ≤ x.val ∧ x.val < 26 then
        v (ix4 b ⟨y.val - 2, by omega⟩ ⟨x.val - 2, by omega⟩ c) else z := by
  pointwise [pad2h, pad2v]
  by_cases h : (2 ≤ y.val ∧ y.val < 42) ∧ 2 ≤ x.val ∧ x.val < 26
  · rw [dif_pos h, dif_pos (by omega), dif_neg (by omega), dif_pos (by omega), dif_neg (by omega)]
  · rw [dif_neg h]
    by_cases h1 : x.val < 26
    · rw [dif_pos h1]
      by_cases h2 : x.val < 2
      · rw [dif_pos h2]
      · rw [dif_neg h2]
        by_cases h3 : y.val < 42
        · rw [dif_pos h3, dif_pos (by omega)]
        · rw [dif_neg h3]
    · rw [dif_neg h1]

/-- The maximum of the padded batch down the columns, one more row at a time after the first. -/
def vertR (p : FVec Ideal S16x44x28x288 .f32) (q : FVec Ideal S16x40x28x288 .f32) : FVec Ideal S16x40x28x288 .f32 :=
  maximumf (maximumf (maximumf (maximumf q
    (extractStridedSlice S16x40x28x288 ![0, 1, 0, 0] p slices_S16x44x28x288_o0_1_0_0_S16x40x28x288))
    (extractStridedSlice S16x40x28x288 ![0, 2, 0, 0] p slices_S16x44x28x288_o0_2_0_0_S16x40x28x288))
    (extractStridedSlice S16x40x28x288 ![0, 3, 0, 0] p slices_S16x44x28x288_o0_3_0_0_S16x40x28x288))
    (extractStridedSlice S16x40x28x288 ![0, 4, 0, 0] p slices_S16x44x28x288_o0_4_0_0_S16x40x28x288)

/-- The maximum along the rows. -/
def horzR (q : FVec Ideal S16x40x28x288 .f32) : FVec Ideal S16x40x24x288 .fp8e4m3 :=
  truncf .fp8e4m3 (maximumf (maximumf (maximumf (maximumf
    (extractStridedSlice S16x40x24x288 ![0, 0, 0, 0] q slices_S16x40x28x288_o0_0_0_0_S16x40x24x288)
    (extractStridedSlice S16x40x24x288 ![0, 0, 1, 0] q slices_S16x40x28x288_o0_0_1_0_S16x40x24x288))
    (extractStridedSlice S16x40x24x288 ![0, 0, 2, 0] q slices_S16x40x28x288_o0_0_2_0_S16x40x24x288))
    (extractStridedSlice S16x40x24x288 ![0, 0, 3, 0] q slices_S16x40x28x288_o0_0_3_0_S16x40x24x288))
    (extractStridedSlice S16x40x24x288 ![0, 0, 4, 0] q slices_S16x40x28x288_o0_0_4_0_S16x40x24x288)) bitsLt_fp8e4m3_f32

/-- The first rows. -/
def topR (p : FVec Ideal S16x44x28x288 .f32) : FVec Ideal S16x40x28x288 .f32 :=
  extractStridedSlice S16x40x28x288 ![0, 0, 0, 0] p slices_S16x44x28x288_o0_0_0_0_S16x40x28x288

/-- A slice of the padded batch by rows, at a row and a column of the padded width. -/
theorem vtap (ky : ℕ) (hy : ky < 5) (v : FVec Ideal S16x40x24x288 .fp8e4m3)
    (h : S16x44x28x288.Slices ![0, ky, 0, 0] S16x40x28x288) (b : Fin 16) (y : Fin 40) (x : Fin 28) (c : Fin 288) :
    extractStridedSlice S16x40x28x288 ![0, ky, 0, 0] (pad2h low (pad2v low v)) h (ix4 b y x c)
      = if hx : 2 ≤ x.val ∧ x.val < 26 then
          tap 2 ky 2 low (fun q => im v b q c) ⟨y.val * 24 + (x.val - 2), by omega⟩ else low := by
  refine (extractStridedSlice_apply _ _ h _ (ix4 b ⟨ky + y.val, by omega⟩ x c)
    (fun a => ?_)).trans ((pad2_apply _ _ _ _ _ _).trans ?_)
  · match a with
    | ⟨0, _⟩ => exact (Nat.zero_add _).symm
    | ⟨1, _⟩ => rfl
    | ⟨2, _⟩ => exact (Nat.zero_add _).symm
    | ⟨3, _⟩ => exact (Nat.zero_add _).symm
  · unfold tap
    have e1 : (y.val * 24 + (x.val - 2)) / 24 = y.val + (x.val - 2) / 24 := by omega
    by_cases hx : 2 ≤ x.val ∧ x.val < 26
    · have e1 : (y.val * 24 + (x.val - 2)) / 24 = y.val := by omega
      have e2 : (y.val * 24 + (x.val - 2)) % 24 = x.val - 2 := by omega
      rw [dif_pos hx]
      by_cases hy' : 2 ≤ ky + y.val ∧ ky + y.val < 42
      · rw [dif_pos (show (2 ≤ ky + y.val ∧ ky + y.val < 42) ∧ 2 ≤ x.val ∧ x.val < 26 from ⟨hy', hx⟩),
          dif_pos (by simp only [e1, e2]; omega)]
        unfold im
        congr 2
        · apply Fin.ext
          simp only [hh, e1, e2]
          omega
        · apply Fin.ext
          simp only [ww, e1, e2]
          omega
      · rw [dif_neg (show ¬((2 ≤ ky + y.val ∧ ky + y.val < 42) ∧ 2 ≤ x.val ∧ x.val < 26) from fun h => hy' h.1),
          dif_neg (by simp only [e1, e2]; omega)]
    · rw [dif_neg hx, dif_neg (fun h => hx h.2)]

theorem vertR_apply (v : FVec Ideal S16x40x24x288 .fp8e4m3) (b : Fin 16) (y : Fin 40) (x : Fin 28) (c : Fin 288) :
    vertR (pad2h low (pad2v low v)) (topR (pad2h low (pad2v low v))) (ix4 b y x c)
      = if hx : 2 ≤ x.val ∧ x.val < 26 then
          colMax (fun q => im v b q c) ⟨y.val * 24 + (x.val - 2), by omega⟩ else low := by
  have ad : ∀ (a b : FVec Ideal S16x40x28x288 .f32) (i : S16x40x28x288.Idx), maximumf a b i = (max (a i) (b i) : EReal) :=
    fun _ _ _ => rfl
  unfold vertR topR colMax
  rw [ad, ad, ad, ad, vtap 0 (by omega), vtap 1 (by omega), vtap 2 (by omega), vtap 3 (by omega), vtap 4 (by omega)]
  split_ifs
  · rfl
  · simp only [max_self]

theorem htap (kx : ℕ) (hx : kx < 5) (v : FVec Ideal S16x40x24x288 .fp8e4m3)
    (h : S16x40x28x288.Slices ![0, 0, kx, 0] S16x40x24x288) (b : Fin 16) (r : Fin 960) (c : Fin 288) :
    extractStridedSlice S16x40x24x288 ![0, 0, kx, 0] (vertR (pad2h low (pad2v low v)) (topR (pad2h low (pad2v low v)))) h
        (ix4 b (hh r) (ww r) c)
      = tap 2 2 kx low (colMax fun q => im v b q c) r := by
  refine (extractStridedSlice_apply _ _ h _ (ix4 b (hh r) ⟨kx + r.val % 24, by omega⟩ c)
    (fun a => ?_)).trans ((vertR_apply _ _ _ _ _).trans ?_)
  · match a with
    | ⟨0, _⟩ => exact (Nat.zero_add _).symm
    | ⟨1, _⟩ => exact (Nat.zero_add _).symm
    | ⟨2, _⟩ => rfl
    | ⟨3, _⟩ => exact (Nat.zero_add _).symm
  · unfold tap
    by_cases hc : 2 ≤ kx + r.val % 24 ∧ kx + r.val % 24 < 26
    · rw [dif_pos hc, dif_pos (by omega)]
      congr 1
      apply Fin.ext
      simp only [hh]
      omega
    · rw [dif_neg hc, dif_neg (by omega)]

theorem poolR_im (v : FVec Ideal S16x40x24x288 .fp8e4m3) (b : Fin 16) (r : Fin 960) (c : Fin 288) :
    im (horzR (vertR (pad2h low (pad2v low v)) (topR (pad2h low (pad2v low v))))) b r c = pool (im v b) r c := by
  have ad : ∀ (a b : FVec Ideal S16x40x24x288 .f32) (i : S16x40x24x288.Idx), maximumf a b i = (max (a i) (b i) : EReal) :=
    fun _ _ _ => rfl
  have tr : ∀ (a : FVec Ideal S16x40x24x288 .f32) (i : S16x40x24x288.Idx), truncf .fp8e4m3 a bitsLt_fp8e4m3_f32 i = a i :=
    fun _ _ => rfl
  unfold im horzR pool rowMax
  rw [tr, ad, ad, ad, ad, htap 0 (by omega), htap 1 (by omega), htap 2 (by omega), htap 3 (by omega), htap 4 (by omega)]
  rfl

end C2f.R
-- ==== Proof.RRun.lean ====
/-
  The reference's payloads as the layers of the block: each is the expression of RStage.lean, and each expression read
  at an image, a row and a channel is the model's layer.
-/
module

public import proofs.«01_k».proof.Proof.RStage

@[expose] public section

set_option maxRecDepth 16384

noncomputable section

namespace C2f.R

open Cert.ReferenceIdeal.Gen Idealize.ShloMosaic Cert.ReferenceIdeal

/-- Half of the first layer. -/
def c1R (s : Vec Ideal S1 .f32) (x : Vec Ideal S16x40x24x576 .fp8e4m3) (w : Vec Ideal S576x1x288 .fp8e4m3)
    (xs : Vec Ideal S1 .f32) (g b : Vec Ideal S1x288 .f32) : FVec Ideal S16x40x24x288 .fp8e4m3 :=
  quantR (siluR (linR (mmRd x (shapeCast S576x288 (w : FVec Ideal S576x1x288 .fp8e4m3) shapeCasts_S576x1x288_S576x288))
    (gR xs (dropR g)) (dropR b))) (scR s)

/-- A convolution of codes of scale `si`, with its affine map and activation. -/
def actR (si : Vec Ideal S1 .f32) (v : FVec Ideal S16x40x24x288 .fp8e4m3) (w : Vec Ideal S1x2592x288 .fp8e4m3)
    (g b : Vec Ideal S1x288 .f32) : FVec Ideal S16x40x24x288 .f32 :=
  siluR (linR (convR (pad1 (Scalar.sitofp .f32 0#32) v)
    (shapeCast S2592x288 (w : FVec Ideal S1x2592x288 .fp8e4m3) shapeCasts_S1x2592x288_S2592x288)) (gR si (dropR g)) (dropR b))

/-- The inner convolution of a bottleneck. -/
def midR (si : Vec Ideal S1 .f32) (v : FVec Ideal S16x40x24x288 .fp8e4m3) (w : Vec Ideal S1x2592x288 .fp8e4m3)
    (g b : Vec Ideal S1x288 .f32) (s : Vec Ideal S1 .f32) : FVec Ideal S16x40x24x288 .fp8e4m3 :=
  quantR (actR si v w g b) (scR s)

/-- The outer convolution of a bottleneck, with the residual `prev` of scale `sp`. -/
def outR (si : Vec Ideal S1 .f32) (v : FVec Ideal S16x40x24x288 .fp8e4m3) (w : Vec Ideal S1x2592x288 .fp8e4m3)
    (g b : Vec Ideal S1x288 .f32) (prev : FVec Ideal S16x40x24x288 .fp8e4m3) (sp s : Vec Ideal S1 .f32) :
    FVec Ideal S16x40x24x288 .fp8e4m3 :=
  quantR (addf (actR si v w g b) (mulf (extf .f32 prev bitsLt_fp8e4m3_f32) (scR sp))) (scR s)

/-- The layer that joins the halves and the bottlenecks. -/
def c2fR (s0 s6 s7 : Vec Ideal S1 .f32) (u0 u1 u2 u3 : FVec Ideal S16x40x24x288 .fp8e4m3)
    (w0 w1 w2 w3 : Vec Ideal S1x288x576 .fp8e4m3) (g b : Vec Ideal S576 .f32) (s : Vec Ideal S1 .f32) :
    FVec Ideal S16x40x24x576 .fp8e4m3 :=
  quantR (siluR (linRu (addf (addf (mulf (scRu s0) (addf (mmRu u0 w0) (mmRu u1 w1))) (mulf (scRu s6) (mmRu u2 w2)))
    (mulf (scRu s7) (mmRu u3 w3))) g b)) (scRu s)

/-- The layer before the pools. -/
def p0R (v : FVec Ideal S16x40x24x576 .fp8e4m3) (w : Vec Ideal S576x288 .fp8e4m3) (si : Vec Ideal S1 .f32)
    (g b : Vec Ideal S288 .f32) (s : Vec Ideal S1 .f32) : FVec Ideal S16x40x24x288 .fp8e4m3 :=
  quantR (siluR (linR (mmRd v w) (gR si g) b)) (scR s)

/-- A pool. -/
def poolR (v : FVec Ideal S16x40x24x288 .fp8e4m3) : FVec Ideal S16x40x24x288 .fp8e4m3 :=
  horzR (vertR (pad2h (Scalar.ofBits .f32 0xFF800000#32) (pad2v (Scalar.ofBits .f32 0xFF800000#32) v))
    (topR (pad2h (Scalar.ofBits .f32 0xFF800000#32) (pad2v (Scalar.ofBits .f32 0xFF800000#32) v))))

/-- The layer over the four pooled images. -/
def sppfR (si : Vec Ideal S1 .f32) (u0 u1 u2 u3 : FVec Ideal S16x40x24x288 .fp8e4m3)
    (w0 w1 w2 w3 : Vec Ideal S1x288x576 .fp8e4m3) (g b : Vec Ideal S576 .f32) (s : Vec Ideal S1 .f32) :
    FVec Ideal S16x40x24x576 .fp8e4m3 :=
  quantR (siluR (linRu (mulf (scRu si) (addf (addf (addf (addf (broadcast S16x40x24x576 (Scalar.ofBits .f32 0x00000000#32))
    (mmRu u0 w0)) (mmRu u1 w1)) (mmRu u2 w2)) (mmRu u3 w3))) g b)) (scRu s)

/-! ### The payloads -/

theorem pay2_eq (s : Vec Ideal S1 .f32) (x : Vec Ideal S16x40x24x576 .fp8e4m3) (w : Vec Ideal S576x1x288 .fp8e4m3)
    (xs : Vec Ideal S1 .f32) (g b : Vec Ideal S1x288 .f32) : k0_pay2 s x w xs g b = c1R s x w xs g b := by
  simp only [k0_pay2, c1R, quantR, siluR, linR, mmRd, rowR, gR, dropR, scR]

theorem pay4_eq (s : Vec Ideal S1 .f32) (x : Vec Ideal S16x40x24x576 .fp8e4m3) (w : Vec Ideal S576x1x288 .fp8e4m3)
    (xs : Vec Ideal S1 .f32) (g b : Vec Ideal S1x288 .f32) : k0_pay4 s x w xs g b = c1R s x w xs g b := by
  simp only [k0_pay4, c1R, quantR, siluR, linR, mmRd, rowR, gR, dropR, scR]

theorem mid0_eq (s : Vec Ideal S1 .f32) (x : Vec Ideal S16x40x24x576 .fp8e4m3) (wc : Vec Ideal S576x1x288 .fp8e4m3)
    (xs : Vec Ideal S1 .f32) (gc bc : Vec Ideal S1x288 .f32) (w : Vec Ideal S1x2592x288 .fp8e4m3)
    (g b : Vec Ideal S1x288 .f32) (s4 : Vec Ideal S1 .f32) :
    k0_pay11 s (k0_pay6 w) (k0_pay9 k0_pay7 (k0_pay8 s x wc xs gc bc))
      (k0_pay10 (k0_pay6 w) k0_pay7 (k0_pay8 s x wc xs gc bc)) g b s4 = midR s (k0_pay4 s x wc xs gc bc) w g b s4 := by
  simp only [k0_pay11, k0_pay6, k0_pay9, k0_pay7, k0_pay8, k0_pay10, midR, actR, quantR, siluR, linR, convR, pad1, mmR,
    rowR, gR, dropR, scR]

theorem out0_eq (s : Vec Ideal S1 .f32) (W : FVec Ideal S2592x288 .fp8e4m3) (P : FVec Ideal S16x42x26x288 .fp8e4m3)
    (A : FVec Ideal S16x40x24x288 .f32) (g b : Vec Ideal S1x288 .f32) (s4 : Vec Ideal S1 .f32)
    (w : Vec Ideal S1x2592x288 .fp8e4m3) (prev : FVec Ideal S16x40x24x288 .fp8e4m3) (g' b' : Vec Ideal S1x288 .f32)
    (s6 : Vec Ideal S1 .f32) :
    k0_pay17 s prev s4 (k0_pay15 (k0_pay12 w) (k0_pay13 s W P A g b s4) (k0_pay14 s W P A g b s4 w)) (k0_pay16 g') b' s6
      = outR s4 (k0_pay11 s W P A g b s4) w g' b' prev s s6 := by
  simp only [k0_pay17, k0_pay15, k0_pay12, k0_pay13, k0_pay14, k0_pay16, outR, actR, quantR, siluR, linR, convR, pad1,
    mmR, rowR, gR, dropR, scR]

theorem mid1_eq (s : Vec Ideal S1 .f32) (prev : FVec Ideal S16x40x24x288 .fp8e4m3) (s4 : Vec Ideal S1 .f32)
    (A : FVec Ideal S16x40x24x288 .f32) (G : FVec Ideal S288 .f32) (b' : Vec Ideal S1x288 .f32) (s6 : Vec Ideal S1 .f32)
    (w : Vec Ideal S1x2592x288 .fp8e4m3) (g b : Vec Ideal S1x288 .f32) (s5 : Vec Ideal S1 .f32) :
    k0_pay27 s6 (k0_pay20 w) (k0_pay24 k0_pay21 (k0_pay22 s prev s4 A G b' s6) k0_pay23)
      (k0_pay25 (k0_pay20 w) k0_pay21 (k0_pay22 s prev s4 A G b' s6) k0_pay23)
      (k0_pay26 (k0_pay20 w) k0_pay21 (k0_pay22 s prev s4 A G b' s6) k0_pay23) g b s5
      = midR s6 (k0_pay17 s prev s4 A G b' s6) w g b s5 := by
  simp only [k0_pay27, k0_pay20, k0_pay24, k0_pay21, k0_pay22, k0_pay23, k0_pay25, k0_pay26, midR, actR, quantR, siluR,
    linR, convR, pad1, mmR, rowR, gR, dropR, scR]

theorem out1_eq (s6 : Vec Ideal S1 .f32) (W : FVec Ideal S2592x288 .fp8e4m3) (P : FVec Ideal S16x42x26x288 .fp8e4m3)
    (A B : FVec Ideal S16x40x24x288 .f32) (g b : Vec Ideal S1x288 .f32) (s5 : Vec Ideal S1 .f32)
    (w : Vec Ideal S1x2592x288 .fp8e4m3) (prev : FVec Ideal S16x40x24x288 .fp8e4m3) (g' b' : Vec Ideal S1x288 .f32)
    (s7 : Vec Ideal S1 .f32) :
    k0_pay32 s6 prev s5 (k0_pay31 (k0_pay28 w) (k0_pay29 s6 W P A B g b s5) (k0_pay30 s6 W P A B g b s5 w)) g' b' s7
      = outR s5 (k0_pay27 s6 W P A B g b s5) w g' b' prev s6 s7 := by
  simp only [k0_pay32, k0_pay31, k0_pay28, k0_pay29, k0_pay30, outR, actR, quantR, siluR, linR, convR, pad1,
    mmR, rowR, gR, dropR, scR]

theorem c2f_eq (s0 s6 s7 : Vec Ideal S1 .f32) (u0 u1 u2 u3 : FVec Ideal S16x40x24x288 .fp8e4m3)
    (w0 w1 w2 w3 : Vec Ideal S1x288x576 .fp8e4m3) (g b : Vec Ideal S576 .f32) (s : Vec Ideal S1 .f32) :
    k0_pay38 (k0_pay36 s0 u1 s6 u2 s7 u3 (k0_pay35 u0 w0) w1 w2 w3 g b s) k0_pay37
      = c2fR s0 s6 s7 u0 u1 u2 u3 w0 w1 w2 w3 g b s := by
  simp only [k0_pay38, k0_pay36, k0_pay35, k0_pay37, c2fR, quantR, siluR, linRu, mmRu, rowRu, scRu]

theorem p0_eq (A B : FVec Ideal S16x40x24x576 .f32) (w : Vec Ideal S576x288 .fp8e4m3) (si : Vec Ideal S1 .f32)
    (g b : Vec Ideal S288 .f32) (s : Vec Ideal S1 .f32) :
    k0_pay40 A B w si g b s = p0R (k0_pay38 A B) w si g b s := by
  simp only [k0_pay40, p0R, quantR, siluR, linR, mmRd, rowR, gR, scR]

theorem p1_eq (A B : FVec Ideal S16x40x24x576 .f32) (w : Vec Ideal S576x288 .fp8e4m3) (si : Vec Ideal S1 .f32)
    (g b : Vec Ideal S288 .f32) (s : Vec Ideal S1 .f32) :
    k0_pay44 (k0_pay42 A B w si g b s) (k0_pay43 A B w si g b s) = poolR (k0_pay40 A B w si g b s) := by
  simp only [k0_pay44, k0_pay42, k0_pay43, poolR, horzR, vertR, topR, pad2h, pad2v]

theorem p2_eq (A : FVec Ideal S16x44x28x288 .f32) (B : FVec Ideal S16x40x28x288 .f32) :
    k0_pay46 A B = poolR (k0_pay44 A B) := by
  simp only [k0_pay46, poolR, horzR, vertR, topR, pad2h, pad2v]

theorem p3_eq (A : FVec Ideal S16x44x28x288 .f32) (B : FVec Ideal S16x40x28x288 .f32) :
    k0_pay49 (Scalar.ofBits .f32 0xFF800000#32) (k0_pay47 A B) k0_pay48 = poolR (k0_pay46 A B) := by
  simp only [k0_pay49, k0_pay47, k0_pay48, poolR, horzR, vertR, topR, pad2h, pad2v]

theorem sppf_eq (si : Vec Ideal S1 .f32) (u0 u1 u2 u3 : FVec Ideal S16x40x24x288 .fp8e4m3)
    (w0 w1 w2 w3 : Vec Ideal S1x288x576 .fp8e4m3) (g b : Vec Ideal S576 .f32) (s : Vec Ideal S1 .f32) :
    k0_pay1 u3 si (k0_pay51 u0 u1 w0 w1) (k0_pay52 u2 w2) w3 g b s
      = shapeCast S16x960x576 (sppfR si u0 u1 u2 u3 w0 w1 w2 w3 g b s) shapeCasts_S16x40x24x576_S16x960x576 := by
  simp only [k0_pay1, k0_pay51, k0_pay52, sppfR, quantR, siluR, linRu, mmRu, rowRu, scRu]

/-! ### The layers at an image, a row and a channel -/

theorem c1R_im (s : Vec Ideal S1 .f32) (x : Vec Ideal S16x40x24x576 .fp8e4m3) (w : Vec Ideal S576x1x288 .fp8e4m3)
    (xs : Vec Ideal S1 .f32) (g b : Vec Ideal S1x288 .f32) (i : Fin 16) (r : Fin 960) (c : Fin 288) :
    im (c1R s x w xs g b) i r c = quant (silu (mm (im x i) (fun k c => w (ix3 k 0 c)) r c
      * (xs (ix1 0) * g (ix2 0 c)) + b (ix2 0 c))) (s (ix1 0)) := by
  have hw : (mat (shapeCast S576x288 (w : FVec Ideal S576x1x288 .fp8e4m3) shapeCasts_S576x1x288_S576x288)
      : Fin 576 → Fin 288 → EReal) = fun k c => w (ix3 k 0 c) := by
    funext k c
    pointwise [mat]
  rw [c1R, quantR_im, siluR_im, linR_im, mmRd_im, gR_apply, dropR_apply, dropR_apply, scR_im, hw]

theorem actR_im (si : Vec Ideal S1 .f32) (v : FVec Ideal S16x40x24x288 .fp8e4m3) (w : Vec Ideal S1x2592x288 .fp8e4m3)
    (g b : Vec Ideal S1x288 .f32) (i : Fin 16) (r : Fin 960) (c : Fin 288) :
    im (actR si v w g b) i r c = silu (conv (im v i) (fun k c => w (ix3 0 k c)) r c
      * (si (ix1 0) * g (ix2 0 c)) + b (ix2 0 c)) := by
  have hw : (mat (shapeCast S2592x288 (w : FVec Ideal S1x2592x288 .fp8e4m3) shapeCasts_S1x2592x288_S2592x288)
      : Fin 2592 → Fin 288 → EReal) = fun k c => w (ix3 0 k c) := by
    funext k c
    pointwise [mat]
  have hz : (Scalar.sitofp (F := Ideal) .f32 0#32 : EReal) = 0 := by
    pointwise
    simp
  rw [actR, siluR_im, linR_im, convR_im _ hz, gR_apply, dropR_apply, dropR_apply, hw]

theorem midR_im (si : Vec Ideal S1 .f32) (v : FVec Ideal S16x40x24x288 .fp8e4m3) (w : Vec Ideal S1x2592x288 .fp8e4m3)
    (g b : Vec Ideal S1x288 .f32) (s : Vec Ideal S1 .f32) (i : Fin 16) (r : Fin 960) (c : Fin 288) :
    im (midR si v w g b s) i r c = quant (silu (conv (im v i) (fun k c => w (ix3 0 k c)) r c
      * (si (ix1 0) * g (ix2 0 c)) + b (ix2 0 c))) (s (ix1 0)) := by
  rw [midR, quantR_im, actR_im, scR_im]

theorem outR_im (si : Vec Ideal S1 .f32) (v : FVec Ideal S16x40x24x288 .fp8e4m3) (w : Vec Ideal S1x2592x288 .fp8e4m3)
    (g b : Vec Ideal S1x288 .f32) (prev : FVec Ideal S16x40x24x288 .fp8e4m3) (sp s : Vec Ideal S1 .f32) (i : Fin 16)
    (r : Fin 960) (c : Fin 288) :
    im (outR si v w g b prev sp s) i r c = quant (silu (conv (im v i) (fun k c => w (ix3 0 k c)) r c
      * (si (ix1 0) * g (ix2 0 c)) + b (ix2 0 c)) + im prev i r c * sp (ix1 0)) (s (ix1 0)) := by
  rw [outR, quantR_im, addR_im, mulR_im, extR_im, actR_im, scR_im, scR_im]

theorem c2fR_im (s0 s6 s7 : Vec Ideal S1 .f32) (u0 u1 u2 u3 : FVec Ideal S16x40x24x288 .fp8e4m3)
    (w0 w1 w2 w3 : Vec Ideal S1x288x576 .fp8e4m3) (g b : Vec Ideal S576 .f32) (s : Vec Ideal S1 .f32) (i : Fin 16)
    (r : Fin 960) (c : Fin 576) :
    im (c2fR s0 s6 s7 u0 u1 u2 u3 w0 w1 w2 w3 g b s) i r c
      = quant (silu ((s0 (ix1 0) * (mm (im u0 i) (fun k c => w0 (ix3 0 k c)) r c + mm (im u1 i) (fun k c => w1 (ix3 0 k c)) r c)
        + s6 (ix1 0) * mm (im u2 i) (fun k c => w2 (ix3 0 k c)) r c + s7 (ix1 0) * mm (im u3 i) (fun k c => w3 (ix3 0 k c)) r c)
        * g (ix1 c) + b (ix1 c))) (s (ix1 0)) := by
  simp only [c2fR, quantR_im, siluR_im, linRu_im, addR_im, mulR_im, mmRu_im, scRu_im]

theorem p0R_im (v : FVec Ideal S16x40x24x576 .fp8e4m3) (w : Vec Ideal S576x288 .fp8e4m3) (si : Vec Ideal S1 .f32)
    (g b : Vec Ideal S288 .f32) (s : Vec Ideal S1 .f32) (i : Fin 16) (r : Fin 960) (c : Fin 288) :
    im (p0R v w si g b s) i r c = quant (silu (mm (im v i) (fun k c => w (ix2 k c)) r c
      * (si (ix1 0) * g (ix1 c)) + b (ix1 c))) (s (ix1 0)) := by
  rw [p0R, quantR_im, siluR_im, linR_im, mmRd_im, gR_apply, scR_im]
  rfl

theorem poolR_at (v : FVec Ideal S16x40x24x288 .fp8e4m3) (i : Fin 16) : im (poolR v) i = pool (im v i) := by
  funext r c
  exact poolR_im v i r c

theorem sppfR_im (si : Vec Ideal S1 .f32) (u0 u1 u2 u3 : FVec Ideal S16x40x24x288 .fp8e4m3)
    (w0 w1 w2 w3 : Vec Ideal S1x288x576 .fp8e4m3) (g b : Vec Ideal S576 .f32) (s : Vec Ideal S1 .f32) (i : Fin 16)
    (r : Fin 960) (c : Fin 576) :
    im (sppfR si u0 u1 u2 u3 w0 w1 w2 w3 g b s) i r c
      = quant (silu (si (ix1 0) * (mm (im u0 i) (fun k c => w0 (ix3 0 k c)) r c + mm (im u1 i) (fun k c => w1 (ix3 0 k c)) r c
        + mm (im u2 i) (fun k c => w2 (ix3 0 k c)) r c + mm (im u3 i) (fun k c => w3 (ix3 0 k c)) r c)
        * g (ix1 c) + b (ix1 c))) (s (ix1 0)) := by
  have hz : im (broadcast S16x40x24x576 (Scalar.ofBits (F := Ideal) .f32 0x00000000#32)) i r c = 0 :=
    Ideal.ofBits_zero_f32
  simp only [sppfR, quantR_im, siluR_im, linRu_im, addR_im, mulR_im, mmRu_im, scRu_im, hz, zero_add]

/-! ### The same, from readings of the operands -/

theorem c1R_at {s : Vec Ideal S1 .f32} {x : Vec Ideal S16x40x24x576 .fp8e4m3} {w : Vec Ideal S576x1x288 .fp8e4m3}
    {xs : Vec Ideal S1 .f32} {g b : Vec Ideal S1x288 .f32} {i : Fin 16} {W : Fin 576 → Fin 288 → EReal}
    {G B : Fin 288 → EReal} (hw : ∀ k c, w (ix3 k 0 c) = W k c) (hg : ∀ c, g (ix2 0 c) = G c)
    (hb : ∀ c, b (ix2 0 c) = B c) (r : Fin 960) (c : Fin 288) :
    im (c1R s x w xs g b) i r c = quant (silu (mm (im x i) W r c * (xs (ix1 0) * G c) + B c)) (s (ix1 0)) := by
  rw [c1R_im]
  simp only [hw, hg, hb]

theorem midR_at {si : Vec Ideal S1 .f32} {v : FVec Ideal S16x40x24x288 .fp8e4m3} {w : Vec Ideal S1x2592x288 .fp8e4m3}
    {g b : Vec Ideal S1x288 .f32} {s : Vec Ideal S1 .f32} {i : Fin 16} {V : Fin 960 → Fin 288 → EReal}
    {W : Fin 2592 → Fin 288 → EReal} {G B : Fin 288 → EReal} {S T : EReal} (hv : im v i = V)
    (hw : ∀ k c, w (ix3 0 k c) = W k c) (hs : si (ix1 0) = S) (hg : ∀ c, g (ix2 0 c) = G c)
    (hb : ∀ c, b (ix2 0 c) = B c) (ht : s (ix1 0) = T) (r : Fin 960) (c : Fin 288) :
    im (midR si v w g b s) i r c = quant (silu (conv V W r c * (S * G c) + B c)) T := by
  rw [midR_im]
  simp only [hv, hw, hs, hg, hb, ht]

theorem outR_at {si : Vec Ideal S1 .f32} {v : FVec Ideal S16x40x24x288 .fp8e4m3} {w : Vec Ideal S1x2592x288 .fp8e4m3}
    {g b : Vec Ideal S1x288 .f32} {prev : FVec Ideal S16x40x24x288 .fp8e4m3} {sp s : Vec Ideal S1 .f32} {i : Fin 16}
    {V P : Fin 960 → Fin 288 → EReal} {W : Fin 2592 → Fin 288 → EReal} {G B : Fin 288 → EReal} {S S' T : EReal}
    (hv : im v i = V) (hw : ∀ k c, w (ix3 0 k c) = W k c) (hs : si (ix1 0) = S) (hg : ∀ c, g (ix2 0 c) = G c)
    (hb : ∀ c, b (ix2 0 c) = B c) (hp : im prev i = P) (hs' : sp (ix1 0) = S') (ht : s (ix1 0) = T) (r : Fin 960)
    (c : Fin 288) :
    im (outR si v w g b prev sp s) i r c = quant (silu (conv V W r c * (S * G c) + B c) + P r c * S') T := by
  rw [outR_im]
  simp only [hv, hw, hs, hg, hb, hp, hs', ht]

theorem c2fR_at {s0 s6 s7 : Vec Ideal S1 .f32} {u0 u1 u2 u3 : FVec Ideal S16x40x24x288 .fp8e4m3}
    {w0 w1 w2 w3 : Vec Ideal S1x288x576 .fp8e4m3} {g b : Vec Ideal S576 .f32} {s : Vec Ideal S1 .f32} {i : Fin 16}
    {U0 U1 U2 U3 : Fin 960 → Fin 288 → EReal} {W0 W1 W2 W3 : Fin 288 → Fin 576 → EReal} {S6 S7 : EReal}
    (h0 : im u0 i = U0) (h1 : im u1 i = U1) (h2 : im u2 i = U2) (h3 : im u3 i = U3)
    (k0 : ∀ k c, w0 (ix3 0 k c) = W0 k c) (k1 : ∀ k c, w1 (ix3 0 k c) = W1 k c) (k2 : ∀ k c, w2 (ix3 0 k c) = W2 k c)
    (k3 : ∀ k c, w3 (ix3 0 k c) = W3 k c) (t6 : s6 (ix1 0) = S6) (t7 : s7 (ix1 0) = S7) (r : Fin 960) (c : Fin 576) :
    im (c2fR s0 s6 s7 u0 u1 u2 u3 w0 w1 w2 w3 g b s) i r c
      = quant (silu ((s0 (ix1 0) * (mm U0 W0 r c + mm U1 W1 r c) + S6 * mm U2 W2 r c + S7 * mm U3 W3 r c)
        * g (ix1 c) + b (ix1 c))) (s (ix1 0)) := by
  rw [c2fR_im]
  simp only [h0, h1, h2, h3, k0, k1, k2, k3, t6, t7]

theorem sppfR_at {si : Vec Ideal S1 .f32} {u0 u1 u2 u3 : FVec Ideal S16x40x24x288 .fp8e4m3}
    {w0 w1 w2 w3 : Vec Ideal S1x288x576 .fp8e4m3} {g b : Vec Ideal S576 .f32} {s : Vec Ideal S1 .f32} {i : Fin 16}
    {U0 U1 U2 U3 : Fin 960 → Fin 288 → EReal} {W0 W1 W2 W3 : Fin 288 → Fin 576 → EReal}
    (h0 : im u0 i = U0) (h1 : im u1 i = U1) (h2 : im u2 i = U2) (h3 : im u3 i = U3)
    (k0 : ∀ k c, w0 (ix3 0 k c) = W0 k c) (k1 : ∀ k c, w1 (ix3 0 k c) = W1 k c) (k2 : ∀ k c, w2 (ix3 0 k c) = W2 k c)
    (k3 : ∀ k c, w3 (ix3 0 k c) = W3 k c) (r : Fin 960) (c : Fin 576) :
    im (sppfR si u0 u1 u2 u3 w0 w1 w2 w3 g b s) i r c
      = quant (silu (si (ix1 0) * (mm U0 W0 r c + mm U1 W1 r c + mm U2 W2 r c + mm U3 W3 r c)
        * g (ix1 c) + b (ix1 c))) (s (ix1 0)) := by
  rw [sppfR_im]
  simp only [h0, h1, h2, h3, k0, k1, k2, k3]

end C2f.R
-- ==== Proof.ROut.lean ====
/-
  What the reference leaves in its eight result arrays: image by image, the model's layers over what the reference reads.
-/
module

public import proofs.«01_k».proof.Proof.RI.Value
public import proofs.«01_k».proof.Proof.RRun

@[expose] public section

set_option maxRecDepth 16384

noncomputable section

namespace C2f.R

open Cert.ReferenceIdeal.Gen Cert.ReferenceIdeal.Value Idealize.ShloMosaic Cert.ReferenceIdeal

variable (a0 : Vec Ideal S16x40x24x576 .fp8e4m3)
  (a1 : Vec Ideal S1 .f32)
  (a2 : Vec Ideal S576x2x288 .fp8e4m3)
  (a3 : Vec Ideal S2x288 .f32)
  (a4 : Vec Ideal S2x288 .f32)
  (a5 : Vec Ideal S1 .f32)
  (a6 : Vec Ideal S2x2592x288 .fp8e4m3)
  (a7 : Vec Ideal S2x2592x288 .fp8e4m3)
  (a8 : Vec Ideal S2x288 .f32)
  (a9 : Vec Ideal S2x288 .f32)
  (a10 : Vec Ideal S2x288 .f32)
  (a11 : Vec Ideal S2x288 .f32)
  (a12 : Vec Ideal S2 .f32)
  (a13 : Vec Ideal S2 .f32)
  (a14 : Vec Ideal S4x288x576 .fp8e4m3)
  (a15 : Vec Ideal S576 .f32)
  (a16 : Vec Ideal S576 .f32)
  (a17 : Vec Ideal S1 .f32)
  (a18 : Vec Ideal S576x288 .fp8e4m3)
  (a19 : Vec Ideal S288 .f32)
  (a20 : Vec Ideal S288 .f32)
  (a21 : Vec Ideal S1 .f32)
  (a22 : Vec Ideal S4x288x576 .fp8e4m3)
  (a23 : Vec Ideal S576 .f32)
  (a24 : Vec Ideal S576 .f32)
  (a25 : Vec Ideal S1 .f32)

/-- What the reference reads for image `i`, as the model's input. -/
def rI (i : Fin 16) : Inp where
  x := im a0 i
  wc1 p k c := a2 (ix3 k p c)
  gc1 p c := a1 (ix1 0) * a3 (ix2 p c)
  bc1 p c := a4 (ix2 p c)
  w1 p k c := a6 (ix3 p k c)
  w2 p k c := a7 (ix3 p k c)
  g q c := (![a5 (ix1 0) * a8 (ix2 0 c), a12 (ix1 0) * a9 (ix2 0 c), a13 (ix1 0) * a8 (ix2 1 c),
    a12 (ix1 1) * a9 (ix2 1 c)] : Fin 4 → EReal) q
  b q c := (![a10 (ix2 0 c), a11 (ix2 0 c), a10 (ix2 1 c), a11 (ix2 1 c)] : Fin 4 → EReal) q
  wc2 p k c := a14 (ix3 p k c)
  gc2 c := a15 (ix1 c)
  bc2 c := a16 (ix1 c)
  ws1 k c := a18 (ix2 k c)
  gs1 c := a17 (ix1 0) * a19 (ix1 c)
  bs1 c := a20 (ix1 c)
  ws2 p k c := a22 (ix3 p k c)
  gs2 c := a23 (ix1 c)
  bs2 c := a24 (ix1 c)
  s q := (![a5 (ix1 0), a17 (ix1 0), a21 (ix1 0), a25 (ix1 0), a12 (ix1 0), a12 (ix1 1), a13 (ix1 0), a13 (ix1 1)]
    : Fin 8 → EReal) q

/-! ### The loads -/

theorem h1 : (![0] : Fin 1 → Nat) = fun _ => 0 := funext fun a => by fin_cases a <;> rfl
theorem h2 : (![0, 0] : Fin 2 → Nat) = fun _ => 0 := funext fun a => by fin_cases a <;> rfl
theorem h3 : (![0, 0, 0] : Fin 3 → Nat) = fun _ => 0 := funext fun a => by fin_cases a <;> rfl
theorem h4 : (![0, 0, 0, 0] : Fin 4 → Nat) = fun _ => 0 := funext fun a => by fin_cases a <;> rfl

theorem ld_c1w0 (x : Vec Ideal S576x2x288 .fp8e4m3) (k : Fin 576) (c : Fin 288) : View.ld x r0_2 (ix3 k 0 c) = x (ix3 k 0 c) := by
  refine congrArg x (funext fun a => Fin.ext ?_)
  match a with
  | ⟨0, _⟩ => simp
  | ⟨1, _⟩ => simp
  | ⟨2, _⟩ => simp

theorem ld_c1w1 (x : Vec Ideal S576x2x288 .fp8e4m3) (k : Fin 576) (c : Fin 288) : View.ld x r0_5 (ix3 k 0 c) = x (ix3 k 1 c) := by
  refine congrArg x (funext fun a => Fin.ext ?_)
  match a with
  | ⟨0, _⟩ => simp
  | ⟨1, _⟩ => simp
  | ⟨2, _⟩ => simp

theorem ld_row0 (x : Vec Ideal S2x288 .f32) (c : Fin 288) : View.ld x r0_3 (ix2 0 c) = x (ix2 0 c) := by
  refine congrArg x (funext fun a => Fin.ext ?_)
  match a with
  | ⟨0, _⟩ => simp
  | ⟨1, _⟩ => simp

theorem ld_row1 (x : Vec Ideal S2x288 .f32) (c : Fin 288) : View.ld x r0_6 (ix2 0 c) = x (ix2 1 c) := by
  refine congrArg x (funext fun a => Fin.ext ?_)
  match a with
  | ⟨0, _⟩ => simp
  | ⟨1, _⟩ => simp

theorem ld_w0 (x : Vec Ideal S2x2592x288 .fp8e4m3) (k : Fin 2592) (c : Fin 288) : View.ld x r0_8 (ix3 0 k c) = x (ix3 0 k c) := by
  refine congrArg x (funext fun a => Fin.ext ?_)
  match a with
  | ⟨0, _⟩ => simp
  | ⟨1, _⟩ => simp
  | ⟨2, _⟩ => simp

theorem ld_w1 (x : Vec Ideal S2x2592x288 .fp8e4m3) (k : Fin 2592) (c : Fin 288) : View.ld x r0_11 (ix3 0 k c) = x (ix3 1 k c) := by
  refine congrArg x (funext fun a => Fin.ext ?_)
  match a with
  | ⟨0, _⟩ => simp
  | ⟨1, _⟩ => simp
  | ⟨2, _⟩ => simp

theorem ld_s0 (x : Vec Ideal S2 .f32) : View.ld x r0_9 (ix1 0) = x (ix1 0) := by
  refine congrArg x (funext fun a => Fin.ext ?_)
  match a with
  | ⟨0, _⟩ => simp

theorem ld_s1 (x : Vec Ideal S2 .f32) : View.ld x r0_12 (ix1 0) = x (ix1 1) := by
  refine congrArg x (funext fun a => Fin.ext ?_)
  match a with
  | ⟨0, _⟩ => simp

theorem ld_u0 (x : Vec Ideal S4x288x576 .fp8e4m3) (k : Fin 288) (c : Fin 576) : View.ld x r0_14 (ix3 0 k c) = x (ix3 0 k c) := by
  refine congrArg x (funext fun a => Fin.ext ?_)
  match a with
  | ⟨0, _⟩ => simp
  | ⟨1, _⟩ => simp
  | ⟨2, _⟩ => simp

theorem ld_u1 (x : Vec Ideal S4x288x576 .fp8e4m3) (k : Fin 288) (c : Fin 576) : View.ld x r0_15 (ix3 0 k c) = x (ix3 1 k c) := by
  refine congrArg x (funext fun a => Fin.ext ?_)
  match a with
  | ⟨0, _⟩ => simp
  | ⟨1, _⟩ => simp
  | ⟨2, _⟩ => simp

theorem ld_u2 (x : Vec Ideal S4x288x576 .fp8e4m3) (k : Fin 288) (c : Fin 576) : View.ld x r0_16 (ix3 0 k c) = x (ix3 2 k c) := by
  refine congrArg x (funext fun a => Fin.ext ?_)
  match a with
  | ⟨0, _⟩ => simp
  | ⟨1, _⟩ => simp
  | ⟨2, _⟩ => simp

theorem ld_u3 (x : Vec Ideal S4x288x576 .fp8e4m3) (k : Fin 288) (c : Fin 576) : View.ld x r0_17 (ix3 0 k c) = x (ix3 3 k c) := by
  refine congrArg x (funext fun a => Fin.ext ?_)
  match a with
  | ⟨0, _⟩ => simp
  | ⟨1, _⟩ => simp
  | ⟨2, _⟩ => simp

theorem ld_a (x : Vec Ideal S1 .f32) : View.ld x r0_0 = x := View.ld_unit_zero h1 _ _
theorem ld_x (x : Vec Ideal S16x40x24x576 .fp8e4m3) : View.ld x r0_1 = x := View.ld_unit_zero h4 _ _
theorem ld_b (x : Vec Ideal S576 .f32) : View.ld x r0_18 = x := View.ld_unit_zero h1 _ _
theorem ld_wd (x : Vec Ideal S576x288 .fp8e4m3) : View.ld x r0_20 = x := View.ld_unit_zero h2 _ _
theorem ld_d (x : Vec Ideal S288 .f32) : View.ld x r0_21 = x := View.ld_unit_zero h1 _ _

/-! ### The layers -/

theorem rc10 (i : Fin 16) : im (k0_pay2 a5 a0 (View.ld a2 r0_2) a1 (View.ld a3 r0_3) (View.ld a4 r0_3)) i = (rI a0 a1 a2 a3 a4 a5 a6 a7 a8 a9 a10 a11 a12 a13 a14 a15 a16 a17 a18 a19 a20 a21 a22 a23 a24 a25 i).c1 0 := by
  funext r c
  rw [pay2_eq]
  exact c1R_at (ld_c1w0 a2) (ld_row0 a3) (ld_row0 a4) r c

theorem pay53_eq : k0_pay53 a0 a1 a2 a3 a4 a5 a6 a7 a8 a9 a10 a11 a12 a13 a14 a15 a16 a17 a18 a19 a20 a21 a22 a23 a24 a25 = k0_pay4 a5 a0 (View.ld a2 r0_5) a1 (View.ld a3 r0_6) (View.ld a4 r0_6) := by
  unfold k0_pay53
  rw [ld_a a5, ld_x, ld_a a1]

theorem rc11 (i : Fin 16) : im (k0_pay53 a0 a1 a2 a3 a4 a5 a6 a7 a8 a9 a10 a11 a12 a13 a14 a15 a16 a17 a18 a19 a20 a21 a22 a23 a24 a25) i = (rI a0 a1 a2 a3 a4 a5 a6 a7 a8 a9 a10 a11 a12 a13 a14 a15 a16 a17 a18 a19 a20 a21 a22 a23 a24 a25 i).c1 1 := by
  funext r c
  rw [pay53_eq, pay4_eq]
  exact c1R_at (ld_c1w1 a2) (ld_row1 a3) (ld_row1 a4) r c

theorem rmid0 (i : Fin 16) : im (k0_pay11 a5 (k0_pay54 a0 a1 a2 a3 a4 a5 a6 a7 a8 a9 a10 a11 a12 a13 a14 a15 a16 a17 a18 a19 a20 a21 a22 a23 a24 a25) (k0_pay56 a0 a1 a2 a3 a4 a5 a6 a7 a8 a9 a10 a11 a12 a13 a14 a15 a16 a17 a18 a19 a20 a21 a22 a23 a24 a25) (k0_pay57 a0 a1 a2 a3 a4 a5 a6 a7 a8 a9 a10 a11 a12 a13 a14 a15 a16 a17 a18 a19 a20 a21 a22 a23 a24 a25) (View.ld a8 r0_3) (View.ld a10 r0_3) (View.ld a12 r0_9)) i = (rI a0 a1 a2 a3 a4 a5 a6 a7 a8 a9 a10 a11 a12 a13 a14 a15 a16 a17 a18 a19 a20 a21 a22 a23 a24 a25 i).mid0 := by
  have e : k0_pay11 a5 (k0_pay54 a0 a1 a2 a3 a4 a5 a6 a7 a8 a9 a10 a11 a12 a13 a14 a15 a16 a17 a18 a19 a20 a21 a22 a23 a24 a25) (k0_pay56 a0 a1 a2 a3 a4 a5 a6 a7 a8 a9 a10 a11 a12 a13 a14 a15 a16 a17 a18 a19 a20 a21 a22 a23 a24 a25) (k0_pay57 a0 a1 a2 a3 a4 a5 a6 a7 a8 a9 a10 a11 a12 a13 a14 a15 a16 a17 a18 a19 a20 a21 a22 a23 a24 a25) (View.ld a8 r0_3) (View.ld a10 r0_3) (View.ld a12 r0_9) = midR a5 (k0_pay53 a0 a1 a2 a3 a4 a5 a6 a7 a8 a9 a10 a11 a12 a13 a14 a15 a16 a17 a18 a19 a20 a21 a22 a23 a24 a25) (View.ld a6 r0_8) (View.ld a8 r0_3) (View.ld a10 r0_3) (View.ld a12 r0_9) := by
    simp only [k0_pay54, k0_pay56, k0_pay57, k0_pay55, pay53_eq, ld_a, ld_x]
    exact mid0_eq _ _ _ _ _ _ _ _ _ _
  funext r c
  rw [e]
  exact midR_at (rc11 a0 a1 a2 a3 a4 a5 a6 a7 a8 a9 a10 a11 a12 a13 a14 a15 a16 a17 a18 a19 a20 a21 a22 a23 a24 a25 i) (ld_w0 a6) rfl (ld_row0 a8) (ld_row0 a10) (ld_s0 a12) r c

theorem rout0 (i : Fin 16) : im (k0_pay60 a0 a1 a2 a3 a4 a5 a6 a7 a8 a9 a10 a11 a12 a13 a14 a15 a16 a17 a18 a19 a20 a21 a22 a23 a24 a25) i = (rI a0 a1 a2 a3 a4 a5 a6 a7 a8 a9 a10 a11 a12 a13 a14 a15 a16 a17 a18 a19 a20 a21 a22 a23 a24 a25 i).out0 := by
  have e : k0_pay60 a0 a1 a2 a3 a4 a5 a6 a7 a8 a9 a10 a11 a12 a13 a14 a15 a16 a17 a18 a19 a20 a21 a22 a23 a24 a25 = outR (View.ld a12 r0_9) (k0_pay11 a5 (k0_pay54 a0 a1 a2 a3 a4 a5 a6 a7 a8 a9 a10 a11 a12 a13 a14 a15 a16 a17 a18 a19 a20 a21 a22 a23 a24 a25) (k0_pay56 a0 a1 a2 a3 a4 a5 a6 a7 a8 a9 a10 a11 a12 a13 a14 a15 a16 a17 a18 a19 a20 a21 a22 a23 a24 a25) (k0_pay57 a0 a1 a2 a3 a4 a5 a6 a7 a8 a9 a10 a11 a12 a13 a14 a15 a16 a17 a18 a19 a20 a21 a22 a23 a24 a25) (View.ld a8 r0_3) (View.ld a10 r0_3) (View.ld a12 r0_9)) (View.ld a7 r0_8) (View.ld a9 r0_3) (View.ld a11 r0_3)
      (k0_pay53 a0 a1 a2 a3 a4 a5 a6 a7 a8 a9 a10 a11 a12 a13 a14 a15 a16 a17 a18 a19 a20 a21 a22 a23 a24 a25) a5 (View.ld a13 r0_9) := by
    simp only [k0_pay60, k0_pay58, k0_pay59, ld_a]
    exact out0_eq _ _ _ _ _ _ _ _ _ _ _ _
  funext r c
  rw [e]
  exact outR_at (rmid0 a0 a1 a2 a3 a4 a5 a6 a7 a8 a9 a10 a11 a12 a13 a14 a15 a16 a17 a18 a19 a20 a21 a22 a23 a24 a25 i) (ld_w0 a7) (ld_s0 a12) (ld_row0 a9) (ld_row0 a11) (rc11 a0 a1 a2 a3 a4 a5 a6 a7 a8 a9 a10 a11 a12 a13 a14 a15 a16 a17 a18 a19 a20 a21 a22 a23 a24 a25 i) rfl (ld_s0 a13) r c

theorem rmid1 (i : Fin 16) : im (k0_pay27 (View.ld a13 r0_9) (k0_pay61 a0 a1 a2 a3 a4 a5 a6 a7 a8 a9 a10 a11 a12 a13 a14 a15 a16 a17 a18 a19 a20 a21 a22 a23 a24 a25) (k0_pay64 a0 a1 a2 a3 a4 a5 a6 a7 a8 a9 a10 a11 a12 a13 a14 a15 a16 a17 a18 a19 a20 a21 a22 a23 a24 a25) (k0_pay65 a0 a1 a2 a3 a4 a5 a6 a7 a8 a9 a10 a11 a12 a13 a14 a15 a16 a17 a18 a19 a20 a21 a22 a23 a24 a25) (k0_pay66 a0 a1 a2 a3 a4 a5 a6 a7 a8 a9 a10 a11 a12 a13 a14 a15 a16 a17 a18 a19 a20 a21 a22 a23 a24 a25) (View.ld a8 r0_6) (View.ld a10 r0_6) (View.ld a12 r0_12)) i = (rI a0 a1 a2 a3 a4 a5 a6 a7 a8 a9 a10 a11 a12 a13 a14 a15 a16 a17 a18 a19 a20 a21 a22 a23 a24 a25 i).mid1 := by
  have e : k0_pay27 (View.ld a13 r0_9) (k0_pay61 a0 a1 a2 a3 a4 a5 a6 a7 a8 a9 a10 a11 a12 a13 a14 a15 a16 a17 a18 a19 a20 a21 a22 a23 a24 a25) (k0_pay64 a0 a1 a2 a3 a4 a5 a6 a7 a8 a9 a10 a11 a12 a13 a14 a15 a16 a17 a18 a19 a20 a21 a22 a23 a24 a25) (k0_pay65 a0 a1 a2 a3 a4 a5 a6 a7 a8 a9 a10 a11 a12 a13 a14 a15 a16 a17 a18 a19 a20 a21 a22 a23 a24 a25) (k0_pay66 a0 a1 a2 a3 a4 a5 a6 a7 a8 a9 a10 a11 a12 a13 a14 a15 a16 a17 a18 a19 a20 a21 a22 a23 a24 a25) (View.ld a8 r0_6) (View.ld a10 r0_6) (View.ld a12 r0_12) = midR (View.ld a13 r0_9) (k0_pay60 a0 a1 a2 a3 a4 a5 a6 a7 a8 a9 a10 a11 a12 a13 a14 a15 a16 a17 a18 a19 a20 a21 a22 a23 a24 a25) (View.ld a6 r0_11) (View.ld a8 r0_6) (View.ld a10 r0_6)
      (View.ld a12 r0_12) := by
    simp only [k0_pay61, k0_pay62, k0_pay63, k0_pay64, k0_pay65, k0_pay66, k0_pay60]
    exact mid1_eq _ _ _ _ _ _ _ _ _ _ _
  funext r c
  rw [e]
  exact midR_at (rout0 a0 a1 a2 a3 a4 a5 a6 a7 a8 a9 a10 a11 a12 a13 a14 a15 a16 a17 a18 a19 a20 a21 a22 a23 a24 a25 i) (ld_w1 a6) (ld_s0 a13) (ld_row1 a8) (ld_row1 a10) (ld_s1 a12) r c

theorem rout1 (i : Fin 16) : im (k0_pay32 (View.ld a13 r0_9) (k0_pay60 a0 a1 a2 a3 a4 a5 a6 a7 a8 a9 a10 a11 a12 a13 a14 a15 a16 a17 a18 a19 a20 a21 a22 a23 a24 a25) (View.ld a12 r0_12) (k0_pay67 a0 a1 a2 a3 a4 a5 a6 a7 a8 a9 a10 a11 a12 a13 a14 a15 a16 a17 a18 a19 a20 a21 a22 a23 a24 a25) (View.ld a9 r0_6) (View.ld a11 r0_6) (View.ld a13 r0_12)) i = (rI a0 a1 a2 a3 a4 a5 a6 a7 a8 a9 a10 a11 a12 a13 a14 a15 a16 a17 a18 a19 a20 a21 a22 a23 a24 a25 i).out1 := by
  have e : k0_pay32 (View.ld a13 r0_9) (k0_pay60 a0 a1 a2 a3 a4 a5 a6 a7 a8 a9 a10 a11 a12 a13 a14 a15 a16 a17 a18 a19 a20 a21 a22 a23 a24 a25) (View.ld a12 r0_12) (k0_pay67 a0 a1 a2 a3 a4 a5 a6 a7 a8 a9 a10 a11 a12 a13 a14 a15 a16 a17 a18 a19 a20 a21 a22 a23 a24 a25) (View.ld a9 r0_6) (View.ld a11 r0_6) (View.ld a13 r0_12) = outR (View.ld a12 r0_12) (k0_pay27 (View.ld a13 r0_9) (k0_pay61 a0 a1 a2 a3 a4 a5 a6 a7 a8 a9 a10 a11 a12 a13 a14 a15 a16 a17 a18 a19 a20 a21 a22 a23 a24 a25) (k0_pay64 a0 a1 a2 a3 a4 a5 a6 a7 a8 a9 a10 a11 a12 a13 a14 a15 a16 a17 a18 a19 a20 a21 a22 a23 a24 a25) (k0_pay65 a0 a1 a2 a3 a4 a5 a6 a7 a8 a9 a10 a11 a12 a13 a14 a15 a16 a17 a18 a19 a20 a21 a22 a23 a24 a25) (k0_pay66 a0 a1 a2 a3 a4 a5 a6 a7 a8 a9 a10 a11 a12 a13 a14 a15 a16 a17 a18 a19 a20 a21 a22 a23 a24 a25) (View.ld a8 r0_6) (View.ld a10 r0_6) (View.ld a12 r0_12)) (View.ld a7 r0_11) (View.ld a9 r0_6) (View.ld a11 r0_6)
      (k0_pay60 a0 a1 a2 a3 a4 a5 a6 a7 a8 a9 a10 a11 a12 a13 a14 a15 a16 a17 a18 a19 a20 a21 a22 a23 a24 a25) (View.ld a13 r0_9) (View.ld a13 r0_12) := by
    simp only [k0_pay67]
    exact out1_eq _ _ _ _ _ _ _ _ _ _ _ _ _
  funext r c
  rw [e]
  exact outR_at (rmid1 a0 a1 a2 a3 a4 a5 a6 a7 a8 a9 a10 a11 a12 a13 a14 a15 a16 a17 a18 a19 a20 a21 a22 a23 a24 a25 i) (ld_w1 a7) (ld_s1 a12) (ld_row1 a9) (ld_row1 a11) (rout0 a0 a1 a2 a3 a4 a5 a6 a7 a8 a9 a10 a11 a12 a13 a14 a15 a16 a17 a18 a19 a20 a21 a22 a23 a24 a25 i) (ld_s0 a13) (ld_s1 a13) r c

theorem rc2f (i : Fin 16) : im (k0_pay38 (k0_pay68 a0 a1 a2 a3 a4 a5 a6 a7 a8 a9 a10 a11 a12 a13 a14 a15 a16 a17 a18 a19 a20 a21 a22 a23 a24 a25) (k0_pay69 a0 a1 a2 a3 a4 a5 a6 a7 a8 a9 a10 a11 a12 a13 a14 a15 a16 a17 a18 a19 a20 a21 a22 a23 a24 a25)) i = (rI a0 a1 a2 a3 a4 a5 a6 a7 a8 a9 a10 a11 a12 a13 a14 a15 a16 a17 a18 a19 a20 a21 a22 a23 a24 a25 i).c2f := by
  have e : k0_pay38 (k0_pay68 a0 a1 a2 a3 a4 a5 a6 a7 a8 a9 a10 a11 a12 a13 a14 a15 a16 a17 a18 a19 a20 a21 a22 a23 a24 a25) (k0_pay69 a0 a1 a2 a3 a4 a5 a6 a7 a8 a9 a10 a11 a12 a13 a14 a15 a16 a17 a18 a19 a20 a21 a22 a23 a24 a25) = c2fR a5 (View.ld a13 r0_9) (View.ld a13 r0_12) (k0_pay2 a5 a0 (View.ld a2 r0_2) a1 (View.ld a3 r0_3) (View.ld a4 r0_3)) (k0_pay53 a0 a1 a2 a3 a4 a5 a6 a7 a8 a9 a10 a11 a12 a13 a14 a15 a16 a17 a18 a19 a20 a21 a22 a23 a24 a25)
      (k0_pay60 a0 a1 a2 a3 a4 a5 a6 a7 a8 a9 a10 a11 a12 a13 a14 a15 a16 a17 a18 a19 a20 a21 a22 a23 a24 a25) (k0_pay32 (View.ld a13 r0_9) (k0_pay60 a0 a1 a2 a3 a4 a5 a6 a7 a8 a9 a10 a11 a12 a13 a14 a15 a16 a17 a18 a19 a20 a21 a22 a23 a24 a25) (View.ld a12 r0_12) (k0_pay67 a0 a1 a2 a3 a4 a5 a6 a7 a8 a9 a10 a11 a12 a13 a14 a15 a16 a17 a18 a19 a20 a21 a22 a23 a24 a25) (View.ld a9 r0_6) (View.ld a11 r0_6) (View.ld a13 r0_12)) (View.ld a14 r0_14) (View.ld a14 r0_15) (View.ld a14 r0_16) (View.ld a14 r0_17) a15 a16 a17 := by
    simp only [k0_pay68, k0_pay69, ld_a, ld_x, ld_b]
    exact c2f_eq _ _ _ _ _ _ _ _ _ _ _ _ _ _
  funext r c
  rw [e]
  exact c2fR_at (rc10 a0 a1 a2 a3 a4 a5 a6 a7 a8 a9 a10 a11 a12 a13 a14 a15 a16 a17 a18 a19 a20 a21 a22 a23 a24 a25 i) (rc11 a0 a1 a2 a3 a4 a5 a6 a7 a8 a9 a10 a11 a12 a13 a14 a15 a16 a17 a18 a19 a20 a21 a22 a23 a24 a25 i) (rout0 a0 a1 a2 a3 a4 a5 a6 a7 a8 a9 a10 a11 a12 a13 a14 a15 a16 a17 a18 a19 a20 a21 a22 a23 a24 a25 i) (rout1 a0 a1 a2 a3 a4 a5 a6 a7 a8 a9 a10 a11 a12 a13 a14 a15 a16 a17 a18 a19 a20 a21 a22 a23 a24 a25 i) (ld_u0 a14) (ld_u1 a14) (ld_u2 a14) (ld_u3 a14)
    (ld_s0 a13) (ld_s1 a13) r c

theorem rp0 (i : Fin 16) : im (k0_pay40 (k0_pay68 a0 a1 a2 a3 a4 a5 a6 a7 a8 a9 a10 a11 a12 a13 a14 a15 a16 a17 a18 a19 a20 a21 a22 a23 a24 a25) (k0_pay69 a0 a1 a2 a3 a4 a5 a6 a7 a8 a9 a10 a11 a12 a13 a14 a15 a16 a17 a18 a19 a20 a21 a22 a23 a24 a25) a18 a17 a19 a20 a21) i = (rI a0 a1 a2 a3 a4 a5 a6 a7 a8 a9 a10 a11 a12 a13 a14 a15 a16 a17 a18 a19 a20 a21 a22 a23 a24 a25 i).p0 := by
  funext r c
  rw [p0_eq, p0R_im, rc2f]
  rfl

theorem p1_pool : k0_pay44 (k0_pay70 a0 a1 a2 a3 a4 a5 a6 a7 a8 a9 a10 a11 a12 a13 a14 a15 a16 a17 a18 a19 a20 a21 a22 a23 a24 a25) (k0_pay71 a0 a1 a2 a3 a4 a5 a6 a7 a8 a9 a10 a11 a12 a13 a14 a15 a16 a17 a18 a19 a20 a21 a22 a23 a24 a25) = poolR (k0_pay40 (k0_pay68 a0 a1 a2 a3 a4 a5 a6 a7 a8 a9 a10 a11 a12 a13 a14 a15 a16 a17 a18 a19 a20 a21 a22 a23 a24 a25) (k0_pay69 a0 a1 a2 a3 a4 a5 a6 a7 a8 a9 a10 a11 a12 a13 a14 a15 a16 a17 a18 a19 a20 a21 a22 a23 a24 a25) a18 a17 a19 a20 a21) := by
  simp only [k0_pay70, k0_pay71, ld_a, ld_wd, ld_d]
  exact p1_eq _ _ _ _ _ _ _

theorem rp1 (i : Fin 16) : im (k0_pay44 (k0_pay70 a0 a1 a2 a3 a4 a5 a6 a7 a8 a9 a10 a11 a12 a13 a14 a15 a16 a17 a18 a19 a20 a21 a22 a23 a24 a25) (k0_pay71 a0 a1 a2 a3 a4 a5 a6 a7 a8 a9 a10 a11 a12 a13 a14 a15 a16 a17 a18 a19 a20 a21 a22 a23 a24 a25)) i = (rI a0 a1 a2 a3 a4 a5 a6 a7 a8 a9 a10 a11 a12 a13 a14 a15 a16 a17 a18 a19 a20 a21 a22 a23 a24 a25 i).p1 := by
  rw [p1_pool, poolR_at, rp0]
  rfl

theorem rp2 (i : Fin 16) : im (k0_pay46 (k0_pay70 a0 a1 a2 a3 a4 a5 a6 a7 a8 a9 a10 a11 a12 a13 a14 a15 a16 a17 a18 a19 a20 a21 a22 a23 a24 a25) (k0_pay71 a0 a1 a2 a3 a4 a5 a6 a7 a8 a9 a10 a11 a12 a13 a14 a15 a16 a17 a18 a19 a20 a21 a22 a23 a24 a25)) i = (rI a0 a1 a2 a3 a4 a5 a6 a7 a8 a9 a10 a11 a12 a13 a14 a15 a16 a17 a18 a19 a20 a21 a22 a23 a24 a25 i).p2 := by
  rw [p2_eq, poolR_at, rp1]
  rfl

theorem rp3 (i : Fin 16) : im (k0_pay49 (Scalar.ofBits .f32 0xFF800000#32) (k0_pay72 a0 a1 a2 a3 a4 a5 a6 a7 a8 a9 a10 a11 a12 a13 a14 a15 a16 a17 a18 a19 a20 a21 a22 a23 a24 a25) (k0_pay73 a0 a1 a2 a3 a4 a5 a6 a7 a8 a9 a10 a11 a12 a13 a14 a15 a16 a17 a18 a19 a20 a21 a22 a23 a24 a25)) i = (rI a0 a1 a2 a3 a4 a5 a6 a7 a8 a9 a10 a11 a12 a13 a14 a15 a16 a17 a18 a19 a20 a21 a22 a23 a24 a25 i).p3 := by
  have e : k0_pay49 (Scalar.ofBits .f32 0xFF800000#32) (k0_pay72 a0 a1 a2 a3 a4 a5 a6 a7 a8 a9 a10 a11 a12 a13 a14 a15 a16 a17 a18 a19 a20 a21 a22 a23 a24 a25) (k0_pay73 a0 a1 a2 a3 a4 a5 a6 a7 a8 a9 a10 a11 a12 a13 a14 a15 a16 a17 a18 a19 a20 a21 a22 a23 a24 a25) = poolR (k0_pay46 (k0_pay70 a0 a1 a2 a3 a4 a5 a6 a7 a8 a9 a10 a11 a12 a13 a14 a15 a16 a17 a18 a19 a20 a21 a22 a23 a24 a25) (k0_pay71 a0 a1 a2 a3 a4 a5 a6 a7 a8 a9 a10 a11 a12 a13 a14 a15 a16 a17 a18 a19 a20 a21 a22 a23 a24 a25)) := by
    simp only [k0_pay72, k0_pay73]
    exact p3_eq _ _
  rw [e, poolR_at, rp2]
  rfl

/-! ### The result arrays -/

theorem G26_at (i : Fin 16) (r : Fin 960) (k : Fin 576) : G26 a0 a1 a2 a3 a4 a5 a6 a7 a8 a9 a10 a11 a12 a13 a14 a15 a16 a17 a18 a19 a20 a21 a22 a23 a24 a25 (ix3 i r k) = (rI a0 a1 a2 a3 a4 a5 a6 a7 a8 a9 a10 a11 a12 a13 a14 a15 a16 a17 a18 a19 a20 a21 a22 a23 a24 a25 i).c2f r k :=
  (flat_apply _ _ i r k).trans (congrFun (congrFun (rc2f a0 a1 a2 a3 a4 a5 a6 a7 a8 a9 a10 a11 a12 a13 a14 a15 a16 a17 a18 a19 a20 a21 a22 a23 a24 a25 i) r) k)

theorem G27_at (i : Fin 16) (r : Fin 960) (k : Fin 576) : G27 a0 a1 a2 a3 a4 a5 a6 a7 a8 a9 a10 a11 a12 a13 a14 a15 a16 a17 a18 a19 a20 a21 a22 a23 a24 a25 (ix3 i r k) = (rI a0 a1 a2 a3 a4 a5 a6 a7 a8 a9 a10 a11 a12 a13 a14 a15 a16 a17 a18 a19 a20 a21 a22 a23 a24 a25 i).sppf r k := by
  refine (congrFun (sppf_eq _ _ _ _ _ _ _ _ _ _ _ _) (ix3 i r k)).trans ((flat_apply _ _ i r k).trans ?_)
  exact sppfR_at (rp0 a0 a1 a2 a3 a4 a5 a6 a7 a8 a9 a10 a11 a12 a13 a14 a15 a16 a17 a18 a19 a20 a21 a22 a23 a24 a25 i) (rp1 a0 a1 a2 a3 a4 a5 a6 a7 a8 a9 a10 a11 a12 a13 a14 a15 a16 a17 a18 a19 a20 a21 a22 a23 a24 a25 i) (rp2 a0 a1 a2 a3 a4 a5 a6 a7 a8 a9 a10 a11 a12 a13 a14 a15 a16 a17 a18 a19 a20 a21 a22 a23 a24 a25 i) (rp3 a0 a1 a2 a3 a4 a5 a6 a7 a8 a9 a10 a11 a12 a13 a14 a15 a16 a17 a18 a19 a20 a21 a22 a23 a24 a25 i) (ld_u0 a22) (ld_u1 a22) (ld_u2 a22) (ld_u3 a22) r k

theorem G31_at (i : Fin 16) (r : Fin 960) (k : Fin 288) : G31 a0 a1 a2 a3 a4 a5 a6 a7 a8 a9 a10 a11 a12 a13 a14 a15 a16 a17 a18 a19 a20 a21 a22 a23 a24 a25 (ix3 i r k) = (rI a0 a1 a2 a3 a4 a5 a6 a7 a8 a9 a10 a11 a12 a13 a14 a15 a16 a17 a18 a19 a20 a21 a22 a23 a24 a25 i).p0 r k :=
  (flat_apply _ _ i r k).trans (congrFun (congrFun (rp0 a0 a1 a2 a3 a4 a5 a6 a7 a8 a9 a10 a11 a12 a13 a14 a15 a16 a17 a18 a19 a20 a21 a22 a23 a24 a25 i) r) k)

theorem G32_at (i : Fin 16) (r : Fin 960) (k : Fin 288) : G32 a0 a1 a2 a3 a4 a5 a6 a7 a8 a9 a10 a11 a12 a13 a14 a15 a16 a17 a18 a19 a20 a21 a22 a23 a24 a25 (ix3 i r k) = (rI a0 a1 a2 a3 a4 a5 a6 a7 a8 a9 a10 a11 a12 a13 a14 a15 a16 a17 a18 a19 a20 a21 a22 a23 a24 a25 i).p1 r k :=
  (flat_apply _ _ i r k).trans (congrFun (congrFun (rp1 a0 a1 a2 a3 a4 a5 a6 a7 a8 a9 a10 a11 a12 a13 a14 a15 a16 a17 a18 a19 a20 a21 a22 a23 a24 a25 i) r) k)

theorem G33_at (i : Fin 16) (r : Fin 960) (k : Fin 288) : G33 a0 a1 a2 a3 a4 a5 a6 a7 a8 a9 a10 a11 a12 a13 a14 a15 a16 a17 a18 a19 a20 a21 a22 a23 a24 a25 (ix3 i r k) = (rI a0 a1 a2 a3 a4 a5 a6 a7 a8 a9 a10 a11 a12 a13 a14 a15 a16 a17 a18 a19 a20 a21 a22 a23 a24 a25 i).p3 r k :=
  (flat_apply _ _ i r k).trans (congrFun (congrFun (rp3 a0 a1 a2 a3 a4 a5 a6 a7 a8 a9 a10 a11 a12 a13 a14 a15 a16 a17 a18 a19 a20 a21 a22 a23 a24 a25 i) r) k)

/-- Two stores, one per half along axis 1: each half reads back its own payload. -/
theorem canon_axis1 (w1 w0 : S16x1x960x288.Idx → Elt Ideal .fp8e4m3) (i : Fin 16) (r : Fin 960) (k : Fin 288) :
    View.canon [⟨r0_7, w1⟩, ⟨r0_4, w0⟩] (ix4 i 0 r k) = w0 (ix4 i 0 r k)
    ∧ View.canon [⟨r0_7, w1⟩, ⟨r0_4, w0⟩] (ix4 i 1 r k) = w1 (ix4 i 0 r k) := by
  constructor
  · rw [View.canon_cons_of_not_mem]
    · have e : (ix4 i 0 r k : S16x2x960x288.Idx) = r0_4.emb (ix4 i 0 r k) := by
        funext a
        apply Fin.ext
        match a with
        | 0 => simp
        | 1 => simp
        | 2 => simp
        | 3 => simp
      rw [e]
      exact View.canon_cons_emb _ _ _ _
    · intro hm
      have hm' : _ ∈ r0_7.set := hm
      have h0 : 1 ≤ 0 := ((Rect.mem_set_unit.mp hm') 1).1
      omega
  · have e : (ix4 i 1 r k : S16x2x960x288.Idx) = r0_7.emb (ix4 i 0 r k) := by
      funext a
      apply Fin.ext
      match a with
      | 0 => simp
      | 1 => simp
      | 2 => simp
      | 3 => simp
    rw [e]
    exact View.canon_cons_emb _ _ _ _

/-- Two stores, one per half along axis 0: each half reads back its own payload. -/
theorem canon_axis0 (w1 w0 : S1x16x960x288.Idx → Elt Ideal .fp8e4m3) (i : Fin 16) (r : Fin 960) (k : Fin 288) :
    View.canon [⟨r0_13, w1⟩, ⟨r0_10, w0⟩] (ix4 0 i r k) = w0 (ix4 0 i r k)
    ∧ View.canon [⟨r0_13, w1⟩, ⟨r0_10, w0⟩] (ix4 1 i r k) = w1 (ix4 0 i r k) := by
  constructor
  · rw [View.canon_cons_of_not_mem]
    · have e : (ix4 0 i r k : S2x16x960x288.Idx) = r0_10.emb (ix4 0 i r k) := by
        funext a
        apply Fin.ext
        match a with
        | 0 => simp
        | 1 => simp
        | 2 => simp
        | 3 => simp
      rw [e]
      exact View.canon_cons_emb _ _ _ _
    · intro hm
      have hm' : _ ∈ r0_13.set := hm
      have h0 : 1 ≤ 0 := ((Rect.mem_set_unit.mp hm') 0).1
      omega
  · have e : (ix4 1 i r k : S2x16x960x288.Idx) = r0_13.emb (ix4 0 i r k) := by
      funext a
      apply Fin.ext
      match a with
      | 0 => simp
      | 1 => simp
      | 2 => simp
      | 3 => simp
    rw [e]
    exact View.canon_cons_emb _ _ _ _

theorem sc_axis1 (x : FVec Ideal S16x40x24x288 .fp8e4m3) (i : Fin 16) (r : Fin 960) (k : Fin 288) :
    shapeCast S16x1x960x288 (shapeCast S16x960x288 x shapeCasts_S16x40x24x288_S16x960x288) shapeCasts_S16x960x288_S16x1x960x288
      (ix4 i 0 r k) = im x i r k := by
  refine Eq.trans (shapeCast_apply _ _ (ix4 i 0 r k) (ix3 i r k) ?_) (flat_apply _ _ i r k)
  rw [Shape.rowMajor_val_three, Shape.rowMajor_val_four]
  show (i.val * 960 + r.val) * 288 + k.val = ((i.val * 1 + 0) * 960 + r.val) * 288 + k.val
  omega

theorem sc_axis0 (x : FVec Ideal S16x40x24x288 .fp8e4m3) (i : Fin 16) (r : Fin 960) (k : Fin 288) :
    shapeCast S1x16x960x288 (shapeCast S16x960x288 x shapeCasts_S16x40x24x288_S16x960x288) shapeCasts_S16x960x288_S1x16x960x288
      (ix4 0 i r k) = im x i r k := by
  refine Eq.trans (shapeCast_apply _ _ (ix4 0 i r k) (ix3 i r k) ?_) (flat_apply _ _ i r k)
  rw [Shape.rowMajor_val_three, Shape.rowMajor_val_four]
  show (i.val * 960 + r.val) * 288 + k.val = ((0 * 16 + i.val) * 960 + r.val) * 288 + k.val
  omega

/-- The stored halves of the stacked results. -/
theorem half1 {x : FVec Ideal S16x40x24x288 .fp8e4m3} {w : S16x1x960x288.Idx → Elt Ideal .fp8e4m3}
    (e : w = shapeCast S16x1x960x288 (shapeCast S16x960x288 x shapeCasts_S16x40x24x288_S16x960x288) shapeCasts_S16x960x288_S16x1x960x288)
    {i : Fin 16} {V : Fin 960 → Fin 288 → EReal} (h : im x i = V) (r : Fin 960) (k : Fin 288) : w (ix4 i 0 r k) = V r k := by
  rw [e, sc_axis1, h]

theorem half0 {x : FVec Ideal S16x40x24x288 .fp8e4m3} {w : S1x16x960x288.Idx → Elt Ideal .fp8e4m3}
    (e : w = shapeCast S1x16x960x288 (shapeCast S16x960x288 x shapeCasts_S16x40x24x288_S16x960x288) shapeCasts_S16x960x288_S1x16x960x288)
    {i : Fin 16} {V : Fin 960 → Fin 288 → EReal} (h : im x i = V) (r : Fin 960) (k : Fin 288) : w (ix4 0 i r k) = V r k := by
  rw [e, sc_axis0, h]

theorem G28_0_at (i : Fin 16) (r : Fin 960) (k : Fin 288) : G28 a0 a1 a2 a3 a4 a5 a6 a7 a8 a9 a10 a11 a12 a13 a14 a15 a16 a17 a18 a19 a20 a21 a22 a23 a24 a25 (ix4 i 0 r k) = (rI a0 a1 a2 a3 a4 a5 a6 a7 a8 a9 a10 a11 a12 a13 a14 a15 a16 a17 a18 a19 a20 a21 a22 a23 a24 a25 i).c1 0 r k := by
  refine (canon_axis1 _ _ i r k).1.trans ?_
  refine half1 ?_ (rc10 a0 a1 a2 a3 a4 a5 a6 a7 a8 a9 a10 a11 a12 a13 a14 a15 a16 a17 a18 a19 a20 a21 a22 a23 a24 a25 i) r k
  unfold k0_pay3
  rfl

theorem G28_1_at (i : Fin 16) (r : Fin 960) (k : Fin 288) : G28 a0 a1 a2 a3 a4 a5 a6 a7 a8 a9 a10 a11 a12 a13 a14 a15 a16 a17 a18 a19 a20 a21 a22 a23 a24 a25 (ix4 i 1 r k) = (rI a0 a1 a2 a3 a4 a5 a6 a7 a8 a9 a10 a11 a12 a13 a14 a15 a16 a17 a18 a19 a20 a21 a22 a23 a24 a25 i).c1 1 r k := by
  refine (canon_axis1 _ _ i r k).2.trans ?_
  refine half1 ?_ (rc11 a0 a1 a2 a3 a4 a5 a6 a7 a8 a9 a10 a11 a12 a13 a14 a15 a16 a17 a18 a19 a20 a21 a22 a23 a24 a25 i) r k
  unfold k0_pay5
  rw [pay53_eq]

theorem G29_0_at (i : Fin 16) (r : Fin 960) (k : Fin 288) : G29 a0 a1 a2 a3 a4 a5 a6 a7 a8 a9 a10 a11 a12 a13 a14 a15 a16 a17 a18 a19 a20 a21 a22 a23 a24 a25 (ix4 0 i r k) = (rI a0 a1 a2 a3 a4 a5 a6 a7 a8 a9 a10 a11 a12 a13 a14 a15 a16 a17 a18 a19 a20 a21 a22 a23 a24 a25 i).mid0 r k := by
  refine (canon_axis0 _ _ i r k).1.trans ?_
  refine half0 ?_ (rmid0 a0 a1 a2 a3 a4 a5 a6 a7 a8 a9 a10 a11 a12 a13 a14 a15 a16 a17 a18 a19 a20 a21 a22 a23 a24 a25 i) r k
  unfold k0_pay18
  rfl

theorem G29_1_at (i : Fin 16) (r : Fin 960) (k : Fin 288) : G29 a0 a1 a2 a3 a4 a5 a6 a7 a8 a9 a10 a11 a12 a13 a14 a15 a16 a17 a18 a19 a20 a21 a22 a23 a24 a25 (ix4 1 i r k) = (rI a0 a1 a2 a3 a4 a5 a6 a7 a8 a9 a10 a11 a12 a13 a14 a15 a16 a17 a18 a19 a20 a21 a22 a23 a24 a25 i).mid1 r k := by
  refine (canon_axis0 _ _ i r k).2.trans ?_
  refine half0 ?_ (rmid1 a0 a1 a2 a3 a4 a5 a6 a7 a8 a9 a10 a11 a12 a13 a14 a15 a16 a17 a18 a19 a20 a21 a22 a23 a24 a25 i) r k
  unfold k0_pay33
  rfl

theorem pay60_eq : k0_pay60 a0 a1 a2 a3 a4 a5 a6 a7 a8 a9 a10 a11 a12 a13 a14 a15 a16 a17 a18 a19 a20 a21 a22 a23 a24 a25 = k0_pay17 a5 (k0_pay53 a0 a1 a2 a3 a4 a5 a6 a7 a8 a9 a10 a11 a12 a13 a14 a15 a16 a17 a18 a19 a20 a21 a22 a23 a24 a25) (View.ld a12 r0_9) (k0_pay58 a0 a1 a2 a3 a4 a5 a6 a7 a8 a9 a10 a11 a12 a13 a14 a15 a16 a17 a18 a19 a20 a21 a22 a23 a24 a25) (k0_pay59 a0 a1 a2 a3 a4 a5 a6 a7 a8 a9 a10 a11 a12 a13 a14 a15 a16 a17 a18 a19 a20 a21 a22 a23 a24 a25) (View.ld a11 r0_3)
    (View.ld a13 r0_9) := by
  unfold k0_pay60
  rw [ld_a]

theorem G30_0_at (i : Fin 16) (r : Fin 960) (k : Fin 288) : G30 a0 a1 a2 a3 a4 a5 a6 a7 a8 a9 a10 a11 a12 a13 a14 a15 a16 a17 a18 a19 a20 a21 a22 a23 a24 a25 (ix4 0 i r k) = (rI a0 a1 a2 a3 a4 a5 a6 a7 a8 a9 a10 a11 a12 a13 a14 a15 a16 a17 a18 a19 a20 a21 a22 a23 a24 a25 i).out0 r k := by
  refine (canon_axis0 _ _ i r k).1.trans ?_
  refine half0 ?_ (rout0 a0 a1 a2 a3 a4 a5 a6 a7 a8 a9 a10 a11 a12 a13 a14 a15 a16 a17 a18 a19 a20 a21 a22 a23 a24 a25 i) r k
  unfold k0_pay19
  rw [pay60_eq]

theorem G30_1_at (i : Fin 16) (r : Fin 960) (k : Fin 288) : G30 a0 a1 a2 a3 a4 a5 a6 a7 a8 a9 a10 a11 a12 a13 a14 a15 a16 a17 a18 a19 a20 a21 a22 a23 a24 a25 (ix4 1 i r k) = (rI a0 a1 a2 a3 a4 a5 a6 a7 a8 a9 a10 a11 a12 a13 a14 a15 a16 a17 a18 a19 a20 a21 a22 a23 a24 a25 i).out1 r k := by
  refine (canon_axis0 _ _ i r k).2.trans ?_
  refine half0 ?_ (rout1 a0 a1 a2 a3 a4 a5 a6 a7 a8 a9 a10 a11 a12 a13 a14 a15 a16 a17 a18 a19 a20 a21 a22 a23 a24 a25 i) r k
  unfold k0_pay34
  rfl

end C2f.R
-- ==== Proof.KIn.lean ====
/-
  What the kernel reads is what the reference reads: the arrays the host prepares, traced to the arguments.
-/
module

public import proofs.«01_k».proof.Proof.KArr
public import proofs.«01_k».proof.Proof.ROut
public import Idealize.ShloMosaic.Lib.StableHlo.RunRead

@[expose] public section

set_option maxRecDepth 16384

noncomputable section

namespace C2f

open Cert.KernelIdeal.Gen Idealize.ShloMosaic Idealize.ShloMosaic.TcCoe Cert.KernelIdeal

variable (m : (ℓ : Loc nD τ sig) → Buf (Elt Ideal) ℓ) (c : Dev nD)

/-- What the reference reads for image `b`, from the kernel's arguments. -/
def aIn (b : Fin 16) : Inp :=
  R.rI (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) (m ((c : Thread nD τ).loc main_arg20))
    (m ((c : Thread nD τ).loc main_arg21)) (m ((c : Thread nD τ).loc main_arg22)) (m ((c : Thread nD τ).loc main_arg23))
    (m ((c : Thread nD τ).loc main_arg24)) (m ((c : Thread nD τ).loc main_arg25)) b

/-! ### The prepared arrays -/

theorem V42_at (b : Fin 16) (r : Fin 960) (k : Fin 576) : V m c main_v42 (ix3 b r k) = (aIn m c b).x r k := by
  after_reads_simp
  exact R.flat_apply _ _ b r k

variable (b : Fin 16)

theorem V43_at (p : Fin 2) (k : Fin 576) (l : Fin 288) : V m c main_v43 (ix3 p k l) = (aIn m c b).wc1 p k l := by
  after_reads_simp
  pointwise
  try rfl

theorem V46_at (p : Fin 2) (l : Fin 288) : V m c main_v46 (ix2 p l) = (aIn m c b).gc1 p l := by
  after_reads_simp
  pointwise
  try rfl

theorem V47_at (l : Fin 576) : V m c main_v47 (ix2 0 l) = (aIn m c b).gc2 l := by
  after_reads_simp
  pointwise
  try rfl

theorem V48_at (l : Fin 576) : V m c main_v48 (ix2 0 l) = (aIn m c b).bc2 l := by
  after_reads_simp
  pointwise
  try rfl

theorem V51_at (l : Fin 288) : V m c main_v51 (ix2 0 l) = (aIn m c b).gs1 l := by
  after_reads_simp
  pointwise
  try rfl

theorem V52_at (l : Fin 288) : V m c main_v52 (ix2 0 l) = (aIn m c b).bs1 l := by
  after_reads_simp
  pointwise
  try rfl

theorem V53_at (l : Fin 576) : V m c main_v53 (ix2 0 l) = (aIn m c b).gs2 l := by
  after_reads_simp
  pointwise
  try rfl

theorem V54_at (l : Fin 576) : V m c main_v54 (ix2 0 l) = (aIn m c b).bs2 l := by
  after_reads_simp
  pointwise
  try rfl

theorem V27_0_at (l : Fin 288) : V m c main_v27 (ix2 0 l) = (aIn m c b).g 0 l := by
  after_reads_simp
  pointwise
  after_reads_simp
  pointwise
  try rfl

theorem V27_1_at (l : Fin 288) : V m c main_v27 (ix2 1 l) = (aIn m c b).g 1 l := by
  after_reads_simp
  pointwise
  after_reads_simp
  pointwise
  try rfl

theorem V27_2_at (l : Fin 288) : V m c main_v27 (ix2 2 l) = (aIn m c b).g 2 l := by
  after_reads_simp
  pointwise
  after_reads_simp
  pointwise
  try rfl

theorem V27_3_at (l : Fin 288) : V m c main_v27 (ix2 3 l) = (aIn m c b).g 3 l := by
  after_reads_simp
  pointwise
  after_reads_simp
  pointwise
  try rfl

theorem V40_0_at (l : Fin 288) : V m c main_v40 (ix2 0 l) = (aIn m c b).b 0 l := by
  after_reads_simp
  pointwise
  after_reads_simp
  pointwise
  try rfl

theorem V40_1_at (l : Fin 288) : V m c main_v40 (ix2 1 l) = (aIn m c b).b 1 l := by
  after_reads_simp
  pointwise
  after_reads_simp
  pointwise
  try rfl

theorem V40_2_at (l : Fin 288) : V m c main_v40 (ix2 2 l) = (aIn m c b).b 2 l := by
  after_reads_simp
  pointwise
  after_reads_simp
  pointwise
  try rfl

theorem V40_3_at (l : Fin 288) : V m c main_v40 (ix2 3 l) = (aIn m c b).b 3 l := by
  after_reads_simp
  pointwise
  after_reads_simp
  pointwise
  try rfl

theorem V41_0_at : V m c main_v41 (ix1 0) = (aIn m c b).s 0 := by
  after_reads_simp
  pointwise
  try rfl

theorem V41_1_at : V m c main_v41 (ix1 1) = (aIn m c b).s 1 := by
  after_reads_simp
  pointwise
  try rfl

theorem V41_2_at : V m c main_v41 (ix1 2) = (aIn m c b).s 2 := by
  after_reads_simp
  pointwise
  try rfl

theorem V41_3_at : V m c main_v41 (ix1 3) = (aIn m c b).s 3 := by
  after_reads_simp
  pointwise
  try rfl

theorem V41_4_at : V m c main_v41 (ix1 4) = (aIn m c b).s 4 := by
  after_reads_simp
  pointwise
  try rfl

theorem V41_5_at : V m c main_v41 (ix1 5) = (aIn m c b).s 5 := by
  after_reads_simp
  pointwise
  try rfl

theorem V41_6_at : V m c main_v41 (ix1 6) = (aIn m c b).s 6 := by
  after_reads_simp
  pointwise
  try rfl

theorem V41_7_at : V m c main_v41 (ix1 7) = (aIn m c b).s 7 := by
  after_reads_simp
  pointwise
  try rfl

/-! ### The blocks -/

theorem iblk0_at (b : Fin 16) (r : Fin 960) (k : Fin 576) :
    iblk m c 0 (pt b) (ix3 0 r k) = V m c main_v42 (ix3 b r k) := by
  have e : ((cfg0.win 0).blk (pt b)).view.emb (ix3 0 r k) = (ix3 b r k : S16x960x576.Idx) := by
    obtain ⟨e0, e1, e2⟩ := (by decide +kernel : ∀ t : Fin grid0.N, win0_0.index t (0 : Fin 3) = t.val ∧ win0_0.index t (1 : Fin 3) = 0 ∧ win0_0.index t (2 : Fin 3) = 0) (pt b)
    funext a; apply Fin.ext
    match a with
    | ⟨0, _⟩ => show win0_0.index (pt b) (0 : Fin 3) * 1 + 1 * 0 = b.val; rw [e0]; simp [pt]
    | ⟨1, _⟩ => show win0_0.index (pt b) (1 : Fin 3) * 960 + 1 * r.val = r.val; omega
    | ⟨2, _⟩ => show win0_0.index (pt b) (2 : Fin 3) * 576 + 1 * k.val = k.val; omega
  exact congrArg (V m c main_v42) e

theorem iblk1_eq : iblk m c 1 (pt b) = V m c main_v43 := by
  funext j
  have e : ((cfg0.win 1).blk (pt b)).view.emb j = j := by
    funext a; apply Fin.ext
    match a with
    | ⟨0, _⟩ => show 0 * 2 + 1 * (j 0).val = (j 0).val; omega
    | ⟨1, _⟩ => show 0 * 576 + 1 * (j 1).val = (j 1).val; omega
    | ⟨2, _⟩ => show 0 * 288 + 1 * (j 2).val = (j 2).val; omega
  exact congrArg (V m c main_v43) e

theorem iblk2_eq : iblk m c 2 (pt b) = V m c main_arg6 := by
  funext j
  have e : ((cfg0.win 2).blk (pt b)).view.emb j = j := by
    funext a; apply Fin.ext
    match a with
    | ⟨0, _⟩ => show 0 * 2 + 1 * (j 0).val = (j 0).val; omega
    | ⟨1, _⟩ => show 0 * 2592 + 1 * (j 1).val = (j 1).val; omega
    | ⟨2, _⟩ => show 0 * 288 + 1 * (j 2).val = (j 2).val; omega
  exact congrArg (V m c main_arg6) e

theorem iblk3_eq : iblk m c 3 (pt b) = V m c main_arg7 := by
  funext j
  have e : ((cfg0.win 3).blk (pt b)).view.emb j = j := by
    funext a; apply Fin.ext
    match a with
    | ⟨0, _⟩ => show 0 * 2 + 1 * (j 0).val = (j 0).val; omega
    | ⟨1, _⟩ => show 0 * 2592 + 1 * (j 1).val = (j 1).val; omega
    | ⟨2, _⟩ => show 0 * 288 + 1 * (j 2).val = (j 2).val; omega
  exact congrArg (V m c main_arg7) e

theorem iblk4_eq : iblk m c 4 (pt b) = V m c main_arg14 := by
  funext j
  have e : ((cfg0.win 4).blk (pt b)).view.emb j = j := by
    funext a; apply Fin.ext
    match a with
    | ⟨0, _⟩ => show 0 * 4 + 1 * (j 0).val = (j 0).val; omega
    | ⟨1, _⟩ => show 0 * 288 + 1 * (j 1).val = (j 1).val; omega
    | ⟨2, _⟩ => show 0 * 576 + 1 * (j 2).val = (j 2).val; omega
  exact congrArg (V m c main_arg14) e

theorem iblk5_eq : iblk m c 5 (pt b) = V m c main_arg18 := by
  funext j
  have e : ((cfg0.win 5).blk (pt b)).view.emb j = j := by
    funext a; apply Fin.ext
    match a with
    | ⟨0, _⟩ => show 0 * 576 + 1 * (j 0).val = (j 0).val; omega
    | ⟨1, _⟩ => show 0 * 288 + 1 * (j 1).val = (j 1).val; omega
  exact congrArg (V m c main_arg18) e

theorem iblk6_eq : iblk m c 6 (pt b) = V m c main_arg22 := by
  funext j
  have e : ((cfg0.win 6).blk (pt b)).view.emb j = j := by
    funext a; apply Fin.ext
    match a with
    | ⟨0, _⟩ => show 0 * 4 + 1 * (j 0).val = (j 0).val; omega
    | ⟨1, _⟩ => show 0 * 288 + 1 * (j 1).val = (j 1).val; omega
    | ⟨2, _⟩ => show 0 * 576 + 1 * (j 2).val = (j 2).val; omega
  exact congrArg (V m c main_arg22) e

theorem iblk7_eq : iblk m c 7 (pt b) = V m c main_v46 := by
  funext j
  have e : ((cfg0.win 7).blk (pt b)).view.emb j = j := by
    funext a; apply Fin.ext
    match a with
    | ⟨0, _⟩ => show 0 * 2 + 1 * (j 0).val = (j 0).val; omega
    | ⟨1, _⟩ => show 0 * 288 + 1 * (j 1).val = (j 1).val; omega
  exact congrArg (V m c main_v46) e

theorem iblk8_eq : iblk m c 8 (pt b) = V m c main_arg4 := by
  funext j
  have e : ((cfg0.win 8).blk (pt b)).view.emb j = j := by
    funext a; apply Fin.ext
    match a with
    | ⟨0, _⟩ => show 0 * 2 + 1 * (j 0).val = (j 0).val; omega
    | ⟨1, _⟩ => show 0 * 288 + 1 * (j 1).val = (j 1).val; omega
  exact congrArg (V m c main_arg4) e

theorem iblk9_eq : iblk m c 9 (pt b) = V m c main_v27 := by
  funext j
  have e : ((cfg0.win 9).blk (pt b)).view.emb j = j := by
    funext a; apply Fin.ext
    match a with
    | ⟨0, _⟩ => show 0 * 4 + 1 * (j 0).val = (j 0).val; omega
    | ⟨1, _⟩ => show 0 * 288 + 1 * (j 1).val = (j 1).val; omega
  exact congrArg (V m c main_v27) e

theorem iblk10_eq : iblk m c 10 (pt b) = V m c main_v40 := by
  funext j
  have e : ((cfg0.win 10).blk (pt b)).view.emb j = j := by
    funext a; apply Fin.ext
    match a with
    | ⟨0, _⟩ => show 0 * 4 + 1 * (j 0).val = (j 0).val; omega
    | ⟨1, _⟩ => show 0 * 288 + 1 * (j 1).val = (j 1).val; omega
  exact congrArg (V m c main_v40) e

theorem iblk11_eq : iblk m c 11 (pt b) = V m c main_v47 := by
  funext j
  have e : ((cfg0.win 11).blk (pt b)).view.emb j = j := by
    funext a; apply Fin.ext
    match a with
    | ⟨0, _⟩ => show 0 * 1 + 1 * (j 0).val = (j 0).val; omega
    | ⟨1, _⟩ => show 0 * 576 + 1 * (j 1).val = (j 1).val; omega
  exact congrArg (V m c main_v47) e

theorem iblk12_eq : iblk m c 12 (pt b) = V m c main_v48 := by
  funext j
  have e : ((cfg0.win 12).blk (pt b)).view.emb j = j := by
    funext a; apply Fin.ext
    match a with
    | ⟨0, _⟩ => show 0 * 1 + 1 * (j 0).val = (j 0).val; omega
    | ⟨1, _⟩ => show 0 * 576 + 1 * (j 1).val = (j 1).val; omega
  exact congrArg (V m c main_v48) e

theorem iblk13_eq : iblk m c 13 (pt b) = V m c main_v51 := by
  funext j
  have e : ((cfg0.win 13).blk (pt b)).view.emb j = j := by
    funext a; apply Fin.ext
    match a with
    | ⟨0, _⟩ => show 0 * 1 + 1 * (j 0).val = (j 0).val; omega
    | ⟨1, _⟩ => show 0 * 288 + 1 * (j 1).val = (j 1).val; omega
  exact congrArg (V m c main_v51) e

theorem iblk14_eq : iblk m c 14 (pt b) = V m c main_v52 := by
  funext j
  have e : ((cfg0.win 14).blk (pt b)).view.emb j = j := by
    funext a; apply Fin.ext
    match a with
    | ⟨0, _⟩ => show 0 * 1 + 1 * (j 0).val = (j 0).val; omega
    | ⟨1, _⟩ => show 0 * 288 + 1 * (j 1).val = (j 1).val; omega
  exact congrArg (V m c main_v52) e

theorem iblk15_eq : iblk m c 15 (pt b) = V m c main_v53 := by
  funext j
  have e : ((cfg0.win 15).blk (pt b)).view.emb j = j := by
    funext a; apply Fin.ext
    match a with
    | ⟨0, _⟩ => show 0 * 1 + 1 * (j 0).val = (j 0).val; omega
    | ⟨1, _⟩ => show 0 * 576 + 1 * (j 1).val = (j 1).val; omega
  exact congrArg (V m c main_v53) e

theorem iblk16_eq : iblk m c 16 (pt b) = V m c main_v54 := by
  funext j
  have e : ((cfg0.win 16).blk (pt b)).view.emb j = j := by
    funext a; apply Fin.ext
    match a with
    | ⟨0, _⟩ => show 0 * 1 + 1 * (j 0).val = (j 0).val; omega
    | ⟨1, _⟩ => show 0 * 576 + 1 * (j 1).val = (j 1).val; omega
  exact congrArg (V m c main_v54) e

theorem iblk17_eq : iblk m c 17 (pt b) = V m c main_v41 := by
  funext j
  have e : ((cfg0.win 17).blk (pt b)).view.emb j = j := by
    funext a; apply Fin.ext
    match a with
    | ⟨0, _⟩ => show 0 * 8 + 1 * (j 0).val = (j 0).val; omega
  exact congrArg (V m c main_v41) e

/-! ### Field by field -/

theorem x_eq : (kIn m c b).x = (aIn m c b).x := by
  funext r k
  exact (iblk0_at m c b r k).trans (V42_at m c b r k)

theorem wc1_eq : (kIn m c b).wc1 = (aIn m c b).wc1 := by
  funext p k l
  exact (congrFun (iblk1_eq m c b) (ix3 p k l)).trans (V43_at m c b p k l)

theorem gc1_eq : (kIn m c b).gc1 = (aIn m c b).gc1 := by
  funext p l
  exact (congrFun (iblk7_eq m c b) (ix2 p l)).trans (V46_at m c b p l)

theorem bc1_eq : (kIn m c b).bc1 = (aIn m c b).bc1 := by
  funext p l
  exact (congrFun (iblk8_eq m c b) (ix2 p l)).trans (congrFun (V_main_arg4 m c) (ix2 p l))

theorem w1_eq : (kIn m c b).w1 = (aIn m c b).w1 := by
  funext p k l
  exact (congrFun (iblk2_eq m c b) (ix3 p k l)).trans (congrFun (V_main_arg6 m c) (ix3 p k l))

theorem w2_eq : (kIn m c b).w2 = (aIn m c b).w2 := by
  funext p k l
  exact (congrFun (iblk3_eq m c b) (ix3 p k l)).trans (congrFun (V_main_arg7 m c) (ix3 p k l))

theorem wc2_eq : (kIn m c b).wc2 = (aIn m c b).wc2 := by
  funext p k l
  exact (congrFun (iblk4_eq m c b) (ix3 p k l)).trans (congrFun (V_main_arg14 m c) (ix3 p k l))

theorem ws1_eq : (kIn m c b).ws1 = (aIn m c b).ws1 := by
  funext p l
  exact (congrFun (iblk5_eq m c b) (ix2 p l)).trans (congrFun (V_main_arg18 m c) (ix2 p l))

theorem ws2_eq : (kIn m c b).ws2 = (aIn m c b).ws2 := by
  funext p k l
  exact (congrFun (iblk6_eq m c b) (ix3 p k l)).trans (congrFun (V_main_arg22 m c) (ix3 p k l))

theorem gc2_eq : (kIn m c b).gc2 = (aIn m c b).gc2 := by
  funext l
  exact (congrFun (iblk11_eq m c b) (ix2 0 l)).trans (V47_at m c b l)

theorem bc2_eq : (kIn m c b).bc2 = (aIn m c b).bc2 := by
  funext l
  exact (congrFun (iblk12_eq m c b) (ix2 0 l)).trans (V48_at m c b l)

theorem gs1_eq : (kIn m c b).gs1 = (aIn m c b).gs1 := by
  funext l
  exact (congrFun (iblk13_eq m c b) (ix2 0 l)).trans (V51_at m c b l)

theorem bs1_eq : (kIn m c b).bs1 = (aIn m c b).bs1 := by
  funext l
  exact (congrFun (iblk14_eq m c b) (ix2 0 l)).trans (V52_at m c b l)

theorem gs2_eq : (kIn m c b).gs2 = (aIn m c b).gs2 := by
  funext l
  exact (congrFun (iblk15_eq m c b) (ix2 0 l)).trans (V53_at m c b l)

theorem bs2_eq : (kIn m c b).bs2 = (aIn m c b).bs2 := by
  funext l
  exact (congrFun (iblk16_eq m c b) (ix2 0 l)).trans (V54_at m c b l)

theorem g_eq : (kIn m c b).g = (aIn m c b).g := by
  funext q l
  refine (congrFun (iblk9_eq m c b) (ix2 q l)).trans ?_
  match q with
  | 0 => exact V27_0_at m c b l
  | 1 => exact V27_1_at m c b l
  | 2 => exact V27_2_at m c b l
  | 3 => exact V27_3_at m c b l

theorem b_eq : (kIn m c b).b = (aIn m c b).b := by
  funext q l
  refine (congrFun (iblk10_eq m c b) (ix2 q l)).trans ?_
  match q with
  | 0 => exact V40_0_at m c b l
  | 1 => exact V40_1_at m c b l
  | 2 => exact V40_2_at m c b l
  | 3 => exact V40_3_at m c b l

theorem s_eq : (kIn m c b).s = (aIn m c b).s := by
  funext q
  refine (congrFun (iblk17_eq m c b) (ix1 q)).trans ?_
  match q with
  | 0 => exact V41_0_at m c b
  | 1 => exact V41_1_at m c b
  | 2 => exact V41_2_at m c b
  | 3 => exact V41_3_at m c b
  | 4 => exact V41_4_at m c b
  | 5 => exact V41_5_at m c b
  | 6 => exact V41_6_at m c b
  | 7 => exact V41_7_at m c b

/-- What the kernel reads for an image is what the reference reads for it. -/
theorem kIn_eq : kIn m c b = aIn m c b :=
  Inp.ext (x_eq m c b) (wc1_eq m c b) (gc1_eq m c b) (bc1_eq m c b) (w1_eq m c b) (w2_eq m c b) (g_eq m c b) (b_eq m c b) (wc2_eq m c b) (gc2_eq m c b) (bc2_eq m c b) (ws1_eq m c b) (gs1_eq m c b) (bs1_eq m c b) (ws2_eq m c b) (gs2_eq m c b) (bs2_eq m c b) (s_eq m c b)

end C2f
-- ==== Proof.Alg.lean ====
/-
  The two programs compute the same results: the kernel's eight arrays are the reference's.
-/
module

public import proofs.«01_k».proof.Defs
public import proofs.«01_k».proof.Proof.KIn
public import proofs.«01_k».proof.Proof.RI.Value

@[expose] public section

set_option maxRecDepth 16384

noncomputable section

namespace C2f

open Idealize.ShloMosaic Idealize.ShloMosaic.TcCoe Idealize.SL.Sem

section

open Cert.KernelIdeal.Gen Cert.KernelIdeal Cert.ReferenceIdeal.Value

variable (m : (ℓ : Loc nD τ sig) → Buf (Elt Ideal) ℓ) (c : Dev nD)

/-! ### Indices by their coordinates -/

theorem eta3 {n0 n1 n2 : ℕ} (j : (⟨3, ![n0, n1, n2]⟩ : Shape).Idx) : ∃ (a : Fin n0) (b : Fin n1) (d : Fin n2), j = ix3 a b d := by
  refine ⟨j 0, j 1, j 2, ?_⟩
  funext a
  match a with
  | ⟨0, _⟩ => rfl
  | ⟨1, _⟩ => rfl
  | ⟨2, _⟩ => rfl

theorem eta4 {n0 n1 n2 n3 : ℕ} (j : (⟨4, ![n0, n1, n2, n3]⟩ : Shape).Idx) :
    ∃ (a : Fin n0) (b : Fin n1) (d : Fin n2) (e : Fin n3), j = ix4 a b d e := by
  refine ⟨j 0, j 1, j 2, j 3, ?_⟩
  funext a
  match a with
  | ⟨0, _⟩ => rfl
  | ⟨1, _⟩ => rfl
  | ⟨2, _⟩ => rfl
  | ⟨3, _⟩ => rfl

/-! ### Array by array -/

theorem res18 : G26 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) (m ((c : Thread nD τ).loc main_arg25))
    = (dats m 0 c).arrAt 18 cfg0.N := by
  funext j
  obtain ⟨b, r, k, rfl⟩ := eta3 j
  refine Eq.trans ?_ (arr18_at m c b r k).symm
  rw [kIn_eq]
  exact R.G26_at _ _ _ _ _ _ _ _ _ _ _ _ _ _ _ _ _ _ _ _ _ _ _ _ _ _ b r k

theorem res19 : G27 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) (m ((c : Thread nD τ).loc main_arg25))
    = (dats m 0 c).arrAt 19 cfg0.N := by
  funext j
  obtain ⟨b, r, k, rfl⟩ := eta3 j
  refine Eq.trans ?_ (arr19_at m c b r k).symm
  rw [kIn_eq]
  exact R.G27_at _ _ _ _ _ _ _ _ _ _ _ _ _ _ _ _ _ _ _ _ _ _ _ _ _ _ b r k

theorem res23 : G31 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) (m ((c : Thread nD τ).loc main_arg25))
    = (dats m 0 c).arrAt 23 cfg0.N := by
  funext j
  obtain ⟨b, r, k, rfl⟩ := eta3 j
  refine Eq.trans ?_ (arr23_at m c b r k).symm
  rw [kIn_eq]
  exact R.G31_at _ _ _ _ _ _ _ _ _ _ _ _ _ _ _ _ _ _ _ _ _ _ _ _ _ _ b r k

theorem res24 : G32 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) (m ((c : Thread nD τ).loc main_arg25))
    = (dats m 0 c).arrAt 24 cfg0.N := by
  funext j
  obtain ⟨b, r, k, rfl⟩ := eta3 j
  refine Eq.trans ?_ (arr24_at m c b r k).symm
  rw [kIn_eq]
  exact R.G32_at _ _ _ _ _ _ _ _ _ _ _ _ _ _ _ _ _ _ _ _ _ _ _ _ _ _ b r k

theorem res25 : G33 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) (m ((c : Thread nD τ).loc main_arg25))
    = (dats m 0 c).arrAt 25 cfg0.N := by
  funext j
  obtain ⟨b, r, k, rfl⟩ := eta3 j
  refine Eq.trans ?_ (arr25_at m c b r k).symm
  rw [kIn_eq]
  exact R.G33_at _ _ _ _ _ _ _ _ _ _ _ _ _ _ _ _ _ _ _ _ _ _ _ _ _ _ b r k

theorem res20 : G28 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) (m ((c : Thread nD τ).loc main_arg25))
    = (dats m 0 c).arrAt 20 cfg0.N := by
  funext j
  obtain ⟨b, p, r, k, rfl⟩ := eta4 j
  match p with
  | 0 =>
    refine Eq.trans ?_ (arr20_0_at m c b r k).symm
    rw [kIn_eq]
    exact R.G28_0_at _ _ _ _ _ _ _ _ _ _ _ _ _ _ _ _ _ _ _ _ _ _ _ _ _ _ b r k
  | 1 =>
    refine Eq.trans ?_ (arr20_1_at m c b r k).symm
    rw [kIn_eq]
    exact R.G28_1_at _ _ _ _ _ _ _ _ _ _ _ _ _ _ _ _ _ _ _ _ _ _ _ _ _ _ b r k

theorem res21 : G29 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) (m ((c : Thread nD τ).loc main_arg25))
    = (dats m 0 c).arrAt 21 cfg0.N := by
  funext j
  obtain ⟨p, b, r, k, rfl⟩ := eta4 j
  match p with
  | 0 =>
    refine Eq.trans ?_ (arr21_0_at m c b r k).symm
    rw [kIn_eq]
    exact R.G29_0_at _ _ _ _ _ _ _ _ _ _ _ _ _ _ _ _ _ _ _ _ _ _ _ _ _ _ b r k
  | 1 =>
    refine Eq.trans ?_ (arr21_1_at m c b r k).symm
    rw [kIn_eq]
    exact R.G29_1_at _ _ _ _ _ _ _ _ _ _ _ _ _ _ _ _ _ _ _ _ _ _ _ _ _ _ b r k

theorem res22 : G30 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) (m ((c : Thread nD τ).loc main_arg25))
    = (dats m 0 c).arrAt 22 cfg0.N := by
  funext j
  obtain ⟨p, b, r, k, rfl⟩ := eta4 j
  match p with
  | 0 =>
    refine Eq.trans ?_ (arr22_0_at m c b r k).symm
    rw [kIn_eq]
    exact R.G30_0_at _ _ _ _ _ _ _ _ _ _ _ _ _ _ _ _ _ _ _ _ _ _ _ _ _ _ b r k
  | 1 =>
    refine Eq.trans ?_ (arr22_1_at m c b r k).symm
    rw [kIn_eq]
    exact R.G30_1_at _ _ _ _ _ _ _ _ _ _ _ _ _ _ _ _ _ _ _ _ _ _ _ _ _ _ b r k

end

set_option maxHeartbeats 4000000 in
/-- Every result of the kernel is the reference's. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => (Cert.KernelIdeal.Gen.dats m 0 c).arrAt 18 Cert.KernelIdeal.cfg0.N, fun c => (Cert.KernelIdeal.Gen.dats m 0 c).arrAt 19 Cert.KernelIdeal.cfg0.N, fun c => (Cert.KernelIdeal.Gen.dats m 0 c).arrAt 20 Cert.KernelIdeal.cfg0.N, fun c => (Cert.KernelIdeal.Gen.dats m 0 c).arrAt 21 Cert.KernelIdeal.cfg0.N, fun c => (Cert.KernelIdeal.Gen.dats m 0 c).arrAt 22 Cert.KernelIdeal.cfg0.N, fun c => (Cert.KernelIdeal.Gen.dats m 0 c).arrAt 23 Cert.KernelIdeal.cfg0.N, fun c => (Cert.KernelIdeal.Gen.dats m 0 c).arrAt 24 Cert.KernelIdeal.cfg0.N, fun c => (Cert.KernelIdeal.Gen.dats m 0 c).arrAt 25 Cert.KernelIdeal.cfg0.N,
    Cert.KernelIdeal.Value.run_blocks m g, ?_⟩
  refine (θ_run _ _ _).mono (fun r h c => ?_) (Cert.ReferenceIdeal.Value.run m' g')
  obtain ⟨r0, r1, r2, r3, r4, r5, r6, r7, kept⟩ := h c
  obtain ⟨e0, e1, e2, e3, e4, e5, e6, e7, e8, e9, e10, e11, e12, e13, e14, e15, e16, e17, e18, e19, e20, e21, e22, e23, e24, e25⟩ := hm c
  refine ⟨r0.trans ?_, r1.trans ?_, r2.trans ?_, r3.trans ?_, r4.trans ?_, r5.trans ?_, r6.trans ?_, r7.trans ?_, kept⟩
  · rw [e0, e1, e2, e3, e4, e5, e6, e7, e8, e9, e10, e11, e12, e13, e14, e15, e16, e17, e18, e19, e20, e21, e22, e23, e24, e25]
    exact res18 m c
  · rw [e0, e1, e2, e3, e4, e5, e6, e7, e8, e9, e10, e11, e12, e13, e14, e15, e16, e17, e18, e19, e20, e21, e22, e23, e24, e25]
    exact res19 m c
  · rw [e0, e1, e2, e3, e4, e5, e6, e7, e8, e9, e10, e11, e12, e13, e14, e15, e16, e17, e18, e19, e20, e21, e22, e23, e24, e25]
    exact res20 m c
  · rw [e0, e1, e2, e3, e4, e5, e6, e7, e8, e9, e10, e11, e12, e13, e14, e15, e16, e17, e18, e19, e20, e21, e22, e23, e24, e25]
    exact res21 m c
  · rw [e0, e1, e2, e3, e4, e5, e6, e7, e8, e9, e10, e11, e12, e13, e14, e15, e16, e17, e18, e19, e20, e21, e22, e23, e24, e25]
    exact res22 m c
  · rw [e0, e1, e2, e3, e4, e5, e6, e7, e8, e9, e10, e11, e12, e13, e14, e15, e16, e17, e18, e19, e20, e21, e22, e23, e24, e25]
    exact res23 m c
  · rw [e0, e1, e2, e3, e4, e5, e6, e7, e8, e9, e10, e11, e12, e13, e14, e15, e16, e17, e18, e19, e20, e21, e22, e23, e24, e25]
    exact res24 m c
  · rw [e0, e1, e2, e3, e4, e5, e6, e7, e8, e9, e10, e11, e12, e13, e14, e15, e16, e17, e18, e19, e20, e21, e22, e23, e24, e25]
    exact res25 m c

end C2f
-- ==== Proof.lean ====
/- The assembly of the claims of this directory. -/
module

public import proofs.«01_k».proof.Defs
public import proofs.«01_k».proof.Proof.K.Frame
public import proofs.«01_k».proof.Proof.KI.Value
public import proofs.«01_k».proof.Proof.RI.Value
public import proofs.«01_k».proof.Proof.Alg
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, C2f.algebraic⟩

end Cert.Proof

end
